-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_windows [hPre_in_windows : Cert.Pre_in_windows.Facts] (m : (ℓ : Loc Cert.KernelIdeal.nD Cert.KernelIdeal.τ Cert.KernelIdeal.sig) → Buf (Elt Ideal) ℓ) : Prop :=
  ∀ c : Dev Cert.KernelIdeal.nD,
    (Cert.Pre_in_windows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_windows [hPre_in_windows : Cert.Pre_in_windows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_windows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_windows [hKernelIdeal : Cert.KernelIdeal.Facts] [hPre_in_windows : Cert.Pre_in_windows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_windows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_windows [hReferenceIdeal : Cert.ReferenceIdeal.Facts] [hPre_in_windows : Cert.Pre_in_windows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_windows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_windows [hKernelIdeal : Cert.KernelIdeal.Facts] [hReferenceIdeal : Cert.ReferenceIdeal.Facts] [hPre_in_windows : Cert.Pre_in_windows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_windows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_windows : Cert.Pre_in_windows.Facts),
    quiescent_Kernel (hKernel := hKernel)
    ∧ quiescent_KernelIdeal (hKernelIdeal := hKernelIdeal)
    ∧ quiescent_KernelIdeal_pre_in_windows (hKernelIdeal := hKernelIdeal) (hPre_in_windows := hPre_in_windows)
    ∧ quiescent_ReferenceIdeal (hReferenceIdeal := hReferenceIdeal)
    ∧ quiescent_ReferenceIdeal_pre_in_windows (hReferenceIdeal := hReferenceIdeal) (hPre_in_windows := hPre_in_windows)
    ∧ preserves_Kernel_KernelIdeal
    ∧ algebraic_KernelIdeal_ReferenceIdeal_pre_in_windows (hKernelIdeal := hKernelIdeal) (hReferenceIdeal := hReferenceIdeal) (hPre_in_windows := hPre_in_windows)
-- ==== Pre_in_windows.lean ====
abbrev S4x96x192x192 : Shape := ⟨4, ![4, 96, 192, 192]⟩
abbrev S_ : Shape := ⟨0, ![]⟩

class Facts : Prop where
  bcast_S_S4x96x192x192 : S_.BroadcastsInDim S4x96x192x192 (![] : Fin 0 → Fin S4x96x192x192.rank)
  reducesTo_S4x96x192x192_S_d0_1_2_3 : S4x96x192x192.ReducesTo [0, 1, 2, 3] S_
  h_S_ : 0 < S_.numel

variable [Facts]

def fn_part1 {F : FTy → Type} [FloatOps F] (main_arg1 : IVec S4x96x192x192 32) (main_v8 : IVec S4x96x192x192 32) (main_v17 : IVec S4x96x192x192 1) (main_c_4 : IVec S_ 32) : IVec S_ 1 :=
  let main_v18 : IVec S4x96x192x192 32 := broadcastInDim S4x96x192x192 ![] bcast_S_S4x96x192x192 main_c_4
  let main_v19 : IVec S4x96x192x192 32 := addi main_v8 main_v18
  let main_v20 : IVec S4x96x192x192 1 := cmpi .eq main_arg1 main_v19
  let main_v21 : IVec S4x96x192x192 1 := ori main_v17 main_v20
  let main_c_5 : IVec S_ 1 := constantI S_ 1 1#1
  let main_v22 : IVec S_ 1 := (fun x v => Host.reduce IntOp.andi x v reducesTo_S4x96x192x192_S_d0_1_2_3 h_S_) main_v21 main_c_5
  main_v22

def fn {F : FTy → Type} [FloatOps F] (main_arg0 : FVec F S4x96x192x192 .f32) (main_arg1 : IVec S4x96x192x192 32) : IVec S_ 1 :=
  let main_v0 : IVec S4x96x192x192 32 := iotaInDim S4x96x192x192 32 2
  let main_v1 : IVec S4x96x192x192 32 := iotaInDim S4x96x192x192 32 3
  let main_c : IVec S_ 32 := constantI S_ 32 2#32
  let main_v2 : IVec S4x96x192x192 32 := broadcastInDim S4x96x192x192 ![] bcast_S_S4x96x192x192 main_c
  let main_v3 : IVec S4x96x192x192 32 := muli main_v2 main_v0
  let main_c_0 : IVec S_ 32 := constantI S_ 32 384#32
  let main_v4 : IVec S4x96x192x192 32 := broadcastInDim S4x96x192x192 ![] bcast_S_S4x96x192x192 main_c_0
  let main_v5 : IVec S4x96x192x192 32 := muli main_v3 main_v4
  let main_c_1 : IVec S_ 32 := constantI S_ 32 2#32
  let main_v6 : IVec S4x96x192x192 32 := broadcastInDim S4x96x192x192 ![] bcast_S_S4x96x192x192 main_c_1
  let main_v7 : IVec S4x96x192x192 32 := muli main_v6 main_v1
  let main_v8 : IVec S4x96x192x192 32 := addi main_v5 main_v7
  let main_v9 : IVec S4x96x192x192 1 := cmpi .eq main_arg1 main_v8
  let main_c_2 : IVec S_ 32 := constantI S_ 32 1#32
  let main_v10 : IVec S4x96x192x192 32 := broadcastInDim S4x96x192x192 ![] bcast_S_S4x96x192x192 main_c_2
  let main_v11 : IVec S4x96x192x192 32 := addi main_v8 main_v10
  let main_v12 : IVec S4x96x192x192 1 := cmpi .eq main_arg1 main_v11
  let main_v13 : IVec S4x96x192x192 1 := ori main_v9 main_v12
  let main_c_3 : IVec S_ 32 := constantI S_ 32 384#32
  let main_v14 : IVec S4x96x192x192 32 := broadcastInDim S4x96x192x192 ![] bcast_S_S4x96x192x192 main_c_3
  let main_v15 : IVec S4x96x192x192 32 := addi main_v8 main_v14
  let main_v16 : IVec S4x96x192x192 1 := cmpi .eq main_arg1 main_v15
  let main_v17 : IVec S4x96x192x192 1 := ori main_v13 main_v16
  let main_c_4 : IVec S_ 32 := constantI S_ 32 385#32
  fn_part1 (F := F) main_arg1 main_v8 main_v17 main_c_4
-- ==== Kernel.lean ====
abbrev S4x96x192x192 : Shape := ⟨4, ![4, 96, 192, 192]⟩
abbrev S384x192x192 : Shape := ⟨3, ![384, 192, 192]⟩
abbrev S384x384x384 : Shape := ⟨3, ![384, 384, 384]⟩
abbrev S48x192 : Shape := ⟨2, ![48, 192]⟩
abbrev S96x384 : Shape := ⟨2, ![96, 384]⟩
abbrev S_ : Shape := ⟨0, ![]⟩
abbrev S16 : Shape := ⟨1, ![16]⟩
abbrev S1x48x192 : Shape := ⟨3, ![1, 48, 192]⟩
abbrev S1x16 : Shape := ⟨2, ![1, 16]⟩
abbrev S1x96x384 : Shape := ⟨3, ![1, 96, 384]⟩
abbrev S4x96x384x384 : Shape := ⟨4, ![4, 96, 384, 384]⟩

abbrev nBuf : Table → Nat
  | .hbm => 6
  | .local .scVector .vmem => 6
  | _ => 0

abbrev bufTy : (tb : Table) → Fin (nBuf tb) → BufTy
  | .hbm, ⟨0, _⟩ => ⟨S4x96x192x192, .f32⟩
  | .hbm, ⟨1, _⟩ => ⟨S4x96x192x192, .i32⟩
  | .hbm, ⟨2, _⟩ => ⟨S384x192x192, .f32⟩
  | .hbm, ⟨3, _⟩ => ⟨S384x192x192, .i32⟩
  | .hbm, ⟨4, _⟩ => ⟨S384x384x384, .f32⟩
  | .hbm, ⟨5, _⟩ => ⟨S4x96x384x384, .f32⟩
  | .local .scVector .vmem, ⟨0, _⟩ => ⟨S48x192, .f32⟩
  | .local .scVector .vmem, ⟨1, _⟩ => ⟨S48x192, .f32⟩
  | .local .scVector .vmem, ⟨2, _⟩ => ⟨S48x192, .i32⟩
  | .local .scVector .vmem, ⟨3, _⟩ => ⟨S48x192, .i32⟩
  | .local .scVector .vmem, ⟨4, _⟩ => ⟨S96x384, .f32⟩
  | .local .scVector .vmem, ⟨5, _⟩ => ⟨S96x384, .f32⟩
  | _, _ => ⟨S4x96x192x192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c0_i32 : BitVec 32 := 0#32
  let v4 : BitVec 32 := Scalar.addi v2 c0_i32
  let c0_i32_0 : BitVec 32 := 0#32
  let c0_i32_1 : BitVec 32 := 0#32
  ![v4.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c0_i32_8 : BitVec 32 := 0#32
  let v13 : BitVec 32 := Scalar.addi v2 c0_i32_8
  let c48_i32 : BitVec 32 := 48#32
  let c0_i32_9 : BitVec 32 := 0#32
  ![v13.toNat, 48, 0]
@[reducible] def k0_t1_loop : Scf.Loop 32 :=
  let c0_i32_26 : BitVec 32 := 0#32
  let c48_i32_27 : BitVec 32 := 48#32
  let v33 : BitVec 32 := Scalar.addi c0_i32_26 c48_i32_27
  let c1_i32 : BitVec 32 := 1#32
  ⟨c0_i32_26, v33, c1_i32⟩
def k0_off3 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v143 : Index := Scalar.indexCast v130
  let c0 : Index := 0#32
  ![v143.toNat, 0]

def k0_chk1 (v134 : IVec S16 32) (v136 : IVec S16 32) (v140 : IVec S16 32) : Prop :=
  (∀ a x, ((![v134, v140] : Fin 2 → IVec S16 32) a x).toNat < S96x384.size a) ∧
  (∀ a x, ((![v136, v140] : Fin 2 → IVec S16 32) a x).toNat < S96x384.size a)
theorem k0_idx1_inb : ∀ (v134 : IVec S16 32) (v136 : IVec S16 32) (v140 : IVec S16 32) (k0_hw1 : k0_chk1 v134 v136 v140), ∀ a x, ((![v134, v140] : Fin 2 → IVec S16 32) a x).toNat < S96x384.size a := fun v134 v136 v140 k0_hw1 => k0_hw1.1
theorem k0_idx3_inb : ∀ (v134 : IVec S16 32) (v136 : IVec S16 32) (v140 : IVec S16 32) (k0_hw1 : k0_chk1 v134 v136 v140), ∀ a x, ((![v136, v140] : Fin 2 → IVec S16 32) a x).toNat < S96x384.size a := fun v134 v136 v140 k0_hw1 => k0_hw1.2

def k0_chk2 (v134 : IVec S16 32) (v136 : IVec S16 32) (v142 : IVec S16 32) : Prop :=
  (∀ a x, ((![v134, v142] : Fin 2 → IVec S16 32) a x).toNat < S96x384.size a) ∧
  (∀ a x, ((![v136, v142] : Fin 2 → IVec S16 32) a x).toNat < S96x384.size a)
theorem k0_idx2_inb : ∀ (v134 : IVec S16 32) (v136 : IVec S16 32) (v142 : IVec S16 32) (k0_hw2 : k0_chk2 v134 v136 v142), ∀ a x, ((![v134, v142] : Fin 2 → IVec S16 32) a x).toNat < S96x384.size a := fun v134 v136 v142 k0_hw2 => k0_hw2.1
theorem k0_idx4_inb : ∀ (v134 : IVec S16 32) (v136 : IVec S16 32) (v142 : IVec S16 32) (k0_hw2 : k0_chk2 v134 v136 v142), ∀ a x, ((![v136, v142] : Fin 2 → IVec S16 32) a x).toNat < S96x384.size a := fun v134 v136 v142 k0_hw2 => k0_hw2.2
def k0_off4 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v173 : Index := Scalar.indexCast v130
  let c16 : Index := 16#32
  ![v173.toNat, 16]

def k0_chk3 (v134 : IVec S16 32) (v136 : IVec S16 32) (v170 : IVec S16 32) : Prop :=
  (∀ a x, ((![v134, v170] : Fin 2 → IVec S16 32) a x).toNat < S96x384.size a) ∧
  (∀ a x, ((![v136, v170] : Fin 2 → IVec S16 32) a x).toNat < S96x384.size a)
theorem k0_idx5_inb : ∀ (v134 : IVec S16 32) (v136 : IVec S16 32) (v170 : IVec S16 32) (k0_hw3 : k0_chk3 v134 v136 v170), ∀ a x, ((![v134, v170] : Fin 2 → IVec S16 32) a x).toNat < S96x384.size a := fun v134 v136 v170 k0_hw3 => k0_hw3.1
theorem k0_idx7_inb : ∀ (v134 : IVec S16 32) (v136 : IVec S16 32) (v170 : IVec S16 32) (k0_hw3 : k0_chk3 v134 v136 v170), ∀ a x, ((![v136, v170] : Fin 2 → IVec S16 32) a x).toNat < S96x384.size a := fun v134 v136 v170 k0_hw3 => k0_hw3.2

def k0_chk4 (v134 : IVec S16 32) (v136 : IVec S16 32) (v172 : IVec S16 32) : Prop :=
  (∀ a x, ((![v134, v172] : Fin 2 → IVec S16 32) a x).toNat < S96x384.size a) ∧
  (∀ a x, ((![v136, v172] : Fin 2 → IVec S16 32) a x).toNat < S96x384.size a)
theorem k0_idx6_inb : ∀ (v134 : IVec S16 32) (v136 : IVec S16 32) (v172 : IVec S16 32) (k0_hw4 : k0_chk4 v134 v136 v172), ∀ a x, ((![v134, v172] : Fin 2 → IVec S16 32) a x).toNat < S96x384.size a := fun v134 v136 v172 k0_hw4 => k0_hw4.1
theorem k0_idx8_inb : ∀ (v134 : IVec S16 32) (v136 : IVec S16 32) (v172 : IVec S16 32) (k0_hw4 : k0_chk4 v134 v136 v172), ∀ a x, ((![v136, v172] : Fin 2 → IVec S16 32) a x).toNat < S96x384.size a := fun v134 v136 v172 k0_hw4 => k0_hw4.2
def k0_off5 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v203 : Index := Scalar.indexCast v130
  let c32 : Index := 32#32
  ![v203.toNat, 32]

def k0_chk5 (v134 : IVec S16 32) (v136 : IVec S16 32) (v200 : IVec S16 32) : Prop :=
  (∀ a x, ((![v134, v200] : Fin 2 → IVec S16 32) a x).toNat < S96x384.size a) ∧
  (∀ a x, ((![v136, v200] : Fin 2 → IVec S16 32) a x).toNat < S96x384.size a)
theorem k0_idx9_inb : ∀ (v134 : IVec S16 32) (v136 : IVec S16 32) (v200 : IVec S16 32) (k0_hw5 : k0_chk5 v134 v136 v200), ∀ a x, ((![v134, v200] : Fin 2 → IVec S16 32) a x).toNat < S96x384.size a := fun v134 v136 v200 k0_hw5 => k0_hw5.1
theorem k0_idx11_inb : ∀ (v134 : IVec S16 32) (v136 : IVec S16 32) (v200 : IVec S16 32) (k0_hw5 : k0_chk5 v134 v136 v200), ∀ a x, ((![v136, v200] : Fin 2 → IVec S16 32) a x).toNat < S96x384.size a := fun v134 v136 v200 k0_hw5 => k0_hw5.2

def k0_chk6 (v134 : IVec S16 32) (v136 : IVec S16 32) (v202 : IVec S16 32) : Prop :=
  (∀ a x, ((![v134, v202] : Fin 2 → IVec S16 32) a x).toNat < S96x384.size a) ∧
  (∀ a x, ((![v136, v202] : Fin 2 → IVec S16 32) a x).toNat < S96x384.size a)
theorem k0_idx10_inb : ∀ (v134 : IVec S16 32) (v136 : IVec S16 32) (v202 : IVec S16 32) (k0_hw6 : k0_chk6 v134 v136 v202), ∀ a x, ((![v134, v202] : Fin 2 → IVec S16 32) a x).toNat < S96x384.size a := fun v134 v136 v202 k0_hw6 => k0_hw6.1
theorem k0_idx12_inb : ∀ (v134 : IVec S16 32) (v136 : IVec S16 32) (v202 : IVec S16 32) (k0_hw6 : k0_chk6 v134 v136 v202), ∀ a x, ((![v136, v202] : Fin 2 → IVec S16 32) a x).toNat < S96x384.size a := fun v134 v136 v202 k0_hw6 => k0_hw6.2
def k0_off6 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v233 : Index := Scalar.indexCast v130
  let c48 : Index := 48#32
  ![v233.toNat, 48]

def k0_chk7 (v134 : IVec S16 32) (v136 : IVec S16 32) (v230 : IVec S16 32) : Prop :=
  (∀ a x, ((![v134, v230] : Fin 2 → IVec S16 32) a x).toNat < S96x384.size a) ∧
  (∀ a x, ((![v136, v230] : Fin 2 → IVec S16 32) a x).toNat < S96x384.size a)
theorem k0_idx13_inb : ∀ (v134 : IVec S16 32) (v136 : IVec S16 32) (v230 : IVec S16 32) (k0_hw7 : k0_chk7 v134 v136 v230), ∀ a x, ((![v134, v230] : Fin 2 → IVec S16 32) a x).toNat < S96x384.size a := fun v134 v136 v230 k0_hw7 => k0_hw7.1
theorem k0_idx15_inb : ∀ (v134 : IVec S16 32) (v136 : IVec S16 32) (v230 : IVec S16 32) (k0_hw7 : k0_chk7 v134 v136 v230), ∀ a x, ((![v136, v230] : Fin 2 → IVec S16 32) a x).toNat < S96x384.size a := fun v134 v136 v230 k0_hw7 => k0_hw7.2

def k0_chk8 (v134 : IVec S16 32) (v136 : IVec S16 32) (v232 : IVec S16 32) : Prop :=
  (∀ a x, ((![v134, v232] : Fin 2 → IVec S16 32) a x).toNat < S96x384.size a) ∧
  (∀ a x, ((![v136, v232] : Fin 2 → IVec S16 32) a x).toNat < S96x384.size a)
theorem k0_idx14_inb : ∀ (v134 : IVec S16 32) (v136 : IVec S16 32) (v232 : IVec S16 32) (k0_hw8 : k0_chk8 v134 v136 v232), ∀ a x, ((![v134, v232] : Fin 2 → IVec S16 32) a x).toNat < S96x384.size a := fun v134 v136 v232 k0_hw8 => k0_hw8.1
theorem k0_idx16_inb : ∀ (v134 : IVec S16 32) (v136 : IVec S16 32) (v232 : IVec S16 32) (k0_hw8 : k0_chk8 v134 v136 v232), ∀ a x, ((![v136, v232] : Fin 2 → IVec S16 32) a x).toNat < S96x384.size a := fun v134 v136 v232 k0_hw8 => k0_hw8.2
def k0_off7 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v263 : Index := Scalar.indexCast v130
  let c64 : Index := 64#32
  ![v263.toNat, 64]

def k0_chk9 (v134 : IVec S16 32) (v136 : IVec S16 32) (v260 : IVec S16 32) : Prop :=
  (∀ a x, ((![v134, v260] : Fin 2 → IVec S16 32) a x).toNat < S96x384.size a) ∧
  (∀ a x, ((![v136, v260] : Fin 2 → IVec S16 32) a x).toNat < S96x384.size a)
theorem k0_idx17_inb : ∀ (v134 : IVec S16 32) (v136 : IVec S16 32) (v260 : IVec S16 32) (k0_hw9 : k0_chk9 v134 v136 v260), ∀ a x, ((![v134, v260] : Fin 2 → IVec S16 32) a x).toNat < S96x384.size a := fun v134 v136 v260 k0_hw9 => k0_hw9.1
theorem k0_idx19_inb : ∀ (v134 : IVec S16 32) (v136 : IVec S16 32) (v260 : IVec S16 32) (k0_hw9 : k0_chk9 v134 v136 v260), ∀ a x, ((![v136, v260] : Fin 2 → IVec S16 32) a x).toNat < S96x384.size a := fun v134 v136 v260 k0_hw9 => k0_hw9.2

def k0_chk10 (v134 : IVec S16 32) (v136 : IVec S16 32) (v262 : IVec S16 32) : Prop :=
  (∀ a x, ((![v134, v262] : Fin 2 → IVec S16 32) a x).toNat < S96x384.size a) ∧
  (∀ a x, ((![v136, v262] : Fin 2 → IVec S16 32) a x).toNat < S96x384.size a)
theorem k0_idx18_inb : ∀ (v134 : IVec S16 32) (v136 : IVec S16 32) (v262 : IVec S16 32) (k0_hw10 : k0_chk10 v134 v136 v262), ∀ a x, ((![v134, v262] : Fin 2 → IVec S16 32) a x).toNat < S96x384.size a := fun v134 v136 v262 k0_hw10 => k0_hw10.1
theorem k0_idx20_inb : ∀ (v134 : IVec S16 32) (v136 : IVec S16 32) (v262 : IVec S16 32) (k0_hw10 : k0_chk10 v134 v136 v262), ∀ a x, ((![v136, v262] : Fin 2 → IVec S16 32) a x).toNat < S96x384.size a := fun v134 v136 v262 k0_hw10 => k0_hw10.2
def k0_off8 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v293 : Index := Scalar.indexCast v130
  let c80 : Index := 80#32
  ![v293.toNat, 80]

def k0_chk11 (v134 : IVec S16 32) (v136 : IVec S16 32) (v290 : IVec S16 32) : Prop :=
  (∀ a x, ((![v134, v290] : Fin 2 → IVec S16 32) a x).toNat < S96x384.size a) ∧
  (∀ a x, ((![v136, v290] : Fin 2 → IVec S16 32) a x).toNat < S96x384.size a)
theorem k0_idx21_inb : ∀ (v134 : IVec S16 32) (v136 : IVec S16 32) (v290 : IVec S16 32) (k0_hw11 : k0_chk11 v134 v136 v290), ∀ a x, ((![v134, v290] : Fin 2 → IVec S16 32) a x).toNat < S96x384.size a := fun v134 v136 v290 k0_hw11 => k0_hw11.1
theorem k0_idx23_inb : ∀ (v134 : IVec S16 32) (v136 : IVec S16 32) (v290 : IVec S16 32) (k0_hw11 : k0_chk11 v134 v136 v290), ∀ a x, ((![v136, v290] : Fin 2 → IVec S16 32) a x).toNat < S96x384.size a := fun v134 v136 v290 k0_hw11 => k0_hw11.2

def k0_chk12 (v134 : IVec S16 32) (v136 : IVec S16 32) (v292 : IVec S16 32) : Prop :=
  (∀ a x, ((![v134, v292] : Fin 2 → IVec S16 32) a x).toNat < S96x384.size a) ∧
  (∀ a x, ((![v136, v292] : Fin 2 → IVec S16 32) a x).toNat < S96x384.size a)
theorem k0_idx22_inb : ∀ (v134 : IVec S16 32) (v136 : IVec S16 32) (v292 : IVec S16 32) (k0_hw12 : k0_chk12 v134 v136 v292), ∀ a x, ((![v134, v292] : Fin 2 → IVec S16 32) a x).toNat < S96x384.size a := fun v134 v136 v292 k0_hw12 => k0_hw12.1
theorem k0_idx24_inb : ∀ (v134 : IVec S16 32) (v136 : IVec S16 32) (v292 : IVec S16 32) (k0_hw12 : k0_chk12 v134 v136 v292), ∀ a x, ((![v136, v292] : Fin 2 → IVec S16 32) a x).toNat < S96x384.size a := fun v134 v136 v292 k0_hw12 => k0_hw12.2
def k0_off9 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v323 : Index := Scalar.indexCast v130
  let c96 : Index := 96#32
  ![v323.toNat, 96]

def k0_chk13 (v134 : IVec S16 32) (v136 : IVec S16 32) (v320 : IVec S16 32) : Prop :=
  (∀ a x, ((![v134, v320] : Fin 2 → IVec S16 32) a x).toNat < S96x384.size a) ∧
  (∀ a x, ((![v136, v320] : Fin 2 → IVec S16 32) a x).toNat < S96x384.size a)
theorem k0_idx25_inb : ∀ (v134 : IVec S16 32) (v136 : IVec S16 32) (v320 : IVec S16 32) (k0_hw13 : k0_chk13 v134 v136 v320), ∀ a x, ((![v134, v320] : Fin 2 → IVec S16 32) a x).toNat < S96x384.size a := fun v134 v136 v320 k0_hw13 => k0_hw13.1
theorem k0_idx27_inb : ∀ (v134 : IVec S16 32) (v136 : IVec S16 32) (v320 : IVec S16 32) (k0_hw13 : k0_chk13 v134 v136 v320), ∀ a x, ((![v136, v320] : Fin 2 → IVec S16 32) a x).toNat < S96x384.size a := fun v134 v136 v320 k0_hw13 => k0_hw13.2

def k0_chk14 (v134 : IVec S16 32) (v136 : IVec S16 32) (v322 : IVec S16 32) : Prop :=
  (∀ a x, ((![v134, v322] : Fin 2 → IVec S16 32) a x).toNat < S96x384.size a) ∧
  (∀ a x, ((![v136, v322] : Fin 2 → IVec S16 32) a x).toNat < S96x384.size a)
theorem k0_idx26_inb : ∀ (v134 : IVec S16 32) (v136 : IVec S16 32) (v322 : IVec S16 32) (k0_hw14 : k0_chk14 v134 v136 v322), ∀ a x, ((![v134, v322] : Fin 2 → IVec S16 32) a x).toNat < S96x384.size a := fun v134 v136 v322 k0_hw14 => k0_hw14.1
theorem k0_idx28_inb : ∀ (v134 : IVec S16 32) (v136 : IVec S16 32) (v322 : IVec S16 32) (k0_hw14 : k0_chk14 v134 v136 v322), ∀ a x, ((![v136, v322] : Fin 2 → IVec S16 32) a x).toNat < S96x384.size a := fun v134 v136 v322 k0_hw14 => k0_hw14.2
def k0_off10 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v353 : Index := Scalar.indexCast v130
  let c112 : Index := 112#32
  ![v353.toNat, 112]

def k0_chk15 (v134 : IVec S16 32) (v136 : IVec S16 32) (v350 : IVec S16 32) : Prop :=
  (∀ a x, ((![v134, v350] : Fin 2 → IVec S16 32) a x).toNat < S96x384.size a) ∧
  (∀ a x, ((![v136, v350] : Fin 2 → IVec S16 32) a x).toNat < S96x384.size a)
theorem k0_idx29_inb : ∀ (v134 : IVec S16 32) (v136 : IVec S16 32) (v350 : IVec S16 32) (k0_hw15 : k0_chk15 v134 v136 v350), ∀ a x, ((![v134, v350] : Fin 2 → IVec S16 32) a x).toNat < S96x384.size a := fun v134 v136 v350 k0_hw15 => k0_hw15.1
theorem k0_idx31_inb : ∀ (v134 : IVec S16 32) (v136 : IVec S16 32) (v350 : IVec S16 32) (k0_hw15 : k0_chk15 v134 v136 v350), ∀ a x, ((![v136, v350] : Fin 2 → IVec S16 32) a x).toNat < S96x384.size a := fun v134 v136 v350 k0_hw15 => k0_hw15.2

def k0_chk16 (v134 : IVec S16 32) (v136 : IVec S16 32) (v352 : IVec S16 32) : Prop :=
  (∀ a x, ((![v134, v352] : Fin 2 → IVec S16 32) a x).toNat < S96x384.size a) ∧
  (∀ a x, ((![v136, v352] : Fin 2 → IVec S16 32) a x).toNat < S96x384.size a)
theorem k0_idx30_inb : ∀ (v134 : IVec S16 32) (v136 : IVec S16 32) (v352 : IVec S16 32) (k0_hw16 : k0_chk16 v134 v136 v352), ∀ a x, ((![v134, v352] : Fin 2 → IVec S16 32) a x).toNat < S96x384.size a := fun v134 v136 v352 k0_hw16 => k0_hw16.1
theorem k0_idx32_inb : ∀ (v134 : IVec S16 32) (v136 : IVec S16 32) (v352 : IVec S16 32) (k0_hw16 : k0_chk16 v134 v136 v352), ∀ a x, ((![v136, v352] : Fin 2 → IVec S16 32) a x).toNat < S96x384.size a := fun v134 v136 v352 k0_hw16 => k0_hw16.2
def k0_off11 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v383 : Index := Scalar.indexCast v130
  let c128 : Index := 128#32
  ![v383.toNat, 128]

def k0_chk17 (v134 : IVec S16 32) (v136 : IVec S16 32) (v380 : IVec S16 32) : Prop :=
  (∀ a x, ((![v134, v380] : Fin 2 → IVec S16 32) a x).toNat < S96x384.size a) ∧
  (∀ a x, ((![v136, v380] : Fin 2 → IVec S16 32) a x).toNat < S96x384.size a)
theorem k0_idx33_inb : ∀ (v134 : IVec S16 32) (v136 : IVec S16 32) (v380 : IVec S16 32) (k0_hw17 : k0_chk17 v134 v136 v380), ∀ a x, ((![v134, v380] : Fin 2 → IVec S16 32) a x).toNat < S96x384.size a := fun v134 v136 v380 k0_hw17 => k0_hw17.1
theorem k0_idx35_inb : ∀ (v134 : IVec S16 32) (v136 : IVec S16 32) (v380 : IVec S16 32) (k0_hw17 : k0_chk17 v134 v136 v380), ∀ a x, ((![v136, v380] : Fin 2 → IVec S16 32) a x).toNat < S96x384.size a := fun v134 v136 v380 k0_hw17 => k0_hw17.2

def k0_chk18 (v134 : IVec S16 32) (v136 : IVec S16 32) (v382 : IVec S16 32) : Prop :=
  (∀ a x, ((![v134, v382] : Fin 2 → IVec S16 32) a x).toNat < S96x384.size a) ∧
  (∀ a x, ((![v136, v382] : Fin 2 → IVec S16 32) a x).toNat < S96x384.size a)
theorem k0_idx34_inb : ∀ (v134 : IVec S16 32) (v136 : IVec S16 32) (v382 : IVec S16 32) (k0_hw18 : k0_chk18 v134 v136 v382), ∀ a x, ((![v134, v382] : Fin 2 → IVec S16 32) a x).toNat < S96x384.size a := fun v134 v136 v382 k0_hw18 => k0_hw18.1
theorem k0_idx36_inb : ∀ (v134 : IVec S16 32) (v136 : IVec S16 32) (v382 : IVec S16 32) (k0_hw18 : k0_chk18 v134 v136 v382), ∀ a x, ((![v136, v382] : Fin 2 → IVec S16 32) a x).toNat < S96x384.size a := fun v134 v136 v382 k0_hw18 => k0_hw18.2
def k0_off12 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v413 : Index := Scalar.indexCast v130
  let c144 : Index := 144#32
  ![v413.toNat, 144]

def k0_chk19 (v134 : IVec S16 32) (v136 : IVec S16 32) (v410 : IVec S16 32) : Prop :=
  (∀ a x, ((![v134, v410] : Fin 2 → IVec S16 32) a x).toNat < S96x384.size a) ∧
  (∀ a x, ((![v136, v410] : Fin 2 → IVec S16 32) a x).toNat < S96x384.size a)
theorem k0_idx37_inb : ∀ (v134 : IVec S16 32) (v136 : IVec S16 32) (v410 : IVec S16 32) (k0_hw19 : k0_chk19 v134 v136 v410), ∀ a x, ((![v134, v410] : Fin 2 → IVec S16 32) a x).toNat < S96x384.size a := fun v134 v136 v410 k0_hw19 => k0_hw19.1
theorem k0_idx39_inb : ∀ (v134 : IVec S16 32) (v136 : IVec S16 32) (v410 : IVec S16 32) (k0_hw19 : k0_chk19 v134 v136 v410), ∀ a x, ((![v136, v410] : Fin 2 → IVec S16 32) a x).toNat < S96x384.size a := fun v134 v136 v410 k0_hw19 => k0_hw19.2

def k0_chk20 (v134 : IVec S16 32) (v136 : IVec S16 32) (v412 : IVec S16 32) : Prop :=
  (∀ a x, ((![v134, v412] : Fin 2 → IVec S16 32) a x).toNat < S96x384.size a) ∧
  (∀ a x, ((![v136, v412] : Fin 2 → IVec S16 32) a x).toNat < S96x384.size a)
theorem k0_idx38_inb : ∀ (v134 : IVec S16 32) (v136 : IVec S16 32) (v412 : IVec S16 32) (k0_hw20 : k0_chk20 v134 v136 v412), ∀ a x, ((![v134, v412] : Fin 2 → IVec S16 32) a x).toNat < S96x384.size a := fun v134 v136 v412 k0_hw20 => k0_hw20.1
theorem k0_idx40_inb : ∀ (v134 : IVec S16 32) (v136 : IVec S16 32) (v412 : IVec S16 32) (k0_hw20 : k0_chk20 v134 v136 v412), ∀ a x, ((![v136, v412] : Fin 2 → IVec S16 32) a x).toNat < S96x384.size a := fun v134 v136 v412 k0_hw20 => k0_hw20.2
def k0_off13 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v443 : Index := Scalar.indexCast v130
  let c160 : Index := 160#32
  ![v443.toNat, 160]

def k0_chk21 (v134 : IVec S16 32) (v136 : IVec S16 32) (v440 : IVec S16 32) : Prop :=
  (∀ a x, ((![v134, v440] : Fin 2 → IVec S16 32) a x).toNat < S96x384.size a) ∧
  (∀ a x, ((![v136, v440] : Fin 2 → IVec S16 32) a x).toNat < S96x384.size a)
theorem k0_idx41_inb : ∀ (v134 : IVec S16 32) (v136 : IVec S16 32) (v440 : IVec S16 32) (k0_hw21 : k0_chk21 v134 v136 v440), ∀ a x, ((![v134, v440] : Fin 2 → IVec S16 32) a x).toNat < S96x384.size a := fun v134 v136 v440 k0_hw21 => k0_hw21.1
theorem k0_idx43_inb : ∀ (v134 : IVec S16 32) (v136 : IVec S16 32) (v440 : IVec S16 32) (k0_hw21 : k0_chk21 v134 v136 v440), ∀ a x, ((![v136, v440] : Fin 2 → IVec S16 32) a x).toNat < S96x384.size a := fun v134 v136 v440 k0_hw21 => k0_hw21.2

def k0_chk22 (v134 : IVec S16 32) (v136 : IVec S16 32) (v442 : IVec S16 32) : Prop :=
  (∀ a x, ((![v134, v442] : Fin 2 → IVec S16 32) a x).toNat < S96x384.size a) ∧
  (∀ a x, ((![v136, v442] : Fin 2 → IVec S16 32) a x).toNat < S96x384.size a)
theorem k0_idx42_inb : ∀ (v134 : IVec S16 32) (v136 : IVec S16 32) (v442 : IVec S16 32) (k0_hw22 : k0_chk22 v134 v136 v442), ∀ a x, ((![v134, v442] : Fin 2 → IVec S16 32) a x).toNat < S96x384.size a := fun v134 v136 v442 k0_hw22 => k0_hw22.1
theorem k0_idx44_inb : ∀ (v134 : IVec S16 32) (v136 : IVec S16 32) (v442 : IVec S16 32) (k0_hw22 : k0_chk22 v134 v136 v442), ∀ a x, ((![v136, v442] : Fin 2 → IVec S16 32) a x).toNat < S96x384.size a := fun v134 v136 v442 k0_hw22 => k0_hw22.2
def k0_off14 (k0_t1 : Fin k0_t1_loop.trips) : Fin 2 → Nat :=
  let c0_i32_131 : BitVec 32 := 0#32
  let c0_i32_26 : BitVec 32 := 0#32
  let c1_i32 : BitVec 32 := 1#32
  let arg15 : BitVec 32 := Scf.iv c0_i32_26 c1_i32 k0_t1
  let c1_i32_130 : BitVec 32 := 1#32
  let v129 : BitVec 32 := Scalar.muli arg15 c1_i32_130
  let v130 : BitVec 32 := Scalar.addi c0_i32_131 v129
  let v473 : Index := Scalar.indexCast v130
  let c176 : Index := 176#32
  ![v473.toNat, 176]

def k0_chk23 (v134 : IVec S16 32) (v136 : IVec S16 32) (v470 : IVec S16 32) : Prop :=
  (∀ a x, ((![v134, v470] : Fin 2 → IVec S16 32) a x).toNat < S96x384.size a) ∧
  (∀ a x, ((![v136, v470] : Fin 2 → IVec S16 32) a x).toNat < S96x384.size a)
theorem k0_idx45_inb : ∀ (v134 : IVec S16 32) (v136 : IVec S16 32) (v470 : IVec S16 32) (k0_hw23 : k0_chk23 v134 v136 v470), ∀ a x, ((![v134, v470] : Fin 2 → IVec S16 32) a x).toNat < S96x384.size a := fun v134 v136 v470 k0_hw23 => k0_hw23.1
theorem k0_idx47_inb : ∀ (v134 : IVec S16 32) (v136 : IVec S16 32) (v470 : IVec S16 32) (k0_hw23 : k0_chk23 v134 v136 v470), ∀ a x, ((![v136, v470] : Fin 2 → IVec S16 32) a x).toNat < S96x384.size a := fun v134 v136 v470 k0_hw23 => k0_hw23.2

def k0_chk24 (v134 : IVec S16 32) (v136 : IVec S16 32) (v472 : IVec S16 32) : Prop :=
  (∀ a x, ((![v134, v472] : Fin 2 → IVec S16 32) a x).toNat < S96x384.size a) ∧
  (∀ a x, ((![v136, v472] : Fin 2 → IVec S16 32) a x).toNat < S96x384.size a)
theorem k0_idx46_inb : ∀ (v134 : IVec S16 32) (v136 : IVec S16 32) (v472 : IVec S16 32) (k0_hw24 : k0_chk24 v134 v136 v472), ∀ a x, ((![v134, v472] : Fin 2 → IVec S16 32) a x).toNat < S96x384.size a := fun v134 v136 v472 k0_hw24 => k0_hw24.1
theorem k0_idx48_inb : ∀ (v134 : IVec S16 32) (v136 : IVec S16 32) (v472 : IVec S16 32) (k0_hw24 : k0_chk24 v134 v136 v472), ∀ a x, ((![v136, v472] : Fin 2 → IVec S16 32) a x).toNat < S96x384.size a := fun v134 v136 v472 k0_hw24 => k0_hw24.2
def k0_off15 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c0_i32_29 : BitVec 32 := 0#32
  let v34 : BitVec 32 := Scalar.addi v2 c0_i32_29
  let c0_i32_30 : BitVec 32 := 0#32
  let c0_i32_31 : BitVec 32 := 0#32
  ![v34.toNat, 0, 0]
def k0_off16 (i : grid0.Coords) (c0_i32_34 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v39 : BitVec 32 := Scalar.addi v2 c0_i32_34
  let c96_i32 : BitVec 32 := 96#32
  let c0_i32_35 : BitVec 32 := 0#32
  ![v39.toNat, 96, 0]
@[reducible] def k0_t2_loop : Scf.Loop 32 :=
  let c0_i32_53 : BitVec 32 := 0#32
  let c48_i32_54 : BitVec 32 := 48#32
  let v59 : BitVec 32 := Scalar.addi c0_i32_53 c48_i32_54
  let c1_i32_55 : BitVec 32 := 1#32
  ⟨c0_i32_53, v59, c1_i32_55⟩
def k0_off17 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v143 : Index := Scalar.indexCast v130
  let c0 : Index := 0#32
  ![v143.toNat, 0]

def k0_chk25 (v134 : IVec S16 32) (v136 : IVec S16 32) (v140 : IVec S16 32) : Prop :=
  (∀ a x, ((![v134, v140] : Fin 2 → IVec S16 32) a x).toNat < S96x384.size a) ∧
  (∀ a x, ((![v136, v140] : Fin 2 → IVec S16 32) a x).toNat < S96x384.size a)
theorem k0_idx49_inb : ∀ (v134 : IVec S16 32) (v136 : IVec S16 32) (v140 : IVec S16 32) (k0_hw25 : k0_chk25 v134 v136 v140), ∀ a x, ((![v134, v140] : Fin 2 → IVec S16 32) a x).toNat < S96x384.size a := fun v134 v136 v140 k0_hw25 => k0_hw25.1
theorem k0_idx51_inb : ∀ (v134 : IVec S16 32) (v136 : IVec S16 32) (v140 : IVec S16 32) (k0_hw25 : k0_chk25 v134 v136 v140), ∀ a x, ((![v136, v140] : Fin 2 → IVec S16 32) a x).toNat < S96x384.size a := fun v134 v136 v140 k0_hw25 => k0_hw25.2

def k0_chk26 (v134 : IVec S16 32) (v136 : IVec S16 32) (v142 : IVec S16 32) : Prop :=
  (∀ a x, ((![v134, v142] : Fin 2 → IVec S16 32) a x).toNat < S96x384.size a) ∧
  (∀ a x, ((![v136, v142] : Fin 2 → IVec S16 32) a x).toNat < S96x384.size a)
theorem k0_idx50_inb : ∀ (v134 : IVec S16 32) (v136 : IVec S16 32) (v142 : IVec S16 32) (k0_hw26 : k0_chk26 v134 v136 v142), ∀ a x, ((![v134, v142] : Fin 2 → IVec S16 32) a x).toNat < S96x384.size a := fun v134 v136 v142 k0_hw26 => k0_hw26.1
theorem k0_idx52_inb : ∀ (v134 : IVec S16 32) (v136 : IVec S16 32) (v142 : IVec S16 32) (k0_hw26 : k0_chk26 v134 v136 v142), ∀ a x, ((![v136, v142] : Fin 2 → IVec S16 32) a x).toNat < S96x384.size a := fun v134 v136 v142 k0_hw26 => k0_hw26.2
def k0_off18 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v173 : Index := Scalar.indexCast v130
  let c16 : Index := 16#32
  ![v173.toNat, 16]

def k0_chk27 (v134 : IVec S16 32) (v136 : IVec S16 32) (v170 : IVec S16 32) : Prop :=
  (∀ a x, ((![v134, v170] : Fin 2 → IVec S16 32) a x).toNat < S96x384.size a) ∧
  (∀ a x, ((![v136, v170] : Fin 2 → IVec S16 32) a x).toNat < S96x384.size a)
theorem k0_idx53_inb : ∀ (v134 : IVec S16 32) (v136 : IVec S16 32) (v170 : IVec S16 32) (k0_hw27 : k0_chk27 v134 v136 v170), ∀ a x, ((![v134, v170] : Fin 2 → IVec S16 32) a x).toNat < S96x384.size a := fun v134 v136 v170 k0_hw27 => k0_hw27.1
theorem k0_idx55_inb : ∀ (v134 : IVec S16 32) (v136 : IVec S16 32) (v170 : IVec S16 32) (k0_hw27 : k0_chk27 v134 v136 v170), ∀ a x, ((![v136, v170] : Fin 2 → IVec S16 32) a x).toNat < S96x384.size a := fun v134 v136 v170 k0_hw27 => k0_hw27.2

def k0_chk28 (v134 : IVec S16 32) (v136 : IVec S16 32) (v172 : IVec S16 32) : Prop :=
  (∀ a x, ((![v134, v172] : Fin 2 → IVec S16 32) a x).toNat < S96x384.size a) ∧
  (∀ a x, ((![v136, v172] : Fin 2 → IVec S16 32) a x).toNat < S96x384.size a)
theorem k0_idx54_inb : ∀ (v134 : IVec S16 32) (v136 : IVec S16 32) (v172 : IVec S16 32) (k0_hw28 : k0_chk28 v134 v136 v172), ∀ a x, ((![v134, v172] : Fin 2 → IVec S16 32) a x).toNat < S96x384.size a := fun v134 v136 v172 k0_hw28 => k0_hw28.1
theorem k0_idx56_inb : ∀ (v134 : IVec S16 32) (v136 : IVec S16 32) (v172 : IVec S16 32) (k0_hw28 : k0_chk28 v134 v136 v172), ∀ a x, ((![v136, v172] : Fin 2 → IVec S16 32) a x).toNat < S96x384.size a := fun v134 v136 v172 k0_hw28 => k0_hw28.2
def k0_off19 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v203 : Index := Scalar.indexCast v130
  let c32 : Index := 32#32
  ![v203.toNat, 32]

def k0_chk29 (v134 : IVec S16 32) (v136 : IVec S16 32) (v200 : IVec S16 32) : Prop :=
  (∀ a x, ((![v134, v200] : Fin 2 → IVec S16 32) a x).toNat < S96x384.size a) ∧
  (∀ a x, ((![v136, v200] : Fin 2 → IVec S16 32) a x).toNat < S96x384.size a)
theorem k0_idx57_inb : ∀ (v134 : IVec S16 32) (v136 : IVec S16 32) (v200 : IVec S16 32) (k0_hw29 : k0_chk29 v134 v136 v200), ∀ a x, ((![v134, v200] : Fin 2 → IVec S16 32) a x).toNat < S96x384.size a := fun v134 v136 v200 k0_hw29 => k0_hw29.1
theorem k0_idx59_inb : ∀ (v134 : IVec S16 32) (v136 : IVec S16 32) (v200 : IVec S16 32) (k0_hw29 : k0_chk29 v134 v136 v200), ∀ a x, ((![v136, v200] : Fin 2 → IVec S16 32) a x).toNat < S96x384.size a := fun v134 v136 v200 k0_hw29 => k0_hw29.2

def k0_chk30 (v134 : IVec S16 32) (v136 : IVec S16 32) (v202 : IVec S16 32) : Prop :=
  (∀ a x, ((![v134, v202] : Fin 2 → IVec S16 32) a x).toNat < S96x384.size a) ∧
  (∀ a x, ((![v136, v202] : Fin 2 → IVec S16 32) a x).toNat < S96x384.size a)
theorem k0_idx58_inb : ∀ (v134 : IVec S16 32) (v136 : IVec S16 32) (v202 : IVec S16 32) (k0_hw30 : k0_chk30 v134 v136 v202), ∀ a x, ((![v134, v202] : Fin 2 → IVec S16 32) a x).toNat < S96x384.size a := fun v134 v136 v202 k0_hw30 => k0_hw30.1
theorem k0_idx60_inb : ∀ (v134 : IVec S16 32) (v136 : IVec S16 32) (v202 : IVec S16 32) (k0_hw30 : k0_chk30 v134 v136 v202), ∀ a x, ((![v136, v202] : Fin 2 → IVec S16 32) a x).toNat < S96x384.size a := fun v134 v136 v202 k0_hw30 => k0_hw30.2
def k0_off20 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v233 : Index := Scalar.indexCast v130
  let c48 : Index := 48#32
  ![v233.toNat, 48]

def k0_chk31 (v134 : IVec S16 32) (v136 : IVec S16 32) (v230 : IVec S16 32) : Prop :=
  (∀ a x, ((![v134, v230] : Fin 2 → IVec S16 32) a x).toNat < S96x384.size a) ∧
  (∀ a x, ((![v136, v230] : Fin 2 → IVec S16 32) a x).toNat < S96x384.size a)
theorem k0_idx61_inb : ∀ (v134 : IVec S16 32) (v136 : IVec S16 32) (v230 : IVec S16 32) (k0_hw31 : k0_chk31 v134 v136 v230), ∀ a x, ((![v134, v230] : Fin 2 → IVec S16 32) a x).toNat < S96x384.size a := fun v134 v136 v230 k0_hw31 => k0_hw31.1
theorem k0_idx63_inb : ∀ (v134 : IVec S16 32) (v136 : IVec S16 32) (v230 : IVec S16 32) (k0_hw31 : k0_chk31 v134 v136 v230), ∀ a x, ((![v136, v230] : Fin 2 → IVec S16 32) a x).toNat < S96x384.size a := fun v134 v136 v230 k0_hw31 => k0_hw31.2

def k0_chk32 (v134 : IVec S16 32) (v136 : IVec S16 32) (v232 : IVec S16 32) : Prop :=
  (∀ a x, ((![v134, v232] : Fin 2 → IVec S16 32) a x).toNat < S96x384.size a) ∧
  (∀ a x, ((![v136, v232] : Fin 2 → IVec S16 32) a x).toNat < S96x384.size a)
theorem k0_idx62_inb : ∀ (v134 : IVec S16 32) (v136 : IVec S16 32) (v232 : IVec S16 32) (k0_hw32 : k0_chk32 v134 v136 v232), ∀ a x, ((![v134, v232] : Fin 2 → IVec S16 32) a x).toNat < S96x384.size a := fun v134 v136 v232 k0_hw32 => k0_hw32.1
theorem k0_idx64_inb : ∀ (v134 : IVec S16 32) (v136 : IVec S16 32) (v232 : IVec S16 32) (k0_hw32 : k0_chk32 v134 v136 v232), ∀ a x, ((![v136, v232] : Fin 2 → IVec S16 32) a x).toNat < S96x384.size a := fun v134 v136 v232 k0_hw32 => k0_hw32.2
def k0_off21 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v263 : Index := Scalar.indexCast v130
  let c64 : Index := 64#32
  ![v263.toNat, 64]

def k0_chk33 (v134 : IVec S16 32) (v136 : IVec S16 32) (v260 : IVec S16 32) : Prop :=
  (∀ a x, ((![v134, v260] : Fin 2 → IVec S16 32) a x).toNat < S96x384.size a) ∧
  (∀ a x, ((![v136, v260] : Fin 2 → IVec S16 32) a x).toNat < S96x384.size a)
theorem k0_idx65_inb : ∀ (v134 : IVec S16 32) (v136 : IVec S16 32) (v260 : IVec S16 32) (k0_hw33 : k0_chk33 v134 v136 v260), ∀ a x, ((![v134, v260] : Fin 2 → IVec S16 32) a x).toNat < S96x384.size a := fun v134 v136 v260 k0_hw33 => k0_hw33.1
theorem k0_idx67_inb : ∀ (v134 : IVec S16 32) (v136 : IVec S16 32) (v260 : IVec S16 32) (k0_hw33 : k0_chk33 v134 v136 v260), ∀ a x, ((![v136, v260] : Fin 2 → IVec S16 32) a x).toNat < S96x384.size a := fun v134 v136 v260 k0_hw33 => k0_hw33.2

def k0_chk34 (v134 : IVec S16 32) (v136 : IVec S16 32) (v262 : IVec S16 32) : Prop :=
  (∀ a x, ((![v134, v262] : Fin 2 → IVec S16 32) a x).toNat < S96x384.size a) ∧
  (∀ a x, ((![v136, v262] : Fin 2 → IVec S16 32) a x).toNat < S96x384.size a)
theorem k0_idx66_inb : ∀ (v134 : IVec S16 32) (v136 : IVec S16 32) (v262 : IVec S16 32) (k0_hw34 : k0_chk34 v134 v136 v262), ∀ a x, ((![v134, v262] : Fin 2 → IVec S16 32) a x).toNat < S96x384.size a := fun v134 v136 v262 k0_hw34 => k0_hw34.1
theorem k0_idx68_inb : ∀ (v134 : IVec S16 32) (v136 : IVec S16 32) (v262 : IVec S16 32) (k0_hw34 : k0_chk34 v134 v136 v262), ∀ a x, ((![v136, v262] : Fin 2 → IVec S16 32) a x).toNat < S96x384.size a := fun v134 v136 v262 k0_hw34 => k0_hw34.2
def k0_off22 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v293 : Index := Scalar.indexCast v130
  let c80 : Index := 80#32
  ![v293.toNat, 80]

def k0_chk35 (v134 : IVec S16 32) (v136 : IVec S16 32) (v290 : IVec S16 32) : Prop :=
  (∀ a x, ((![v134, v290] : Fin 2 → IVec S16 32) a x).toNat < S96x384.size a) ∧
  (∀ a x, ((![v136, v290] : Fin 2 → IVec S16 32) a x).toNat < S96x384.size a)
theorem k0_idx69_inb : ∀ (v134 : IVec S16 32) (v136 : IVec S16 32) (v290 : IVec S16 32) (k0_hw35 : k0_chk35 v134 v136 v290), ∀ a x, ((![v134, v290] : Fin 2 → IVec S16 32) a x).toNat < S96x384.size a := fun v134 v136 v290 k0_hw35 => k0_hw35.1
theorem k0_idx71_inb : ∀ (v134 : IVec S16 32) (v136 : IVec S16 32) (v290 : IVec S16 32) (k0_hw35 : k0_chk35 v134 v136 v290), ∀ a x, ((![v136, v290] : Fin 2 → IVec S16 32) a x).toNat < S96x384.size a := fun v134 v136 v290 k0_hw35 => k0_hw35.2

def k0_chk36 (v134 : IVec S16 32) (v136 : IVec S16 32) (v292 : IVec S16 32) : Prop :=
  (∀ a x, ((![v134, v292] : Fin 2 → IVec S16 32) a x).toNat < S96x384.size a) ∧
  (∀ a x, ((![v136, v292] : Fin 2 → IVec S16 32) a x).toNat < S96x384.size a)
theorem k0_idx70_inb : ∀ (v134 : IVec S16 32) (v136 : IVec S16 32) (v292 : IVec S16 32) (k0_hw36 : k0_chk36 v134 v136 v292), ∀ a x, ((![v134, v292] : Fin 2 → IVec S16 32) a x).toNat < S96x384.size a := fun v134 v136 v292 k0_hw36 => k0_hw36.1
theorem k0_idx72_inb : ∀ (v134 : IVec S16 32) (v136 : IVec S16 32) (v292 : IVec S16 32) (k0_hw36 : k0_chk36 v134 v136 v292), ∀ a x, ((![v136, v292] : Fin 2 → IVec S16 32) a x).toNat < S96x384.size a := fun v134 v136 v292 k0_hw36 => k0_hw36.2
def k0_off23 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v323 : Index := Scalar.indexCast v130
  let c96 : Index := 96#32
  ![v323.toNat, 96]

def k0_chk37 (v134 : IVec S16 32) (v136 : IVec S16 32) (v320 : IVec S16 32) : Prop :=
  (∀ a x, ((![v134, v320] : Fin 2 → IVec S16 32) a x).toNat < S96x384.size a) ∧
  (∀ a x, ((![v136, v320] : Fin 2 → IVec S16 32) a x).toNat < S96x384.size a)
theorem k0_idx73_inb : ∀ (v134 : IVec S16 32) (v136 : IVec S16 32) (v320 : IVec S16 32) (k0_hw37 : k0_chk37 v134 v136 v320), ∀ a x, ((![v134, v320] : Fin 2 → IVec S16 32) a x).toNat < S96x384.size a := fun v134 v136 v320 k0_hw37 => k0_hw37.1
theorem k0_idx75_inb : ∀ (v134 : IVec S16 32) (v136 : IVec S16 32) (v320 : IVec S16 32) (k0_hw37 : k0_chk37 v134 v136 v320), ∀ a x, ((![v136, v320] : Fin 2 → IVec S16 32) a x).toNat < S96x384.size a := fun v134 v136 v320 k0_hw37 => k0_hw37.2

def k0_chk38 (v134 : IVec S16 32) (v136 : IVec S16 32) (v322 : IVec S16 32) : Prop :=
  (∀ a x, ((![v134, v322] : Fin 2 → IVec S16 32) a x).toNat < S96x384.size a) ∧
  (∀ a x, ((![v136, v322] : Fin 2 → IVec S16 32) a x).toNat < S96x384.size a)
theorem k0_idx74_inb : ∀ (v134 : IVec S16 32) (v136 : IVec S16 32) (v322 : IVec S16 32) (k0_hw38 : k0_chk38 v134 v136 v322), ∀ a x, ((![v134, v322] : Fin 2 → IVec S16 32) a x).toNat < S96x384.size a := fun v134 v136 v322 k0_hw38 => k0_hw38.1
theorem k0_idx76_inb : ∀ (v134 : IVec S16 32) (v136 : IVec S16 32) (v322 : IVec S16 32) (k0_hw38 : k0_chk38 v134 v136 v322), ∀ a x, ((![v136, v322] : Fin 2 → IVec S16 32) a x).toNat < S96x384.size a := fun v134 v136 v322 k0_hw38 => k0_hw38.2
def k0_off24 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v353 : Index := Scalar.indexCast v130
  let c112 : Index := 112#32
  ![v353.toNat, 112]

def k0_chk39 (v134 : IVec S16 32) (v136 : IVec S16 32) (v350 : IVec S16 32) : Prop :=
  (∀ a x, ((![v134, v350] : Fin 2 → IVec S16 32) a x).toNat < S96x384.size a) ∧
  (∀ a x, ((![v136, v350] : Fin 2 → IVec S16 32) a x).toNat < S96x384.size a)
theorem k0_idx77_inb : ∀ (v134 : IVec S16 32) (v136 : IVec S16 32) (v350 : IVec S16 32) (k0_hw39 : k0_chk39 v134 v136 v350), ∀ a x, ((![v134, v350] : Fin 2 → IVec S16 32) a x).toNat < S96x384.size a := fun v134 v136 v350 k0_hw39 => k0_hw39.1
theorem k0_idx79_inb : ∀ (v134 : IVec S16 32) (v136 : IVec S16 32) (v350 : IVec S16 32) (k0_hw39 : k0_chk39 v134 v136 v350), ∀ a x, ((![v136, v350] : Fin 2 → IVec S16 32) a x).toNat < S96x384.size a := fun v134 v136 v350 k0_hw39 => k0_hw39.2

def k0_chk40 (v134 : IVec S16 32) (v136 : IVec S16 32) (v352 : IVec S16 32) : Prop :=
  (∀ a x, ((![v134, v352] : Fin 2 → IVec S16 32) a x).toNat < S96x384.size a) ∧
  (∀ a x, ((![v136, v352] : Fin 2 → IVec S16 32) a x).toNat < S96x384.size a)
theorem k0_idx78_inb : ∀ (v134 : IVec S16 32) (v136 : IVec S16 32) (v352 : IVec S16 32) (k0_hw40 : k0_chk40 v134 v136 v352), ∀ a x, ((![v134, v352] : Fin 2 → IVec S16 32) a x).toNat < S96x384.size a := fun v134 v136 v352 k0_hw40 => k0_hw40.1
theorem k0_idx80_inb : ∀ (v134 : IVec S16 32) (v136 : IVec S16 32) (v352 : IVec S16 32) (k0_hw40 : k0_chk40 v134 v136 v352), ∀ a x, ((![v136, v352] : Fin 2 → IVec S16 32) a x).toNat < S96x384.size a := fun v134 v136 v352 k0_hw40 => k0_hw40.2
def k0_off25 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v383 : Index := Scalar.indexCast v130
  let c128 : Index := 128#32
  ![v383.toNat, 128]

def k0_chk41 (v134 : IVec S16 32) (v136 : IVec S16 32) (v380 : IVec S16 32) : Prop :=
  (∀ a x, ((![v134, v380] : Fin 2 → IVec S16 32) a x).toNat < S96x384.size a) ∧
  (∀ a x, ((![v136, v380] : Fin 2 → IVec S16 32) a x).toNat < S96x384.size a)
theorem k0_idx81_inb : ∀ (v134 : IVec S16 32) (v136 : IVec S16 32) (v380 : IVec S16 32) (k0_hw41 : k0_chk41 v134 v136 v380), ∀ a x, ((![v134, v380] : Fin 2 → IVec S16 32) a x).toNat < S96x384.size a := fun v134 v136 v380 k0_hw41 => k0_hw41.1
theorem k0_idx83_inb : ∀ (v134 : IVec S16 32) (v136 : IVec S16 32) (v380 : IVec S16 32) (k0_hw41 : k0_chk41 v134 v136 v380), ∀ a x, ((![v136, v380] : Fin 2 → IVec S16 32) a x).toNat < S96x384.size a := fun v134 v136 v380 k0_hw41 => k0_hw41.2

def k0_chk42 (v134 : IVec S16 32) (v136 : IVec S16 32) (v382 : IVec S16 32) : Prop :=
  (∀ a x, ((![v134, v382] : Fin 2 → IVec S16 32) a x).toNat < S96x384.size a) ∧
  (∀ a x, ((![v136, v382] : Fin 2 → IVec S16 32) a x).toNat < S96x384.size a)
theorem k0_idx82_inb : ∀ (v134 : IVec S16 32) (v136 : IVec S16 32) (v382 : IVec S16 32) (k0_hw42 : k0_chk42 v134 v136 v382), ∀ a x, ((![v134, v382] : Fin 2 → IVec S16 32) a x).toNat < S96x384.size a := fun v134 v136 v382 k0_hw42 => k0_hw42.1
theorem k0_idx84_inb : ∀ (v134 : IVec S16 32) (v136 : IVec S16 32) (v382 : IVec S16 32) (k0_hw42 : k0_chk42 v134 v136 v382), ∀ a x, ((![v136, v382] : Fin 2 → IVec S16 32) a x).toNat < S96x384.size a := fun v134 v136 v382 k0_hw42 => k0_hw42.2
def k0_off26 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v413 : Index := Scalar.indexCast v130
  let c144 : Index := 144#32
  ![v413.toNat, 144]

def k0_chk43 (v134 : IVec S16 32) (v136 : IVec S16 32) (v410 : IVec S16 32) : Prop :=
  (∀ a x, ((![v134, v410] : Fin 2 → IVec S16 32) a x).toNat < S96x384.size a) ∧
  (∀ a x, ((![v136, v410] : Fin 2 → IVec S16 32) a x).toNat < S96x384.size a)
theorem k0_idx85_inb : ∀ (v134 : IVec S16 32) (v136 : IVec S16 32) (v410 : IVec S16 32) (k0_hw43 : k0_chk43 v134 v136 v410), ∀ a x, ((![v134, v410] : Fin 2 → IVec S16 32) a x).toNat < S96x384.size a := fun v134 v136 v410 k0_hw43 => k0_hw43.1
theorem k0_idx87_inb : ∀ (v134 : IVec S16 32) (v136 : IVec S16 32) (v410 : IVec S16 32) (k0_hw43 : k0_chk43 v134 v136 v410), ∀ a x, ((![v136, v410] : Fin 2 → IVec S16 32) a x).toNat < S96x384.size a := fun v134 v136 v410 k0_hw43 => k0_hw43.2

def k0_chk44 (v134 : IVec S16 32) (v136 : IVec S16 32) (v412 : IVec S16 32) : Prop :=
  (∀ a x, ((![v134, v412] : Fin 2 → IVec S16 32) a x).toNat < S96x384.size a) ∧
  (∀ a x, ((![v136, v412] : Fin 2 → IVec S16 32) a x).toNat < S96x384.size a)
theorem k0_idx86_inb : ∀ (v134 : IVec S16 32) (v136 : IVec S16 32) (v412 : IVec S16 32) (k0_hw44 : k0_chk44 v134 v136 v412), ∀ a x, ((![v134, v412] : Fin 2 → IVec S16 32) a x).toNat < S96x384.size a := fun v134 v136 v412 k0_hw44 => k0_hw44.1
theorem k0_idx88_inb : ∀ (v134 : IVec S16 32) (v136 : IVec S16 32) (v412 : IVec S16 32) (k0_hw44 : k0_chk44 v134 v136 v412), ∀ a x, ((![v136, v412] : Fin 2 → IVec S16 32) a x).toNat < S96x384.size a := fun v134 v136 v412 k0_hw44 => k0_hw44.2
def k0_off27 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v443 : Index := Scalar.indexCast v130
  let c160 : Index := 160#32
  ![v443.toNat, 160]

def k0_chk45 (v134 : IVec S16 32) (v136 : IVec S16 32) (v440 : IVec S16 32) : Prop :=
  (∀ a x, ((![v134, v440] : Fin 2 → IVec S16 32) a x).toNat < S96x384.size a) ∧
  (∀ a x, ((![v136, v440] : Fin 2 → IVec S16 32) a x).toNat < S96x384.size a)
theorem k0_idx89_inb : ∀ (v134 : IVec S16 32) (v136 : IVec S16 32) (v440 : IVec S16 32) (k0_hw45 : k0_chk45 v134 v136 v440), ∀ a x, ((![v134, v440] : Fin 2 → IVec S16 32) a x).toNat < S96x384.size a := fun v134 v136 v440 k0_hw45 => k0_hw45.1
theorem k0_idx91_inb : ∀ (v134 : IVec S16 32) (v136 : IVec S16 32) (v440 : IVec S16 32) (k0_hw45 : k0_chk45 v134 v136 v440), ∀ a x, ((![v136, v440] : Fin 2 → IVec S16 32) a x).toNat < S96x384.size a := fun v134 v136 v440 k0_hw45 => k0_hw45.2

def k0_chk46 (v134 : IVec S16 32) (v136 : IVec S16 32) (v442 : IVec S16 32) : Prop :=
  (∀ a x, ((![v134, v442] : Fin 2 → IVec S16 32) a x).toNat < S96x384.size a) ∧
  (∀ a x, ((![v136, v442] : Fin 2 → IVec S16 32) a x).toNat < S96x384.size a)
theorem k0_idx90_inb : ∀ (v134 : IVec S16 32) (v136 : IVec S16 32) (v442 : IVec S16 32) (k0_hw46 : k0_chk46 v134 v136 v442), ∀ a x, ((![v134, v442] : Fin 2 → IVec S16 32) a x).toNat < S96x384.size a := fun v134 v136 v442 k0_hw46 => k0_hw46.1
theorem k0_idx92_inb : ∀ (v134 : IVec S16 32) (v136 : IVec S16 32) (v442 : IVec S16 32) (k0_hw46 : k0_chk46 v134 v136 v442), ∀ a x, ((![v136, v442] : Fin 2 → IVec S16 32) a x).toNat < S96x384.size a := fun v134 v136 v442 k0_hw46 => k0_hw46.2
def k0_off28 (k0_t2 : Fin k0_t2_loop.trips) : Fin 2 → Nat :=
  let c0_i32_131 : BitVec 32 := 0#32
  let c0_i32_53 : BitVec 32 := 0#32
  let c1_i32_55 : BitVec 32 := 1#32
  let arg15 : BitVec 32 := Scf.iv c0_i32_53 c1_i32_55 k0_t2
  let c1_i32_130 : BitVec 32 := 1#32
  let v129 : BitVec 32 := Scalar.muli arg15 c1_i32_130
  let v130 : BitVec 32 := Scalar.addi c0_i32_131 v129
  let v473 : Index := Scalar.indexCast v130
  let c176 : Index := 176#32
  ![v473.toNat, 176]

def k0_chk47 (v134 : IVec S16 32) (v136 : IVec S16 32) (v470 : IVec S16 32) : Prop :=
  (∀ a x, ((![v134, v470] : Fin 2 → IVec S16 32) a x).toNat < S96x384.size a) ∧
  (∀ a x, ((![v136, v470] : Fin 2 → IVec S16 32) a x).toNat < S96x384.size a)
theorem k0_idx93_inb : ∀ (v134 : IVec S16 32) (v136 : IVec S16 32) (v470 : IVec S16 32) (k0_hw47 : k0_chk47 v134 v136 v470), ∀ a x, ((![v134, v470] : Fin 2 → IVec S16 32) a x).toNat < S96x384.size a := fun v134 v136 v470 k0_hw47 => k0_hw47.1
theorem k0_idx95_inb : ∀ (v134 : IVec S16 32) (v136 : IVec S16 32) (v470 : IVec S16 32) (k0_hw47 : k0_chk47 v134 v136 v470), ∀ a x, ((![v136, v470] : Fin 2 → IVec S16 32) a x).toNat < S96x384.size a := fun v134 v136 v470 k0_hw47 => k0_hw47.2

def k0_chk48 (v134 : IVec S16 32) (v136 : IVec S16 32) (v472 : IVec S16 32) : Prop :=
  (∀ a x, ((![v134, v472] : Fin 2 → IVec S16 32) a x).toNat < S96x384.size a) ∧
  (∀ a x, ((![v136, v472] : Fin 2 → IVec S16 32) a x).toNat < S96x384.size a)
theorem k0_idx94_inb : ∀ (v134 : IVec S16 32) (v136 : IVec S16 32) (v472 : IVec S16 32) (k0_hw48 : k0_chk48 v134 v136 v472), ∀ a x, ((![v134, v472] : Fin 2 → IVec S16 32) a x).toNat < S96x384.size a := fun v134 v136 v472 k0_hw48 => k0_hw48.1
theorem k0_idx96_inb : ∀ (v134 : IVec S16 32) (v136 : IVec S16 32) (v472 : IVec S16 32) (k0_hw48 : k0_chk48 v134 v136 v472), ∀ a x, ((![v136, v472] : Fin 2 → IVec S16 32) a x).toNat < S96x384.size a := fun v134 v136 v472 k0_hw48 => k0_hw48.2
def k0_off29 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c0_i32_57 : BitVec 32 := 0#32
  let v60 : BitVec 32 := Scalar.addi v2 c0_i32_57
  let c96_i32_58 : BitVec 32 := 96#32
  let c0_i32_59 : BitVec 32 := 0#32
  ![v60.toNat, 96, 0]
@[reducible] def k0_t3_loop : Scf.Loop 32 :=
  let c1_i32_62 : BitVec 32 := 1#32
  let c22_i32 : BitVec 32 := 22#32
  let v65 : BitVec 32 := Scalar.addi c1_i32_62 c22_i32
  let c1_i32_63 : BitVec 32 := 1#32
  ⟨c1_i32_62, v65, c1_i32_63⟩
def k0_off30 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c1_i32_62 : BitVec 32 := 1#32
  let c1_i32_63 : BitVec 32 := 1#32
  let arg15 : BitVec 32 := Scf.iv c1_i32_62 c1_i32_63 k0_t3
  let c2_i32_130 : BitVec 32 := 2#32
  let v129 : BitVec 32 := Scalar.muli arg15 c2_i32_130
  let c1_i32_131 : BitVec 32 := 1#32
  let v130 : BitVec 32 := Scalar.addi v129 c1_i32_131
  let c2_i32_132 : BitVec 32 := 2#32
  let v131 : BitVec 32 := Scalar.shrsi v130 c2_i32_132
  let v132 : BitVec 32 := Scalar.addi v2 v131
  let c3_i32 : BitVec 32 := 3#32
  let v133 : BitVec 32 := Scalar.andi v130 c3_i32
  let c48_i32_133 : BitVec 32 := 48#32
  let v134 : BitVec 32 := Scalar.muli v133 c48_i32_133
  let c0_i32_134 : BitVec 32 := 0#32
  ![v132.toNat, v134.toNat, 0]
def k0_off31 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c1_i32_62 : BitVec 32 := 1#32
  let c1_i32_63 : BitVec 32 := 1#32
  let arg15 : BitVec 32 := Scf.iv c1_i32_62 c1_i32_63 k0_t3
  let c2_i32_130 : BitVec 32 := 2#32
  let v129 : BitVec 32 := Scalar.muli arg15 c2_i32_130
  let c2_i32_138 : BitVec 32 := 2#32
  let v143 : BitVec 32 := Scalar.shrsi v129 c2_i32_138
  let v144 : BitVec 32 := Scalar.addi v2 v143
  let c2_i32_141 : BitVec 32 := 2#32
  let c3_i32_139 : BitVec 32 := 3#32
  let v145 : BitVec 32 := Scalar.andi v129 c3_i32_139
  let c48_i32_140 : BitVec 32 := 48#32
  let v146 : BitVec 32 := Scalar.muli v145 c48_i32_140
  let v147 : BitVec 32 := Scalar.muli c2_i32_141 v146
  let c0_i32_142 : BitVec 32 := 0#32
  ![v144.toNat, v147.toNat, 0]
def k0_off32 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c1_i32_62 : BitVec 32 := 1#32
  let c1_i32_63 : BitVec 32 := 1#32
  let arg15 : BitVec 32 := Scf.iv c1_i32_62 c1_i32_63 k0_t3
  let c2_i32_130 : BitVec 32 := 2#32
  let v129 : BitVec 32 := Scalar.muli arg15 c2_i32_130
  let c2_i32_144 : BitVec 32 := 2#32
  let v152 : BitVec 32 := Scalar.shrsi v129 c2_i32_144
  let v153 : BitVec 32 := Scalar.addi v2 v152
  let c3_i32_145 : BitVec 32 := 3#32
  let v154 : BitVec 32 := Scalar.andi v129 c3_i32_145
  let c48_i32_146 : BitVec 32 := 48#32
  let v155 : BitVec 32 := Scalar.muli v154 c48_i32_146
  let c0_i32_147 : BitVec 32 := 0#32
  ![v153.toNat, v155.toNat, 0]
@[reducible] def k0_t4_loop : Scf.Loop 32 :=
  let c0_i32_155 : BitVec 32 := 0#32
  let c48_i32_156 : BitVec 32 := 48#32
  let v169 : BitVec 32 := Scalar.addi c0_i32_155 c48_i32_156
  let c1_i32_157 : BitVec 32 := 1#32
  ⟨c0_i32_155, v169, c1_i32_157⟩
def k0_off33 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v243 : Index := Scalar.indexCast v230
  let c0 : Index := 0#32
  ![v243.toNat, 0]

def k0_chk49 (v234 : IVec S16 32) (v236 : IVec S16 32) (v240 : IVec S16 32) : Prop :=
  (∀ a x, ((![v234, v240] : Fin 2 → IVec S16 32) a x).toNat < S96x384.size a) ∧
  (∀ a x, ((![v236, v240] : Fin 2 → IVec S16 32) a x).toNat < S96x384.size a)
theorem k0_idx97_inb : ∀ (v234 : IVec S16 32) (v236 : IVec S16 32) (v240 : IVec S16 32) (k0_hw49 : k0_chk49 v234 v236 v240), ∀ a x, ((![v234, v240] : Fin 2 → IVec S16 32) a x).toNat < S96x384.size a := fun v234 v236 v240 k0_hw49 => k0_hw49.1
theorem k0_idx99_inb : ∀ (v234 : IVec S16 32) (v236 : IVec S16 32) (v240 : IVec S16 32) (k0_hw49 : k0_chk49 v234 v236 v240), ∀ a x, ((![v236, v240] : Fin 2 → IVec S16 32) a x).toNat < S96x384.size a := fun v234 v236 v240 k0_hw49 => k0_hw49.2

def k0_chk50 (v234 : IVec S16 32) (v236 : IVec S16 32) (v242 : IVec S16 32) : Prop :=
  (∀ a x, ((![v234, v242] : Fin 2 → IVec S16 32) a x).toNat < S96x384.size a) ∧
  (∀ a x, ((![v236, v242] : Fin 2 → IVec S16 32) a x).toNat < S96x384.size a)
theorem k0_idx98_inb : ∀ (v234 : IVec S16 32) (v236 : IVec S16 32) (v242 : IVec S16 32) (k0_hw50 : k0_chk50 v234 v236 v242), ∀ a x, ((![v234, v242] : Fin 2 → IVec S16 32) a x).toNat < S96x384.size a := fun v234 v236 v242 k0_hw50 => k0_hw50.1
theorem k0_idx100_inb : ∀ (v234 : IVec S16 32) (v236 : IVec S16 32) (v242 : IVec S16 32) (k0_hw50 : k0_chk50 v234 v236 v242), ∀ a x, ((![v236, v242] : Fin 2 → IVec S16 32) a x).toNat < S96x384.size a := fun v234 v236 v242 k0_hw50 => k0_hw50.2
def k0_off34 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v273 : Index := Scalar.indexCast v230
  let c16 : Index := 16#32
  ![v273.toNat, 16]

def k0_chk51 (v234 : IVec S16 32) (v236 : IVec S16 32) (v270 : IVec S16 32) : Prop :=
  (∀ a x, ((![v234, v270] : Fin 2 → IVec S16 32) a x).toNat < S96x384.size a) ∧
  (∀ a x, ((![v236, v270] : Fin 2 → IVec S16 32) a x).toNat < S96x384.size a)
theorem k0_idx101_inb : ∀ (v234 : IVec S16 32) (v236 : IVec S16 32) (v270 : IVec S16 32) (k0_hw51 : k0_chk51 v234 v236 v270), ∀ a x, ((![v234, v270] : Fin 2 → IVec S16 32) a x).toNat < S96x384.size a := fun v234 v236 v270 k0_hw51 => k0_hw51.1
theorem k0_idx103_inb : ∀ (v234 : IVec S16 32) (v236 : IVec S16 32) (v270 : IVec S16 32) (k0_hw51 : k0_chk51 v234 v236 v270), ∀ a x, ((![v236, v270] : Fin 2 → IVec S16 32) a x).toNat < S96x384.size a := fun v234 v236 v270 k0_hw51 => k0_hw51.2

def k0_chk52 (v234 : IVec S16 32) (v236 : IVec S16 32) (v272 : IVec S16 32) : Prop :=
  (∀ a x, ((![v234, v272] : Fin 2 → IVec S16 32) a x).toNat < S96x384.size a) ∧
  (∀ a x, ((![v236, v272] : Fin 2 → IVec S16 32) a x).toNat < S96x384.size a)
theorem k0_idx102_inb : ∀ (v234 : IVec S16 32) (v236 : IVec S16 32) (v272 : IVec S16 32) (k0_hw52 : k0_chk52 v234 v236 v272), ∀ a x, ((![v234, v272] : Fin 2 → IVec S16 32) a x).toNat < S96x384.size a := fun v234 v236 v272 k0_hw52 => k0_hw52.1
theorem k0_idx104_inb : ∀ (v234 : IVec S16 32) (v236 : IVec S16 32) (v272 : IVec S16 32) (k0_hw52 : k0_chk52 v234 v236 v272), ∀ a x, ((![v236, v272] : Fin 2 → IVec S16 32) a x).toNat < S96x384.size a := fun v234 v236 v272 k0_hw52 => k0_hw52.2
def k0_off35 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v303 : Index := Scalar.indexCast v230
  let c32 : Index := 32#32
  ![v303.toNat, 32]

def k0_chk53 (v234 : IVec S16 32) (v236 : IVec S16 32) (v300 : IVec S16 32) : Prop :=
  (∀ a x, ((![v234, v300] : Fin 2 → IVec S16 32) a x).toNat < S96x384.size a) ∧
  (∀ a x, ((![v236, v300] : Fin 2 → IVec S16 32) a x).toNat < S96x384.size a)
theorem k0_idx105_inb : ∀ (v234 : IVec S16 32) (v236 : IVec S16 32) (v300 : IVec S16 32) (k0_hw53 : k0_chk53 v234 v236 v300), ∀ a x, ((![v234, v300] : Fin 2 → IVec S16 32) a x).toNat < S96x384.size a := fun v234 v236 v300 k0_hw53 => k0_hw53.1
theorem k0_idx107_inb : ∀ (v234 : IVec S16 32) (v236 : IVec S16 32) (v300 : IVec S16 32) (k0_hw53 : k0_chk53 v234 v236 v300), ∀ a x, ((![v236, v300] : Fin 2 → IVec S16 32) a x).toNat < S96x384.size a := fun v234 v236 v300 k0_hw53 => k0_hw53.2

def k0_chk54 (v234 : IVec S16 32) (v236 : IVec S16 32) (v302 : IVec S16 32) : Prop :=
  (∀ a x, ((![v234, v302] : Fin 2 → IVec S16 32) a x).toNat < S96x384.size a) ∧
  (∀ a x, ((![v236, v302] : Fin 2 → IVec S16 32) a x).toNat < S96x384.size a)
theorem k0_idx106_inb : ∀ (v234 : IVec S16 32) (v236 : IVec S16 32) (v302 : IVec S16 32) (k0_hw54 : k0_chk54 v234 v236 v302), ∀ a x, ((![v234, v302] : Fin 2 → IVec S16 32) a x).toNat < S96x384.size a := fun v234 v236 v302 k0_hw54 => k0_hw54.1
theorem k0_idx108_inb : ∀ (v234 : IVec S16 32) (v236 : IVec S16 32) (v302 : IVec S16 32) (k0_hw54 : k0_chk54 v234 v236 v302), ∀ a x, ((![v236, v302] : Fin 2 → IVec S16 32) a x).toNat < S96x384.size a := fun v234 v236 v302 k0_hw54 => k0_hw54.2
def k0_off36 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v333 : Index := Scalar.indexCast v230
  let c48 : Index := 48#32
  ![v333.toNat, 48]

def k0_chk55 (v234 : IVec S16 32) (v236 : IVec S16 32) (v330 : IVec S16 32) : Prop :=
  (∀ a x, ((![v234, v330] : Fin 2 → IVec S16 32) a x).toNat < S96x384.size a) ∧
  (∀ a x, ((![v236, v330] : Fin 2 → IVec S16 32) a x).toNat < S96x384.size a)
theorem k0_idx109_inb : ∀ (v234 : IVec S16 32) (v236 : IVec S16 32) (v330 : IVec S16 32) (k0_hw55 : k0_chk55 v234 v236 v330), ∀ a x, ((![v234, v330] : Fin 2 → IVec S16 32) a x).toNat < S96x384.size a := fun v234 v236 v330 k0_hw55 => k0_hw55.1
theorem k0_idx111_inb : ∀ (v234 : IVec S16 32) (v236 : IVec S16 32) (v330 : IVec S16 32) (k0_hw55 : k0_chk55 v234 v236 v330), ∀ a x, ((![v236, v330] : Fin 2 → IVec S16 32) a x).toNat < S96x384.size a := fun v234 v236 v330 k0_hw55 => k0_hw55.2

def k0_chk56 (v234 : IVec S16 32) (v236 : IVec S16 32) (v332 : IVec S16 32) : Prop :=
  (∀ a x, ((![v234, v332] : Fin 2 → IVec S16 32) a x).toNat < S96x384.size a) ∧
  (∀ a x, ((![v236, v332] : Fin 2 → IVec S16 32) a x).toNat < S96x384.size a)
theorem k0_idx110_inb : ∀ (v234 : IVec S16 32) (v236 : IVec S16 32) (v332 : IVec S16 32) (k0_hw56 : k0_chk56 v234 v236 v332), ∀ a x, ((![v234, v332] : Fin 2 → IVec S16 32) a x).toNat < S96x384.size a := fun v234 v236 v332 k0_hw56 => k0_hw56.1
theorem k0_idx112_inb : ∀ (v234 : IVec S16 32) (v236 : IVec S16 32) (v332 : IVec S16 32) (k0_hw56 : k0_chk56 v234 v236 v332), ∀ a x, ((![v236, v332] : Fin 2 → IVec S16 32) a x).toNat < S96x384.size a := fun v234 v236 v332 k0_hw56 => k0_hw56.2
def k0_off37 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v363 : Index := Scalar.indexCast v230
  let c64 : Index := 64#32
  ![v363.toNat, 64]

def k0_chk57 (v234 : IVec S16 32) (v236 : IVec S16 32) (v360 : IVec S16 32) : Prop :=
  (∀ a x, ((![v234, v360] : Fin 2 → IVec S16 32) a x).toNat < S96x384.size a) ∧
  (∀ a x, ((![v236, v360] : Fin 2 → IVec S16 32) a x).toNat < S96x384.size a)
theorem k0_idx113_inb : ∀ (v234 : IVec S16 32) (v236 : IVec S16 32) (v360 : IVec S16 32) (k0_hw57 : k0_chk57 v234 v236 v360), ∀ a x, ((![v234, v360] : Fin 2 → IVec S16 32) a x).toNat < S96x384.size a := fun v234 v236 v360 k0_hw57 => k0_hw57.1
theorem k0_idx115_inb : ∀ (v234 : IVec S16 32) (v236 : IVec S16 32) (v360 : IVec S16 32) (k0_hw57 : k0_chk57 v234 v236 v360), ∀ a x, ((![v236, v360] : Fin 2 → IVec S16 32) a x).toNat < S96x384.size a := fun v234 v236 v360 k0_hw57 => k0_hw57.2

def k0_chk58 (v234 : IVec S16 32) (v236 : IVec S16 32) (v362 : IVec S16 32) : Prop :=
  (∀ a x, ((![v234, v362] : Fin 2 → IVec S16 32) a x).toNat < S96x384.size a) ∧
  (∀ a x, ((![v236, v362] : Fin 2 → IVec S16 32) a x).toNat < S96x384.size a)
theorem k0_idx114_inb : ∀ (v234 : IVec S16 32) (v236 : IVec S16 32) (v362 : IVec S16 32) (k0_hw58 : k0_chk58 v234 v236 v362), ∀ a x, ((![v234, v362] : Fin 2 → IVec S16 32) a x).toNat < S96x384.size a := fun v234 v236 v362 k0_hw58 => k0_hw58.1
theorem k0_idx116_inb : ∀ (v234 : IVec S16 32) (v236 : IVec S16 32) (v362 : IVec S16 32) (k0_hw58 : k0_chk58 v234 v236 v362), ∀ a x, ((![v236, v362] : Fin 2 → IVec S16 32) a x).toNat < S96x384.size a := fun v234 v236 v362 k0_hw58 => k0_hw58.2
def k0_off38 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v393 : Index := Scalar.indexCast v230
  let c80 : Index := 80#32
  ![v393.toNat, 80]

def k0_chk59 (v234 : IVec S16 32) (v236 : IVec S16 32) (v390 : IVec S16 32) : Prop :=
  (∀ a x, ((![v234, v390] : Fin 2 → IVec S16 32) a x).toNat < S96x384.size a) ∧
  (∀ a x, ((![v236, v390] : Fin 2 → IVec S16 32) a x).toNat < S96x384.size a)
theorem k0_idx117_inb : ∀ (v234 : IVec S16 32) (v236 : IVec S16 32) (v390 : IVec S16 32) (k0_hw59 : k0_chk59 v234 v236 v390), ∀ a x, ((![v234, v390] : Fin 2 → IVec S16 32) a x).toNat < S96x384.size a := fun v234 v236 v390 k0_hw59 => k0_hw59.1
theorem k0_idx119_inb : ∀ (v234 : IVec S16 32) (v236 : IVec S16 32) (v390 : IVec S16 32) (k0_hw59 : k0_chk59 v234 v236 v390), ∀ a x, ((![v236, v390] : Fin 2 → IVec S16 32) a x).toNat < S96x384.size a := fun v234 v236 v390 k0_hw59 => k0_hw59.2

def k0_chk60 (v234 : IVec S16 32) (v236 : IVec S16 32) (v392 : IVec S16 32) : Prop :=
  (∀ a x, ((![v234, v392] : Fin 2 → IVec S16 32) a x).toNat < S96x384.size a) ∧
  (∀ a x, ((![v236, v392] : Fin 2 → IVec S16 32) a x).toNat < S96x384.size a)
theorem k0_idx118_inb : ∀ (v234 : IVec S16 32) (v236 : IVec S16 32) (v392 : IVec S16 32) (k0_hw60 : k0_chk60 v234 v236 v392), ∀ a x, ((![v234, v392] : Fin 2 → IVec S16 32) a x).toNat < S96x384.size a := fun v234 v236 v392 k0_hw60 => k0_hw60.1
theorem k0_idx120_inb : ∀ (v234 : IVec S16 32) (v236 : IVec S16 32) (v392 : IVec S16 32) (k0_hw60 : k0_chk60 v234 v236 v392), ∀ a x, ((![v236, v392] : Fin 2 → IVec S16 32) a x).toNat < S96x384.size a := fun v234 v236 v392 k0_hw60 => k0_hw60.2
def k0_off39 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v423 : Index := Scalar.indexCast v230
  let c96 : Index := 96#32
  ![v423.toNat, 96]

def k0_chk61 (v234 : IVec S16 32) (v236 : IVec S16 32) (v420 : IVec S16 32) : Prop :=
  (∀ a x, ((![v234, v420] : Fin 2 → IVec S16 32) a x).toNat < S96x384.size a) ∧
  (∀ a x, ((![v236, v420] : Fin 2 → IVec S16 32) a x).toNat < S96x384.size a)
theorem k0_idx121_inb : ∀ (v234 : IVec S16 32) (v236 : IVec S16 32) (v420 : IVec S16 32) (k0_hw61 : k0_chk61 v234 v236 v420), ∀ a x, ((![v234, v420] : Fin 2 → IVec S16 32) a x).toNat < S96x384.size a := fun v234 v236 v420 k0_hw61 => k0_hw61.1
theorem k0_idx123_inb : ∀ (v234 : IVec S16 32) (v236 : IVec S16 32) (v420 : IVec S16 32) (k0_hw61 : k0_chk61 v234 v236 v420), ∀ a x, ((![v236, v420] : Fin 2 → IVec S16 32) a x).toNat < S96x384.size a := fun v234 v236 v420 k0_hw61 => k0_hw61.2

def k0_chk62 (v234 : IVec S16 32) (v236 : IVec S16 32) (v422 : IVec S16 32) : Prop :=
  (∀ a x, ((![v234, v422] : Fin 2 → IVec S16 32) a x).toNat < S96x384.size a) ∧
  (∀ a x, ((![v236, v422] : Fin 2 → IVec S16 32) a x).toNat < S96x384.size a)
theorem k0_idx122_inb : ∀ (v234 : IVec S16 32) (v236 : IVec S16 32) (v422 : IVec S16 32) (k0_hw62 : k0_chk62 v234 v236 v422), ∀ a x, ((![v234, v422] : Fin 2 → IVec S16 32) a x).toNat < S96x384.size a := fun v234 v236 v422 k0_hw62 => k0_hw62.1
theorem k0_idx124_inb : ∀ (v234 : IVec S16 32) (v236 : IVec S16 32) (v422 : IVec S16 32) (k0_hw62 : k0_chk62 v234 v236 v422), ∀ a x, ((![v236, v422] : Fin 2 → IVec S16 32) a x).toNat < S96x384.size a := fun v234 v236 v422 k0_hw62 => k0_hw62.2
def k0_off40 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v453 : Index := Scalar.indexCast v230
  let c112 : Index := 112#32
  ![v453.toNat, 112]

def k0_chk63 (v234 : IVec S16 32) (v236 : IVec S16 32) (v450 : IVec S16 32) : Prop :=
  (∀ a x, ((![v234, v450] : Fin 2 → IVec S16 32) a x).toNat < S96x384.size a) ∧
  (∀ a x, ((![v236, v450] : Fin 2 → IVec S16 32) a x).toNat < S96x384.size a)
theorem k0_idx125_inb : ∀ (v234 : IVec S16 32) (v236 : IVec S16 32) (v450 : IVec S16 32) (k0_hw63 : k0_chk63 v234 v236 v450), ∀ a x, ((![v234, v450] : Fin 2 → IVec S16 32) a x).toNat < S96x384.size a := fun v234 v236 v450 k0_hw63 => k0_hw63.1
theorem k0_idx127_inb : ∀ (v234 : IVec S16 32) (v236 : IVec S16 32) (v450 : IVec S16 32) (k0_hw63 : k0_chk63 v234 v236 v450), ∀ a x, ((![v236, v450] : Fin 2 → IVec S16 32) a x).toNat < S96x384.size a := fun v234 v236 v450 k0_hw63 => k0_hw63.2

def k0_chk64 (v234 : IVec S16 32) (v236 : IVec S16 32) (v452 : IVec S16 32) : Prop :=
  (∀ a x, ((![v234, v452] : Fin 2 → IVec S16 32) a x).toNat < S96x384.size a) ∧
  (∀ a x, ((![v236, v452] : Fin 2 → IVec S16 32) a x).toNat < S96x384.size a)
theorem k0_idx126_inb : ∀ (v234 : IVec S16 32) (v236 : IVec S16 32) (v452 : IVec S16 32) (k0_hw64 : k0_chk64 v234 v236 v452), ∀ a x, ((![v234, v452] : Fin 2 → IVec S16 32) a x).toNat < S96x384.size a := fun v234 v236 v452 k0_hw64 => k0_hw64.1
theorem k0_idx128_inb : ∀ (v234 : IVec S16 32) (v236 : IVec S16 32) (v452 : IVec S16 32) (k0_hw64 : k0_chk64 v234 v236 v452), ∀ a x, ((![v236, v452] : Fin 2 → IVec S16 32) a x).toNat < S96x384.size a := fun v234 v236 v452 k0_hw64 => k0_hw64.2
def k0_off41 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v483 : Index := Scalar.indexCast v230
  let c128 : Index := 128#32
  ![v483.toNat, 128]

def k0_chk65 (v234 : IVec S16 32) (v236 : IVec S16 32) (v480 : IVec S16 32) : Prop :=
  (∀ a x, ((![v234, v480] : Fin 2 → IVec S16 32) a x).toNat < S96x384.size a) ∧
  (∀ a x, ((![v236, v480] : Fin 2 → IVec S16 32) a x).toNat < S96x384.size a)
theorem k0_idx129_inb : ∀ (v234 : IVec S16 32) (v236 : IVec S16 32) (v480 : IVec S16 32) (k0_hw65 : k0_chk65 v234 v236 v480), ∀ a x, ((![v234, v480] : Fin 2 → IVec S16 32) a x).toNat < S96x384.size a := fun v234 v236 v480 k0_hw65 => k0_hw65.1
theorem k0_idx131_inb : ∀ (v234 : IVec S16 32) (v236 : IVec S16 32) (v480 : IVec S16 32) (k0_hw65 : k0_chk65 v234 v236 v480), ∀ a x, ((![v236, v480] : Fin 2 → IVec S16 32) a x).toNat < S96x384.size a := fun v234 v236 v480 k0_hw65 => k0_hw65.2

def k0_chk66 (v234 : IVec S16 32) (v236 : IVec S16 32) (v482 : IVec S16 32) : Prop :=
  (∀ a x, ((![v234, v482] : Fin 2 → IVec S16 32) a x).toNat < S96x384.size a) ∧
  (∀ a x, ((![v236, v482] : Fin 2 → IVec S16 32) a x).toNat < S96x384.size a)
theorem k0_idx130_inb : ∀ (v234 : IVec S16 32) (v236 : IVec S16 32) (v482 : IVec S16 32) (k0_hw66 : k0_chk66 v234 v236 v482), ∀ a x, ((![v234, v482] : Fin 2 → IVec S16 32) a x).toNat < S96x384.size a := fun v234 v236 v482 k0_hw66 => k0_hw66.1
theorem k0_idx132_inb : ∀ (v234 : IVec S16 32) (v236 : IVec S16 32) (v482 : IVec S16 32) (k0_hw66 : k0_chk66 v234 v236 v482), ∀ a x, ((![v236, v482] : Fin 2 → IVec S16 32) a x).toNat < S96x384.size a := fun v234 v236 v482 k0_hw66 => k0_hw66.2
def k0_off42 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v513 : Index := Scalar.indexCast v230
  let c144 : Index := 144#32
  ![v513.toNat, 144]

def k0_chk67 (v234 : IVec S16 32) (v236 : IVec S16 32) (v510 : IVec S16 32) : Prop :=
  (∀ a x, ((![v234, v510] : Fin 2 → IVec S16 32) a x).toNat < S96x384.size a) ∧
  (∀ a x, ((![v236, v510] : Fin 2 → IVec S16 32) a x).toNat < S96x384.size a)
theorem k0_idx133_inb : ∀ (v234 : IVec S16 32) (v236 : IVec S16 32) (v510 : IVec S16 32) (k0_hw67 : k0_chk67 v234 v236 v510), ∀ a x, ((![v234, v510] : Fin 2 → IVec S16 32) a x).toNat < S96x384.size a := fun v234 v236 v510 k0_hw67 => k0_hw67.1
theorem k0_idx135_inb : ∀ (v234 : IVec S16 32) (v236 : IVec S16 32) (v510 : IVec S16 32) (k0_hw67 : k0_chk67 v234 v236 v510), ∀ a x, ((![v236, v510] : Fin 2 → IVec S16 32) a x).toNat < S96x384.size a := fun v234 v236 v510 k0_hw67 => k0_hw67.2

def k0_chk68 (v234 : IVec S16 32) (v236 : IVec S16 32) (v512 : IVec S16 32) : Prop :=
  (∀ a x, ((![v234, v512] : Fin 2 → IVec S16 32) a x).toNat < S96x384.size a) ∧
  (∀ a x, ((![v236, v512] : Fin 2 → IVec S16 32) a x).toNat < S96x384.size a)
theorem k0_idx134_inb : ∀ (v234 : IVec S16 32) (v236 : IVec S16 32) (v512 : IVec S16 32) (k0_hw68 : k0_chk68 v234 v236 v512), ∀ a x, ((![v234, v512] : Fin 2 → IVec S16 32) a x).toNat < S96x384.size a := fun v234 v236 v512 k0_hw68 => k0_hw68.1
theorem k0_idx136_inb : ∀ (v234 : IVec S16 32) (v236 : IVec S16 32) (v512 : IVec S16 32) (k0_hw68 : k0_chk68 v234 v236 v512), ∀ a x, ((![v236, v512] : Fin 2 → IVec S16 32) a x).toNat < S96x384.size a := fun v234 v236 v512 k0_hw68 => k0_hw68.2
def k0_off43 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v543 : Index := Scalar.indexCast v230
  let c160 : Index := 160#32
  ![v543.toNat, 160]

def k0_chk69 (v234 : IVec S16 32) (v236 : IVec S16 32) (v540 : IVec S16 32) : Prop :=
  (∀ a x, ((![v234, v540] : Fin 2 → IVec S16 32) a x).toNat < S96x384.size a) ∧
  (∀ a x, ((![v236, v540] : Fin 2 → IVec S16 32) a x).toNat < S96x384.size a)
theorem k0_idx137_inb : ∀ (v234 : IVec S16 32) (v236 : IVec S16 32) (v540 : IVec S16 32) (k0_hw69 : k0_chk69 v234 v236 v540), ∀ a x, ((![v234, v540] : Fin 2 → IVec S16 32) a x).toNat < S96x384.size a := fun v234 v236 v540 k0_hw69 => k0_hw69.1
theorem k0_idx139_inb : ∀ (v234 : IVec S16 32) (v236 : IVec S16 32) (v540 : IVec S16 32) (k0_hw69 : k0_chk69 v234 v236 v540), ∀ a x, ((![v236, v540] : Fin 2 → IVec S16 32) a x).toNat < S96x384.size a := fun v234 v236 v540 k0_hw69 => k0_hw69.2

def k0_chk70 (v234 : IVec S16 32) (v236 : IVec S16 32) (v542 : IVec S16 32) : Prop :=
  (∀ a x, ((![v234, v542] : Fin 2 → IVec S16 32) a x).toNat < S96x384.size a) ∧
  (∀ a x, ((![v236, v542] : Fin 2 → IVec S16 32) a x).toNat < S96x384.size a)
theorem k0_idx138_inb : ∀ (v234 : IVec S16 32) (v236 : IVec S16 32) (v542 : IVec S16 32) (k0_hw70 : k0_chk70 v234 v236 v542), ∀ a x, ((![v234, v542] : Fin 2 → IVec S16 32) a x).toNat < S96x384.size a := fun v234 v236 v542 k0_hw70 => k0_hw70.1
theorem k0_idx140_inb : ∀ (v234 : IVec S16 32) (v236 : IVec S16 32) (v542 : IVec S16 32) (k0_hw70 : k0_chk70 v234 v236 v542), ∀ a x, ((![v236, v542] : Fin 2 → IVec S16 32) a x).toNat < S96x384.size a := fun v234 v236 v542 k0_hw70 => k0_hw70.2
def k0_off44 (k0_t4 : Fin k0_t4_loop.trips) : Fin 2 → Nat :=
  let c0_i32_202 : BitVec 32 := 0#32
  let c0_i32_155 : BitVec 32 := 0#32
  let c1_i32_157 : BitVec 32 := 1#32
  let arg16 : BitVec 32 := Scf.iv c0_i32_155 c1_i32_157 k0_t4
  let c1_i32_201 : BitVec 32 := 1#32
  let v229 : BitVec 32 := Scalar.muli arg16 c1_i32_201
  let v230 : BitVec 32 := Scalar.addi c0_i32_202 v229
  let v573 : Index := Scalar.indexCast v230
  let c176 : Index := 176#32
  ![v573.toNat, 176]

def k0_chk71 (v234 : IVec S16 32) (v236 : IVec S16 32) (v570 : IVec S16 32) : Prop :=
  (∀ a x, ((![v234, v570] : Fin 2 → IVec S16 32) a x).toNat < S96x384.size a) ∧
  (∀ a x, ((![v236, v570] : Fin 2 → IVec S16 32) a x).toNat < S96x384.size a)
theorem k0_idx141_inb : ∀ (v234 : IVec S16 32) (v236 : IVec S16 32) (v570 : IVec S16 32) (k0_hw71 : k0_chk71 v234 v236 v570), ∀ a x, ((![v234, v570] : Fin 2 → IVec S16 32) a x).toNat < S96x384.size a := fun v234 v236 v570 k0_hw71 => k0_hw71.1
theorem k0_idx143_inb : ∀ (v234 : IVec S16 32) (v236 : IVec S16 32) (v570 : IVec S16 32) (k0_hw71 : k0_chk71 v234 v236 v570), ∀ a x, ((![v236, v570] : Fin 2 → IVec S16 32) a x).toNat < S96x384.size a := fun v234 v236 v570 k0_hw71 => k0_hw71.2

def k0_chk72 (v234 : IVec S16 32) (v236 : IVec S16 32) (v572 : IVec S16 32) : Prop :=
  (∀ a x, ((![v234, v572] : Fin 2 → IVec S16 32) a x).toNat < S96x384.size a) ∧
  (∀ a x, ((![v236, v572] : Fin 2 → IVec S16 32) a x).toNat < S96x384.size a)
theorem k0_idx142_inb : ∀ (v234 : IVec S16 32) (v236 : IVec S16 32) (v572 : IVec S16 32) (k0_hw72 : k0_chk72 v234 v236 v572), ∀ a x, ((![v234, v572] : Fin 2 → IVec S16 32) a x).toNat < S96x384.size a := fun v234 v236 v572 k0_hw72 => k0_hw72.1
theorem k0_idx144_inb : ∀ (v234 : IVec S16 32) (v236 : IVec S16 32) (v572 : IVec S16 32) (k0_hw72 : k0_chk72 v234 v236 v572), ∀ a x, ((![v236, v572] : Fin 2 → IVec S16 32) a x).toNat < S96x384.size a := fun v234 v236 v572 k0_hw72 => k0_hw72.2
def k0_off45 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c1_i32_62 : BitVec 32 := 1#32
  let c1_i32_63 : BitVec 32 := 1#32
  let arg15 : BitVec 32 := Scf.iv c1_i32_62 c1_i32_63 k0_t3
  let c2_i32_130 : BitVec 32 := 2#32
  let v129 : BitVec 32 := Scalar.muli arg15 c2_i32_130
  let c1_i32_165 : BitVec 32 := 1#32
  let v179 : BitVec 32 := Scalar.addi v129 c1_i32_165
  let c1_i32_166 : BitVec 32 := 1#32
  let v180 : BitVec 32 := Scalar.addi v179 c1_i32_166
  let c2_i32_167 : BitVec 32 := 2#32
  let v181 : BitVec 32 := Scalar.shrsi v180 c2_i32_167
  let v182 : BitVec 32 := Scalar.addi v2 v181
  let c3_i32_168 : BitVec 32 := 3#32
  let v183 : BitVec 32 := Scalar.andi v180 c3_i32_168
  let c48_i32_169 : BitVec 32 := 48#32
  let v184 : BitVec 32 := Scalar.muli v183 c48_i32_169
  let c0_i32_170 : BitVec 32 := 0#32
  ![v182.toNat, v184.toNat, 0]
def k0_off46 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c1_i32_62 : BitVec 32 := 1#32
  let c1_i32_63 : BitVec 32 := 1#32
  let arg15 : BitVec 32 := Scf.iv c1_i32_62 c1_i32_63 k0_t3
  let c2_i32_130 : BitVec 32 := 2#32
  let v129 : BitVec 32 := Scalar.muli arg15 c2_i32_130
  let c1_i32_165 : BitVec 32 := 1#32
  let v179 : BitVec 32 := Scalar.addi v129 c1_i32_165
  let c2_i32_174 : BitVec 32 := 2#32
  let v193 : BitVec 32 := Scalar.shrsi v179 c2_i32_174
  let v194 : BitVec 32 := Scalar.addi v2 v193
  let c2_i32_177 : BitVec 32 := 2#32
  let c3_i32_175 : BitVec 32 := 3#32
  let v195 : BitVec 32 := Scalar.andi v179 c3_i32_175
  let c48_i32_176 : BitVec 32 := 48#32
  let v196 : BitVec 32 := Scalar.muli v195 c48_i32_176
  let v197 : BitVec 32 := Scalar.muli c2_i32_177 v196
  let c0_i32_178 : BitVec 32 := 0#32
  ![v194.toNat, v197.toNat, 0]
@[reducible] def k0_t5_loop : Scf.Loop 32 :=
  let c0_i32_191 : BitVec 32 := 0#32
  let c48_i32_192 : BitVec 32 := 48#32
  let v219 : BitVec 32 := Scalar.addi c0_i32_191 c48_i32_192
  let c1_i32_193 : BitVec 32 := 1#32
  ⟨c0_i32_191, v219, c1_i32_193⟩
def k0_off47 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v243 : Index := Scalar.indexCast v230
  let c0 : Index := 0#32
  ![v243.toNat, 0]

def k0_chk73 (v234 : IVec S16 32) (v236 : IVec S16 32) (v240 : IVec S16 32) : Prop :=
  (∀ a x, ((![v234, v240] : Fin 2 → IVec S16 32) a x).toNat < S96x384.size a) ∧
  (∀ a x, ((![v236, v240] : Fin 2 → IVec S16 32) a x).toNat < S96x384.size a)
theorem k0_idx145_inb : ∀ (v234 : IVec S16 32) (v236 : IVec S16 32) (v240 : IVec S16 32) (k0_hw73 : k0_chk73 v234 v236 v240), ∀ a x, ((![v234, v240] : Fin 2 → IVec S16 32) a x).toNat < S96x384.size a := fun v234 v236 v240 k0_hw73 => k0_hw73.1
theorem k0_idx147_inb : ∀ (v234 : IVec S16 32) (v236 : IVec S16 32) (v240 : IVec S16 32) (k0_hw73 : k0_chk73 v234 v236 v240), ∀ a x, ((![v236, v240] : Fin 2 → IVec S16 32) a x).toNat < S96x384.size a := fun v234 v236 v240 k0_hw73 => k0_hw73.2

def k0_chk74 (v234 : IVec S16 32) (v236 : IVec S16 32) (v242 : IVec S16 32) : Prop :=
  (∀ a x, ((![v234, v242] : Fin 2 → IVec S16 32) a x).toNat < S96x384.size a) ∧
  (∀ a x, ((![v236, v242] : Fin 2 → IVec S16 32) a x).toNat < S96x384.size a)
theorem k0_idx146_inb : ∀ (v234 : IVec S16 32) (v236 : IVec S16 32) (v242 : IVec S16 32) (k0_hw74 : k0_chk74 v234 v236 v242), ∀ a x, ((![v234, v242] : Fin 2 → IVec S16 32) a x).toNat < S96x384.size a := fun v234 v236 v242 k0_hw74 => k0_hw74.1
theorem k0_idx148_inb : ∀ (v234 : IVec S16 32) (v236 : IVec S16 32) (v242 : IVec S16 32) (k0_hw74 : k0_chk74 v234 v236 v242), ∀ a x, ((![v236, v242] : Fin 2 → IVec S16 32) a x).toNat < S96x384.size a := fun v234 v236 v242 k0_hw74 => k0_hw74.2
def k0_off48 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v273 : Index := Scalar.indexCast v230
  let c16 : Index := 16#32
  ![v273.toNat, 16]

def k0_chk75 (v234 : IVec S16 32) (v236 : IVec S16 32) (v270 : IVec S16 32) : Prop :=
  (∀ a x, ((![v234, v270] : Fin 2 → IVec S16 32) a x).toNat < S96x384.size a) ∧
  (∀ a x, ((![v236, v270] : Fin 2 → IVec S16 32) a x).toNat < S96x384.size a)
theorem k0_idx149_inb : ∀ (v234 : IVec S16 32) (v236 : IVec S16 32) (v270 : IVec S16 32) (k0_hw75 : k0_chk75 v234 v236 v270), ∀ a x, ((![v234, v270] : Fin 2 → IVec S16 32) a x).toNat < S96x384.size a := fun v234 v236 v270 k0_hw75 => k0_hw75.1
theorem k0_idx151_inb : ∀ (v234 : IVec S16 32) (v236 : IVec S16 32) (v270 : IVec S16 32) (k0_hw75 : k0_chk75 v234 v236 v270), ∀ a x, ((![v236, v270] : Fin 2 → IVec S16 32) a x).toNat < S96x384.size a := fun v234 v236 v270 k0_hw75 => k0_hw75.2

def k0_chk76 (v234 : IVec S16 32) (v236 : IVec S16 32) (v272 : IVec S16 32) : Prop :=
  (∀ a x, ((![v234, v272] : Fin 2 → IVec S16 32) a x).toNat < S96x384.size a) ∧
  (∀ a x, ((![v236, v272] : Fin 2 → IVec S16 32) a x).toNat < S96x384.size a)
theorem k0_idx150_inb : ∀ (v234 : IVec S16 32) (v236 : IVec S16 32) (v272 : IVec S16 32) (k0_hw76 : k0_chk76 v234 v236 v272), ∀ a x, ((![v234, v272] : Fin 2 → IVec S16 32) a x).toNat < S96x384.size a := fun v234 v236 v272 k0_hw76 => k0_hw76.1
theorem k0_idx152_inb : ∀ (v234 : IVec S16 32) (v236 : IVec S16 32) (v272 : IVec S16 32) (k0_hw76 : k0_chk76 v234 v236 v272), ∀ a x, ((![v236, v272] : Fin 2 → IVec S16 32) a x).toNat < S96x384.size a := fun v234 v236 v272 k0_hw76 => k0_hw76.2
def k0_off49 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v303 : Index := Scalar.indexCast v230
  let c32 : Index := 32#32
  ![v303.toNat, 32]

def k0_chk77 (v234 : IVec S16 32) (v236 : IVec S16 32) (v300 : IVec S16 32) : Prop :=
  (∀ a x, ((![v234, v300] : Fin 2 → IVec S16 32) a x).toNat < S96x384.size a) ∧
  (∀ a x, ((![v236, v300] : Fin 2 → IVec S16 32) a x).toNat < S96x384.size a)
theorem k0_idx153_inb : ∀ (v234 : IVec S16 32) (v236 : IVec S16 32) (v300 : IVec S16 32) (k0_hw77 : k0_chk77 v234 v236 v300), ∀ a x, ((![v234, v300] : Fin 2 → IVec S16 32) a x).toNat < S96x384.size a := fun v234 v236 v300 k0_hw77 => k0_hw77.1
theorem k0_idx155_inb : ∀ (v234 : IVec S16 32) (v236 : IVec S16 32) (v300 : IVec S16 32) (k0_hw77 : k0_chk77 v234 v236 v300), ∀ a x, ((![v236, v300] : Fin 2 → IVec S16 32) a x).toNat < S96x384.size a := fun v234 v236 v300 k0_hw77 => k0_hw77.2

def k0_chk78 (v234 : IVec S16 32) (v236 : IVec S16 32) (v302 : IVec S16 32) : Prop :=
  (∀ a x, ((![v234, v302] : Fin 2 → IVec S16 32) a x).toNat < S96x384.size a) ∧
  (∀ a x, ((![v236, v302] : Fin 2 → IVec S16 32) a x).toNat < S96x384.size a)
theorem k0_idx154_inb : ∀ (v234 : IVec S16 32) (v236 : IVec S16 32) (v302 : IVec S16 32) (k0_hw78 : k0_chk78 v234 v236 v302), ∀ a x, ((![v234, v302] : Fin 2 → IVec S16 32) a x).toNat < S96x384.size a := fun v234 v236 v302 k0_hw78 => k0_hw78.1
theorem k0_idx156_inb : ∀ (v234 : IVec S16 32) (v236 : IVec S16 32) (v302 : IVec S16 32) (k0_hw78 : k0_chk78 v234 v236 v302), ∀ a x, ((![v236, v302] : Fin 2 → IVec S16 32) a x).toNat < S96x384.size a := fun v234 v236 v302 k0_hw78 => k0_hw78.2
def k0_off50 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v333 : Index := Scalar.indexCast v230
  let c48 : Index := 48#32
  ![v333.toNat, 48]

def k0_chk79 (v234 : IVec S16 32) (v236 : IVec S16 32) (v330 : IVec S16 32) : Prop :=
  (∀ a x, ((![v234, v330] : Fin 2 → IVec S16 32) a x).toNat < S96x384.size a) ∧
  (∀ a x, ((![v236, v330] : Fin 2 → IVec S16 32) a x).toNat < S96x384.size a)
theorem k0_idx157_inb : ∀ (v234 : IVec S16 32) (v236 : IVec S16 32) (v330 : IVec S16 32) (k0_hw79 : k0_chk79 v234 v236 v330), ∀ a x, ((![v234, v330] : Fin 2 → IVec S16 32) a x).toNat < S96x384.size a := fun v234 v236 v330 k0_hw79 => k0_hw79.1
theorem k0_idx159_inb : ∀ (v234 : IVec S16 32) (v236 : IVec S16 32) (v330 : IVec S16 32) (k0_hw79 : k0_chk79 v234 v236 v330), ∀ a x, ((![v236, v330] : Fin 2 → IVec S16 32) a x).toNat < S96x384.size a := fun v234 v236 v330 k0_hw79 => k0_hw79.2

def k0_chk80 (v234 : IVec S16 32) (v236 : IVec S16 32) (v332 : IVec S16 32) : Prop :=
  (∀ a x, ((![v234, v332] : Fin 2 → IVec S16 32) a x).toNat < S96x384.size a) ∧
  (∀ a x, ((![v236, v332] : Fin 2 → IVec S16 32) a x).toNat < S96x384.size a)
theorem k0_idx158_inb : ∀ (v234 : IVec S16 32) (v236 : IVec S16 32) (v332 : IVec S16 32) (k0_hw80 : k0_chk80 v234 v236 v332), ∀ a x, ((![v234, v332] : Fin 2 → IVec S16 32) a x).toNat < S96x384.size a := fun v234 v236 v332 k0_hw80 => k0_hw80.1
theorem k0_idx160_inb : ∀ (v234 : IVec S16 32) (v236 : IVec S16 32) (v332 : IVec S16 32) (k0_hw80 : k0_chk80 v234 v236 v332), ∀ a x, ((![v236, v332] : Fin 2 → IVec S16 32) a x).toNat < S96x384.size a := fun v234 v236 v332 k0_hw80 => k0_hw80.2
def k0_off51 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v363 : Index := Scalar.indexCast v230
  let c64 : Index := 64#32
  ![v363.toNat, 64]

def k0_chk81 (v234 : IVec S16 32) (v236 : IVec S16 32) (v360 : IVec S16 32) : Prop :=
  (∀ a x, ((![v234, v360] : Fin 2 → IVec S16 32) a x).toNat < S96x384.size a) ∧
  (∀ a x, ((![v236, v360] : Fin 2 → IVec S16 32) a x).toNat < S96x384.size a)
theorem k0_idx161_inb : ∀ (v234 : IVec S16 32) (v236 : IVec S16 32) (v360 : IVec S16 32) (k0_hw81 : k0_chk81 v234 v236 v360), ∀ a x, ((![v234, v360] : Fin 2 → IVec S16 32) a x).toNat < S96x384.size a := fun v234 v236 v360 k0_hw81 => k0_hw81.1
theorem k0_idx163_inb : ∀ (v234 : IVec S16 32) (v236 : IVec S16 32) (v360 : IVec S16 32) (k0_hw81 : k0_chk81 v234 v236 v360), ∀ a x, ((![v236, v360] : Fin 2 → IVec S16 32) a x).toNat < S96x384.size a := fun v234 v236 v360 k0_hw81 => k0_hw81.2

def k0_chk82 (v234 : IVec S16 32) (v236 : IVec S16 32) (v362 : IVec S16 32) : Prop :=
  (∀ a x, ((![v234, v362] : Fin 2 → IVec S16 32) a x).toNat < S96x384.size a) ∧
  (∀ a x, ((![v236, v362] : Fin 2 → IVec S16 32) a x).toNat < S96x384.size a)
theorem k0_idx162_inb : ∀ (v234 : IVec S16 32) (v236 : IVec S16 32) (v362 : IVec S16 32) (k0_hw82 : k0_chk82 v234 v236 v362), ∀ a x, ((![v234, v362] : Fin 2 → IVec S16 32) a x).toNat < S96x384.size a := fun v234 v236 v362 k0_hw82 => k0_hw82.1
theorem k0_idx164_inb : ∀ (v234 : IVec S16 32) (v236 : IVec S16 32) (v362 : IVec S16 32) (k0_hw82 : k0_chk82 v234 v236 v362), ∀ a x, ((![v236, v362] : Fin 2 → IVec S16 32) a x).toNat < S96x384.size a := fun v234 v236 v362 k0_hw82 => k0_hw82.2
def k0_off52 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v393 : Index := Scalar.indexCast v230
  let c80 : Index := 80#32
  ![v393.toNat, 80]

def k0_chk83 (v234 : IVec S16 32) (v236 : IVec S16 32) (v390 : IVec S16 32) : Prop :=
  (∀ a x, ((![v234, v390] : Fin 2 → IVec S16 32) a x).toNat < S96x384.size a) ∧
  (∀ a x, ((![v236, v390] : Fin 2 → IVec S16 32) a x).toNat < S96x384.size a)
theorem k0_idx165_inb : ∀ (v234 : IVec S16 32) (v236 : IVec S16 32) (v390 : IVec S16 32) (k0_hw83 : k0_chk83 v234 v236 v390), ∀ a x, ((![v234, v390] : Fin 2 → IVec S16 32) a x).toNat < S96x384.size a := fun v234 v236 v390 k0_hw83 => k0_hw83.1
theorem k0_idx167_inb : ∀ (v234 : IVec S16 32) (v236 : IVec S16 32) (v390 : IVec S16 32) (k0_hw83 : k0_chk83 v234 v236 v390), ∀ a x, ((![v236, v390] : Fin 2 → IVec S16 32) a x).toNat < S96x384.size a := fun v234 v236 v390 k0_hw83 => k0_hw83.2

def k0_chk84 (v234 : IVec S16 32) (v236 : IVec S16 32) (v392 : IVec S16 32) : Prop :=
  (∀ a x, ((![v234, v392] : Fin 2 → IVec S16 32) a x).toNat < S96x384.size a) ∧
  (∀ a x, ((![v236, v392] : Fin 2 → IVec S16 32) a x).toNat < S96x384.size a)
theorem k0_idx166_inb : ∀ (v234 : IVec S16 32) (v236 : IVec S16 32) (v392 : IVec S16 32) (k0_hw84 : k0_chk84 v234 v236 v392), ∀ a x, ((![v234, v392] : Fin 2 → IVec S16 32) a x).toNat < S96x384.size a := fun v234 v236 v392 k0_hw84 => k0_hw84.1
theorem k0_idx168_inb : ∀ (v234 : IVec S16 32) (v236 : IVec S16 32) (v392 : IVec S16 32) (k0_hw84 : k0_chk84 v234 v236 v392), ∀ a x, ((![v236, v392] : Fin 2 → IVec S16 32) a x).toNat < S96x384.size a := fun v234 v236 v392 k0_hw84 => k0_hw84.2
def k0_off53 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v423 : Index := Scalar.indexCast v230
  let c96 : Index := 96#32
  ![v423.toNat, 96]

def k0_chk85 (v234 : IVec S16 32) (v236 : IVec S16 32) (v420 : IVec S16 32) : Prop :=
  (∀ a x, ((![v234, v420] : Fin 2 → IVec S16 32) a x).toNat < S96x384.size a) ∧
  (∀ a x, ((![v236, v420] : Fin 2 → IVec S16 32) a x).toNat < S96x384.size a)
theorem k0_idx169_inb : ∀ (v234 : IVec S16 32) (v236 : IVec S16 32) (v420 : IVec S16 32) (k0_hw85 : k0_chk85 v234 v236 v420), ∀ a x, ((![v234, v420] : Fin 2 → IVec S16 32) a x).toNat < S96x384.size a := fun v234 v236 v420 k0_hw85 => k0_hw85.1
theorem k0_idx171_inb : ∀ (v234 : IVec S16 32) (v236 : IVec S16 32) (v420 : IVec S16 32) (k0_hw85 : k0_chk85 v234 v236 v420), ∀ a x, ((![v236, v420] : Fin 2 → IVec S16 32) a x).toNat < S96x384.size a := fun v234 v236 v420 k0_hw85 => k0_hw85.2

def k0_chk86 (v234 : IVec S16 32) (v236 : IVec S16 32) (v422 : IVec S16 32) : Prop :=
  (∀ a x, ((![v234, v422] : Fin 2 → IVec S16 32) a x).toNat < S96x384.size a) ∧
  (∀ a x, ((![v236, v422] : Fin 2 → IVec S16 32) a x).toNat < S96x384.size a)
theorem k0_idx170_inb : ∀ (v234 : IVec S16 32) (v236 : IVec S16 32) (v422 : IVec S16 32) (k0_hw86 : k0_chk86 v234 v236 v422), ∀ a x, ((![v234, v422] : Fin 2 → IVec S16 32) a x).toNat < S96x384.size a := fun v234 v236 v422 k0_hw86 => k0_hw86.1
theorem k0_idx172_inb : ∀ (v234 : IVec S16 32) (v236 : IVec S16 32) (v422 : IVec S16 32) (k0_hw86 : k0_chk86 v234 v236 v422), ∀ a x, ((![v236, v422] : Fin 2 → IVec S16 32) a x).toNat < S96x384.size a := fun v234 v236 v422 k0_hw86 => k0_hw86.2
def k0_off54 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v453 : Index := Scalar.indexCast v230
  let c112 : Index := 112#32
  ![v453.toNat, 112]

def k0_chk87 (v234 : IVec S16 32) (v236 : IVec S16 32) (v450 : IVec S16 32) : Prop :=
  (∀ a x, ((![v234, v450] : Fin 2 → IVec S16 32) a x).toNat < S96x384.size a) ∧
  (∀ a x, ((![v236, v450] : Fin 2 → IVec S16 32) a x).toNat < S96x384.size a)
theorem k0_idx173_inb : ∀ (v234 : IVec S16 32) (v236 : IVec S16 32) (v450 : IVec S16 32) (k0_hw87 : k0_chk87 v234 v236 v450), ∀ a x, ((![v234, v450] : Fin 2 → IVec S16 32) a x).toNat < S96x384.size a := fun v234 v236 v450 k0_hw87 => k0_hw87.1
theorem k0_idx175_inb : ∀ (v234 : IVec S16 32) (v236 : IVec S16 32) (v450 : IVec S16 32) (k0_hw87 : k0_chk87 v234 v236 v450), ∀ a x, ((![v236, v450] : Fin 2 → IVec S16 32) a x).toNat < S96x384.size a := fun v234 v236 v450 k0_hw87 => k0_hw87.2

def k0_chk88 (v234 : IVec S16 32) (v236 : IVec S16 32) (v452 : IVec S16 32) : Prop :=
  (∀ a x, ((![v234, v452] : Fin 2 → IVec S16 32) a x).toNat < S96x384.size a) ∧
  (∀ a x, ((![v236, v452] : Fin 2 → IVec S16 32) a x).toNat < S96x384.size a)
theorem k0_idx174_inb : ∀ (v234 : IVec S16 32) (v236 : IVec S16 32) (v452 : IVec S16 32) (k0_hw88 : k0_chk88 v234 v236 v452), ∀ a x, ((![v234, v452] : Fin 2 → IVec S16 32) a x).toNat < S96x384.size a := fun v234 v236 v452 k0_hw88 => k0_hw88.1
theorem k0_idx176_inb : ∀ (v234 : IVec S16 32) (v236 : IVec S16 32) (v452 : IVec S16 32) (k0_hw88 : k0_chk88 v234 v236 v452), ∀ a x, ((![v236, v452] : Fin 2 → IVec S16 32) a x).toNat < S96x384.size a := fun v234 v236 v452 k0_hw88 => k0_hw88.2
def k0_off55 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v483 : Index := Scalar.indexCast v230
  let c128 : Index := 128#32
  ![v483.toNat, 128]

def k0_chk89 (v234 : IVec S16 32) (v236 : IVec S16 32) (v480 : IVec S16 32) : Prop :=
  (∀ a x, ((![v234, v480] : Fin 2 → IVec S16 32) a x).toNat < S96x384.size a) ∧
  (∀ a x, ((![v236, v480] : Fin 2 → IVec S16 32) a x).toNat < S96x384.size a)
theorem k0_idx177_inb : ∀ (v234 : IVec S16 32) (v236 : IVec S16 32) (v480 : IVec S16 32) (k0_hw89 : k0_chk89 v234 v236 v480), ∀ a x, ((![v234, v480] : Fin 2 → IVec S16 32) a x).toNat < S96x384.size a := fun v234 v236 v480 k0_hw89 => k0_hw89.1
theorem k0_idx179_inb : ∀ (v234 : IVec S16 32) (v236 : IVec S16 32) (v480 : IVec S16 32) (k0_hw89 : k0_chk89 v234 v236 v480), ∀ a x, ((![v236, v480] : Fin 2 → IVec S16 32) a x).toNat < S96x384.size a := fun v234 v236 v480 k0_hw89 => k0_hw89.2

def k0_chk90 (v234 : IVec S16 32) (v236 : IVec S16 32) (v482 : IVec S16 32) : Prop :=
  (∀ a x, ((![v234, v482] : Fin 2 → IVec S16 32) a x).toNat < S96x384.size a) ∧
  (∀ a x, ((![v236, v482] : Fin 2 → IVec S16 32) a x).toNat < S96x384.size a)
theorem k0_idx178_inb : ∀ (v234 : IVec S16 32) (v236 : IVec S16 32) (v482 : IVec S16 32) (k0_hw90 : k0_chk90 v234 v236 v482), ∀ a x, ((![v234, v482] : Fin 2 → IVec S16 32) a x).toNat < S96x384.size a := fun v234 v236 v482 k0_hw90 => k0_hw90.1
theorem k0_idx180_inb : ∀ (v234 : IVec S16 32) (v236 : IVec S16 32) (v482 : IVec S16 32) (k0_hw90 : k0_chk90 v234 v236 v482), ∀ a x, ((![v236, v482] : Fin 2 → IVec S16 32) a x).toNat < S96x384.size a := fun v234 v236 v482 k0_hw90 => k0_hw90.2
def k0_off56 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v513 : Index := Scalar.indexCast v230
  let c144 : Index := 144#32
  ![v513.toNat, 144]

def k0_chk91 (v234 : IVec S16 32) (v236 : IVec S16 32) (v510 : IVec S16 32) : Prop :=
  (∀ a x, ((![v234, v510] : Fin 2 → IVec S16 32) a x).toNat < S96x384.size a) ∧
  (∀ a x, ((![v236, v510] : Fin 2 → IVec S16 32) a x).toNat < S96x384.size a)
theorem k0_idx181_inb : ∀ (v234 : IVec S16 32) (v236 : IVec S16 32) (v510 : IVec S16 32) (k0_hw91 : k0_chk91 v234 v236 v510), ∀ a x, ((![v234, v510] : Fin 2 → IVec S16 32) a x).toNat < S96x384.size a := fun v234 v236 v510 k0_hw91 => k0_hw91.1
theorem k0_idx183_inb : ∀ (v234 : IVec S16 32) (v236 : IVec S16 32) (v510 : IVec S16 32) (k0_hw91 : k0_chk91 v234 v236 v510), ∀ a x, ((![v236, v510] : Fin 2 → IVec S16 32) a x).toNat < S96x384.size a := fun v234 v236 v510 k0_hw91 => k0_hw91.2

def k0_chk92 (v234 : IVec S16 32) (v236 : IVec S16 32) (v512 : IVec S16 32) : Prop :=
  (∀ a x, ((![v234, v512] : Fin 2 → IVec S16 32) a x).toNat < S96x384.size a) ∧
  (∀ a x, ((![v236, v512] : Fin 2 → IVec S16 32) a x).toNat < S96x384.size a)
theorem k0_idx182_inb : ∀ (v234 : IVec S16 32) (v236 : IVec S16 32) (v512 : IVec S16 32) (k0_hw92 : k0_chk92 v234 v236 v512), ∀ a x, ((![v234, v512] : Fin 2 → IVec S16 32) a x).toNat < S96x384.size a := fun v234 v236 v512 k0_hw92 => k0_hw92.1
theorem k0_idx184_inb : ∀ (v234 : IVec S16 32) (v236 : IVec S16 32) (v512 : IVec S16 32) (k0_hw92 : k0_chk92 v234 v236 v512), ∀ a x, ((![v236, v512] : Fin 2 → IVec S16 32) a x).toNat < S96x384.size a := fun v234 v236 v512 k0_hw92 => k0_hw92.2
def k0_off57 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v543 : Index := Scalar.indexCast v230
  let c160 : Index := 160#32
  ![v543.toNat, 160]

def k0_chk93 (v234 : IVec S16 32) (v236 : IVec S16 32) (v540 : IVec S16 32) : Prop :=
  (∀ a x, ((![v234, v540] : Fin 2 → IVec S16 32) a x).toNat < S96x384.size a) ∧
  (∀ a x, ((![v236, v540] : Fin 2 → IVec S16 32) a x).toNat < S96x384.size a)
theorem k0_idx185_inb : ∀ (v234 : IVec S16 32) (v236 : IVec S16 32) (v540 : IVec S16 32) (k0_hw93 : k0_chk93 v234 v236 v540), ∀ a x, ((![v234, v540] : Fin 2 → IVec S16 32) a x).toNat < S96x384.size a := fun v234 v236 v540 k0_hw93 => k0_hw93.1
theorem k0_idx187_inb : ∀ (v234 : IVec S16 32) (v236 : IVec S16 32) (v540 : IVec S16 32) (k0_hw93 : k0_chk93 v234 v236 v540), ∀ a x, ((![v236, v540] : Fin 2 → IVec S16 32) a x).toNat < S96x384.size a := fun v234 v236 v540 k0_hw93 => k0_hw93.2

def k0_chk94 (v234 : IVec S16 32) (v236 : IVec S16 32) (v542 : IVec S16 32) : Prop :=
  (∀ a x, ((![v234, v542] : Fin 2 → IVec S16 32) a x).toNat < S96x384.size a) ∧
  (∀ a x, ((![v236, v542] : Fin 2 → IVec S16 32) a x).toNat < S96x384.size a)
theorem k0_idx186_inb : ∀ (v234 : IVec S16 32) (v236 : IVec S16 32) (v542 : IVec S16 32) (k0_hw94 : k0_chk94 v234 v236 v542), ∀ a x, ((![v234, v542] : Fin 2 → IVec S16 32) a x).toNat < S96x384.size a := fun v234 v236 v542 k0_hw94 => k0_hw94.1
theorem k0_idx188_inb : ∀ (v234 : IVec S16 32) (v236 : IVec S16 32) (v542 : IVec S16 32) (k0_hw94 : k0_chk94 v234 v236 v542), ∀ a x, ((![v236, v542] : Fin 2 → IVec S16 32) a x).toNat < S96x384.size a := fun v234 v236 v542 k0_hw94 => k0_hw94.2
def k0_off58 (k0_t5 : Fin k0_t5_loop.trips) : Fin 2 → Nat :=
  let c0_i32_202 : BitVec 32 := 0#32
  let c0_i32_191 : BitVec 32 := 0#32
  let c1_i32_193 : BitVec 32 := 1#32
  let arg16 : BitVec 32 := Scf.iv c0_i32_191 c1_i32_193 k0_t5
  let c1_i32_201 : BitVec 32 := 1#32
  let v229 : BitVec 32 := Scalar.muli arg16 c1_i32_201
  let v230 : BitVec 32 := Scalar.addi c0_i32_202 v229
  let v573 : Index := Scalar.indexCast v230
  let c176 : Index := 176#32
  ![v573.toNat, 176]

def k0_chk95 (v234 : IVec S16 32) (v236 : IVec S16 32) (v570 : IVec S16 32) : Prop :=
  (∀ a x, ((![v234, v570] : Fin 2 → IVec S16 32) a x).toNat < S96x384.size a) ∧
  (∀ a x, ((![v236, v570] : Fin 2 → IVec S16 32) a x).toNat < S96x384.size a)
theorem k0_idx189_inb : ∀ (v234 : IVec S16 32) (v236 : IVec S16 32) (v570 : IVec S16 32) (k0_hw95 : k0_chk95 v234 v236 v570), ∀ a x, ((![v234, v570] : Fin 2 → IVec S16 32) a x).toNat < S96x384.size a := fun v234 v236 v570 k0_hw95 => k0_hw95.1
theorem k0_idx191_inb : ∀ (v234 : IVec S16 32) (v236 : IVec S16 32) (v570 : IVec S16 32) (k0_hw95 : k0_chk95 v234 v236 v570), ∀ a x, ((![v236, v570] : Fin 2 → IVec S16 32) a x).toNat < S96x384.size a := fun v234 v236 v570 k0_hw95 => k0_hw95.2

def k0_chk96 (v234 : IVec S16 32) (v236 : IVec S16 32) (v572 : IVec S16 32) : Prop :=
  (∀ a x, ((![v234, v572] : Fin 2 → IVec S16 32) a x).toNat < S96x384.size a) ∧
  (∀ a x, ((![v236, v572] : Fin 2 → IVec S16 32) a x).toNat < S96x384.size a)
theorem k0_idx190_inb : ∀ (v234 : IVec S16 32) (v236 : IVec S16 32) (v572 : IVec S16 32) (k0_hw96 : k0_chk96 v234 v236 v572), ∀ a x, ((![v234, v572] : Fin 2 → IVec S16 32) a x).toNat < S96x384.size a := fun v234 v236 v572 k0_hw96 => k0_hw96.1
theorem k0_idx192_inb : ∀ (v234 : IVec S16 32) (v236 : IVec S16 32) (v572 : IVec S16 32) (k0_hw96 : k0_chk96 v234 v236 v572), ∀ a x, ((![v236, v572] : Fin 2 → IVec S16 32) a x).toNat < S96x384.size a := fun v234 v236 v572 k0_hw96 => k0_hw96.2
def k0_off59 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c11_i32 : BitVec 32 := 11#32
  let v66 : BitVec 32 := Scalar.addi v2 c11_i32
  let c144_i32 : BitVec 32 := 144#32
  let c0_i32_65 : BitVec 32 := 0#32
  ![v66.toNat, 144, 0]
def k0_off60 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c11_i32_72 : BitVec 32 := 11#32
  let v75 : BitVec 32 := Scalar.addi v2 c11_i32_72
  let c192_i32 : BitVec 32 := 192#32
  let c0_i32_73 : BitVec 32 := 0#32
  ![v75.toNat, 192, 0]
@[reducible] def k0_t6_loop : Scf.Loop 32 :=
  let c0_i32_87 : BitVec 32 := 0#32
  let c48_i32_88 : BitVec 32 := 48#32
  let v91 : BitVec 32 := Scalar.addi c0_i32_87 c48_i32_88
  let c1_i32_89 : BitVec 32 := 1#32
  ⟨c0_i32_87, v91, c1_i32_89⟩
def k0_off61 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v143 : Index := Scalar.indexCast v130
  let c0 : Index := 0#32
  ![v143.toNat, 0]

def k0_chk97 (v134 : IVec S16 32) (v136 : IVec S16 32) (v140 : IVec S16 32) : Prop :=
  (∀ a x, ((![v134, v140] : Fin 2 → IVec S16 32) a x).toNat < S96x384.size a) ∧
  (∀ a x, ((![v136, v140] : Fin 2 → IVec S16 32) a x).toNat < S96x384.size a)
theorem k0_idx193_inb : ∀ (v134 : IVec S16 32) (v136 : IVec S16 32) (v140 : IVec S16 32) (k0_hw97 : k0_chk97 v134 v136 v140), ∀ a x, ((![v134, v140] : Fin 2 → IVec S16 32) a x).toNat < S96x384.size a := fun v134 v136 v140 k0_hw97 => k0_hw97.1
theorem k0_idx195_inb : ∀ (v134 : IVec S16 32) (v136 : IVec S16 32) (v140 : IVec S16 32) (k0_hw97 : k0_chk97 v134 v136 v140), ∀ a x, ((![v136, v140] : Fin 2 → IVec S16 32) a x).toNat < S96x384.size a := fun v134 v136 v140 k0_hw97 => k0_hw97.2

def k0_chk98 (v134 : IVec S16 32) (v136 : IVec S16 32) (v142 : IVec S16 32) : Prop :=
  (∀ a x, ((![v134, v142] : Fin 2 → IVec S16 32) a x).toNat < S96x384.size a) ∧
  (∀ a x, ((![v136, v142] : Fin 2 → IVec S16 32) a x).toNat < S96x384.size a)
theorem k0_idx194_inb : ∀ (v134 : IVec S16 32) (v136 : IVec S16 32) (v142 : IVec S16 32) (k0_hw98 : k0_chk98 v134 v136 v142), ∀ a x, ((![v134, v142] : Fin 2 → IVec S16 32) a x).toNat < S96x384.size a := fun v134 v136 v142 k0_hw98 => k0_hw98.1
theorem k0_idx196_inb : ∀ (v134 : IVec S16 32) (v136 : IVec S16 32) (v142 : IVec S16 32) (k0_hw98 : k0_chk98 v134 v136 v142), ∀ a x, ((![v136, v142] : Fin 2 → IVec S16 32) a x).toNat < S96x384.size a := fun v134 v136 v142 k0_hw98 => k0_hw98.2
def k0_off62 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v173 : Index := Scalar.indexCast v130
  let c16 : Index := 16#32
  ![v173.toNat, 16]

def k0_chk99 (v134 : IVec S16 32) (v136 : IVec S16 32) (v170 : IVec S16 32) : Prop :=
  (∀ a x, ((![v134, v170] : Fin 2 → IVec S16 32) a x).toNat < S96x384.size a) ∧
  (∀ a x, ((![v136, v170] : Fin 2 → IVec S16 32) a x).toNat < S96x384.size a)
theorem k0_idx197_inb : ∀ (v134 : IVec S16 32) (v136 : IVec S16 32) (v170 : IVec S16 32) (k0_hw99 : k0_chk99 v134 v136 v170), ∀ a x, ((![v134, v170] : Fin 2 → IVec S16 32) a x).toNat < S96x384.size a := fun v134 v136 v170 k0_hw99 => k0_hw99.1
theorem k0_idx199_inb : ∀ (v134 : IVec S16 32) (v136 : IVec S16 32) (v170 : IVec S16 32) (k0_hw99 : k0_chk99 v134 v136 v170), ∀ a x, ((![v136, v170] : Fin 2 → IVec S16 32) a x).toNat < S96x384.size a := fun v134 v136 v170 k0_hw99 => k0_hw99.2

def k0_chk100 (v134 : IVec S16 32) (v136 : IVec S16 32) (v172 : IVec S16 32) : Prop :=
  (∀ a x, ((![v134, v172] : Fin 2 → IVec S16 32) a x).toNat < S96x384.size a) ∧
  (∀ a x, ((![v136, v172] : Fin 2 → IVec S16 32) a x).toNat < S96x384.size a)
theorem k0_idx198_inb : ∀ (v134 : IVec S16 32) (v136 : IVec S16 32) (v172 : IVec S16 32) (k0_hw100 : k0_chk100 v134 v136 v172), ∀ a x, ((![v134, v172] : Fin 2 → IVec S16 32) a x).toNat < S96x384.size a := fun v134 v136 v172 k0_hw100 => k0_hw100.1
theorem k0_idx200_inb : ∀ (v134 : IVec S16 32) (v136 : IVec S16 32) (v172 : IVec S16 32) (k0_hw100 : k0_chk100 v134 v136 v172), ∀ a x, ((![v136, v172] : Fin 2 → IVec S16 32) a x).toNat < S96x384.size a := fun v134 v136 v172 k0_hw100 => k0_hw100.2
def k0_off63 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v203 : Index := Scalar.indexCast v130
  let c32 : Index := 32#32
  ![v203.toNat, 32]

def k0_chk101 (v134 : IVec S16 32) (v136 : IVec S16 32) (v200 : IVec S16 32) : Prop :=
  (∀ a x, ((![v134, v200] : Fin 2 → IVec S16 32) a x).toNat < S96x384.size a) ∧
  (∀ a x, ((![v136, v200] : Fin 2 → IVec S16 32) a x).toNat < S96x384.size a)
theorem k0_idx201_inb : ∀ (v134 : IVec S16 32) (v136 : IVec S16 32) (v200 : IVec S16 32) (k0_hw101 : k0_chk101 v134 v136 v200), ∀ a x, ((![v134, v200] : Fin 2 → IVec S16 32) a x).toNat < S96x384.size a := fun v134 v136 v200 k0_hw101 => k0_hw101.1
theorem k0_idx203_inb : ∀ (v134 : IVec S16 32) (v136 : IVec S16 32) (v200 : IVec S16 32) (k0_hw101 : k0_chk101 v134 v136 v200), ∀ a x, ((![v136, v200] : Fin 2 → IVec S16 32) a x).toNat < S96x384.size a := fun v134 v136 v200 k0_hw101 => k0_hw101.2

def k0_chk102 (v134 : IVec S16 32) (v136 : IVec S16 32) (v202 : IVec S16 32) : Prop :=
  (∀ a x, ((![v134, v202] : Fin 2 → IVec S16 32) a x).toNat < S96x384.size a) ∧
  (∀ a x, ((![v136, v202] : Fin 2 → IVec S16 32) a x).toNat < S96x384.size a)
theorem k0_idx202_inb : ∀ (v134 : IVec S16 32) (v136 : IVec S16 32) (v202 : IVec S16 32) (k0_hw102 : k0_chk102 v134 v136 v202), ∀ a x, ((![v134, v202] : Fin 2 → IVec S16 32) a x).toNat < S96x384.size a := fun v134 v136 v202 k0_hw102 => k0_hw102.1
theorem k0_idx204_inb : ∀ (v134 : IVec S16 32) (v136 : IVec S16 32) (v202 : IVec S16 32) (k0_hw102 : k0_chk102 v134 v136 v202), ∀ a x, ((![v136, v202] : Fin 2 → IVec S16 32) a x).toNat < S96x384.size a := fun v134 v136 v202 k0_hw102 => k0_hw102.2
def k0_off64 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v233 : Index := Scalar.indexCast v130
  let c48 : Index := 48#32
  ![v233.toNat, 48]

def k0_chk103 (v134 : IVec S16 32) (v136 : IVec S16 32) (v230 : IVec S16 32) : Prop :=
  (∀ a x, ((![v134, v230] : Fin 2 → IVec S16 32) a x).toNat < S96x384.size a) ∧
  (∀ a x, ((![v136, v230] : Fin 2 → IVec S16 32) a x).toNat < S96x384.size a)
theorem k0_idx205_inb : ∀ (v134 : IVec S16 32) (v136 : IVec S16 32) (v230 : IVec S16 32) (k0_hw103 : k0_chk103 v134 v136 v230), ∀ a x, ((![v134, v230] : Fin 2 → IVec S16 32) a x).toNat < S96x384.size a := fun v134 v136 v230 k0_hw103 => k0_hw103.1
theorem k0_idx207_inb : ∀ (v134 : IVec S16 32) (v136 : IVec S16 32) (v230 : IVec S16 32) (k0_hw103 : k0_chk103 v134 v136 v230), ∀ a x, ((![v136, v230] : Fin 2 → IVec S16 32) a x).toNat < S96x384.size a := fun v134 v136 v230 k0_hw103 => k0_hw103.2

def k0_chk104 (v134 : IVec S16 32) (v136 : IVec S16 32) (v232 : IVec S16 32) : Prop :=
  (∀ a x, ((![v134, v232] : Fin 2 → IVec S16 32) a x).toNat < S96x384.size a) ∧
  (∀ a x, ((![v136, v232] : Fin 2 → IVec S16 32) a x).toNat < S96x384.size a)
theorem k0_idx206_inb : ∀ (v134 : IVec S16 32) (v136 : IVec S16 32) (v232 : IVec S16 32) (k0_hw104 : k0_chk104 v134 v136 v232), ∀ a x, ((![v134, v232] : Fin 2 → IVec S16 32) a x).toNat < S96x384.size a := fun v134 v136 v232 k0_hw104 => k0_hw104.1
theorem k0_idx208_inb : ∀ (v134 : IVec S16 32) (v136 : IVec S16 32) (v232 : IVec S16 32) (k0_hw104 : k0_chk104 v134 v136 v232), ∀ a x, ((![v136, v232] : Fin 2 → IVec S16 32) a x).toNat < S96x384.size a := fun v134 v136 v232 k0_hw104 => k0_hw104.2
def k0_off65 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v263 : Index := Scalar.indexCast v130
  let c64 : Index := 64#32
  ![v263.toNat, 64]

def k0_chk105 (v134 : IVec S16 32) (v136 : IVec S16 32) (v260 : IVec S16 32) : Prop :=
  (∀ a x, ((![v134, v260] : Fin 2 → IVec S16 32) a x).toNat < S96x384.size a) ∧
  (∀ a x, ((![v136, v260] : Fin 2 → IVec S16 32) a x).toNat < S96x384.size a)
theorem k0_idx209_inb : ∀ (v134 : IVec S16 32) (v136 : IVec S16 32) (v260 : IVec S16 32) (k0_hw105 : k0_chk105 v134 v136 v260), ∀ a x, ((![v134, v260] : Fin 2 → IVec S16 32) a x).toNat < S96x384.size a := fun v134 v136 v260 k0_hw105 => k0_hw105.1
theorem k0_idx211_inb : ∀ (v134 : IVec S16 32) (v136 : IVec S16 32) (v260 : IVec S16 32) (k0_hw105 : k0_chk105 v134 v136 v260), ∀ a x, ((![v136, v260] : Fin 2 → IVec S16 32) a x).toNat < S96x384.size a := fun v134 v136 v260 k0_hw105 => k0_hw105.2

def k0_chk106 (v134 : IVec S16 32) (v136 : IVec S16 32) (v262 : IVec S16 32) : Prop :=
  (∀ a x, ((![v134, v262] : Fin 2 → IVec S16 32) a x).toNat < S96x384.size a) ∧
  (∀ a x, ((![v136, v262] : Fin 2 → IVec S16 32) a x).toNat < S96x384.size a)
theorem k0_idx210_inb : ∀ (v134 : IVec S16 32) (v136 : IVec S16 32) (v262 : IVec S16 32) (k0_hw106 : k0_chk106 v134 v136 v262), ∀ a x, ((![v134, v262] : Fin 2 → IVec S16 32) a x).toNat < S96x384.size a := fun v134 v136 v262 k0_hw106 => k0_hw106.1
theorem k0_idx212_inb : ∀ (v134 : IVec S16 32) (v136 : IVec S16 32) (v262 : IVec S16 32) (k0_hw106 : k0_chk106 v134 v136 v262), ∀ a x, ((![v136, v262] : Fin 2 → IVec S16 32) a x).toNat < S96x384.size a := fun v134 v136 v262 k0_hw106 => k0_hw106.2
def k0_off66 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v293 : Index := Scalar.indexCast v130
  let c80 : Index := 80#32
  ![v293.toNat, 80]

def k0_chk107 (v134 : IVec S16 32) (v136 : IVec S16 32) (v290 : IVec S16 32) : Prop :=
  (∀ a x, ((![v134, v290] : Fin 2 → IVec S16 32) a x).toNat < S96x384.size a) ∧
  (∀ a x, ((![v136, v290] : Fin 2 → IVec S16 32) a x).toNat < S96x384.size a)
theorem k0_idx213_inb : ∀ (v134 : IVec S16 32) (v136 : IVec S16 32) (v290 : IVec S16 32) (k0_hw107 : k0_chk107 v134 v136 v290), ∀ a x, ((![v134, v290] : Fin 2 → IVec S16 32) a x).toNat < S96x384.size a := fun v134 v136 v290 k0_hw107 => k0_hw107.1
theorem k0_idx215_inb : ∀ (v134 : IVec S16 32) (v136 : IVec S16 32) (v290 : IVec S16 32) (k0_hw107 : k0_chk107 v134 v136 v290), ∀ a x, ((![v136, v290] : Fin 2 → IVec S16 32) a x).toNat < S96x384.size a := fun v134 v136 v290 k0_hw107 => k0_hw107.2

def k0_chk108 (v134 : IVec S16 32) (v136 : IVec S16 32) (v292 : IVec S16 32) : Prop :=
  (∀ a x, ((![v134, v292] : Fin 2 → IVec S16 32) a x).toNat < S96x384.size a) ∧
  (∀ a x, ((![v136, v292] : Fin 2 → IVec S16 32) a x).toNat < S96x384.size a)
theorem k0_idx214_inb : ∀ (v134 : IVec S16 32) (v136 : IVec S16 32) (v292 : IVec S16 32) (k0_hw108 : k0_chk108 v134 v136 v292), ∀ a x, ((![v134, v292] : Fin 2 → IVec S16 32) a x).toNat < S96x384.size a := fun v134 v136 v292 k0_hw108 => k0_hw108.1
theorem k0_idx216_inb : ∀ (v134 : IVec S16 32) (v136 : IVec S16 32) (v292 : IVec S16 32) (k0_hw108 : k0_chk108 v134 v136 v292), ∀ a x, ((![v136, v292] : Fin 2 → IVec S16 32) a x).toNat < S96x384.size a := fun v134 v136 v292 k0_hw108 => k0_hw108.2
def k0_off67 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v323 : Index := Scalar.indexCast v130
  let c96 : Index := 96#32
  ![v323.toNat, 96]

def k0_chk109 (v134 : IVec S16 32) (v136 : IVec S16 32) (v320 : IVec S16 32) : Prop :=
  (∀ a x, ((![v134, v320] : Fin 2 → IVec S16 32) a x).toNat < S96x384.size a) ∧
  (∀ a x, ((![v136, v320] : Fin 2 → IVec S16 32) a x).toNat < S96x384.size a)
theorem k0_idx217_inb : ∀ (v134 : IVec S16 32) (v136 : IVec S16 32) (v320 : IVec S16 32) (k0_hw109 : k0_chk109 v134 v136 v320), ∀ a x, ((![v134, v320] : Fin 2 → IVec S16 32) a x).toNat < S96x384.size a := fun v134 v136 v320 k0_hw109 => k0_hw109.1
theorem k0_idx219_inb : ∀ (v134 : IVec S16 32) (v136 : IVec S16 32) (v320 : IVec S16 32) (k0_hw109 : k0_chk109 v134 v136 v320), ∀ a x, ((![v136, v320] : Fin 2 → IVec S16 32) a x).toNat < S96x384.size a := fun v134 v136 v320 k0_hw109 => k0_hw109.2

def k0_chk110 (v134 : IVec S16 32) (v136 : IVec S16 32) (v322 : IVec S16 32) : Prop :=
  (∀ a x, ((![v134, v322] : Fin 2 → IVec S16 32) a x).toNat < S96x384.size a) ∧
  (∀ a x, ((![v136, v322] : Fin 2 → IVec S16 32) a x).toNat < S96x384.size a)
theorem k0_idx218_inb : ∀ (v134 : IVec S16 32) (v136 : IVec S16 32) (v322 : IVec S16 32) (k0_hw110 : k0_chk110 v134 v136 v322), ∀ a x, ((![v134, v322] : Fin 2 → IVec S16 32) a x).toNat < S96x384.size a := fun v134 v136 v322 k0_hw110 => k0_hw110.1
theorem k0_idx220_inb : ∀ (v134 : IVec S16 32) (v136 : IVec S16 32) (v322 : IVec S16 32) (k0_hw110 : k0_chk110 v134 v136 v322), ∀ a x, ((![v136, v322] : Fin 2 → IVec S16 32) a x).toNat < S96x384.size a := fun v134 v136 v322 k0_hw110 => k0_hw110.2
def k0_off68 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v353 : Index := Scalar.indexCast v130
  let c112 : Index := 112#32
  ![v353.toNat, 112]

def k0_chk111 (v134 : IVec S16 32) (v136 : IVec S16 32) (v350 : IVec S16 32) : Prop :=
  (∀ a x, ((![v134, v350] : Fin 2 → IVec S16 32) a x).toNat < S96x384.size a) ∧
  (∀ a x, ((![v136, v350] : Fin 2 → IVec S16 32) a x).toNat < S96x384.size a)
theorem k0_idx221_inb : ∀ (v134 : IVec S16 32) (v136 : IVec S16 32) (v350 : IVec S16 32) (k0_hw111 : k0_chk111 v134 v136 v350), ∀ a x, ((![v134, v350] : Fin 2 → IVec S16 32) a x).toNat < S96x384.size a := fun v134 v136 v350 k0_hw111 => k0_hw111.1
theorem k0_idx223_inb : ∀ (v134 : IVec S16 32) (v136 : IVec S16 32) (v350 : IVec S16 32) (k0_hw111 : k0_chk111 v134 v136 v350), ∀ a x, ((![v136, v350] : Fin 2 → IVec S16 32) a x).toNat < S96x384.size a := fun v134 v136 v350 k0_hw111 => k0_hw111.2

def k0_chk112 (v134 : IVec S16 32) (v136 : IVec S16 32) (v352 : IVec S16 32) : Prop :=
  (∀ a x, ((![v134, v352] : Fin 2 → IVec S16 32) a x).toNat < S96x384.size a) ∧
  (∀ a x, ((![v136, v352] : Fin 2 → IVec S16 32) a x).toNat < S96x384.size a)
theorem k0_idx222_inb : ∀ (v134 : IVec S16 32) (v136 : IVec S16 32) (v352 : IVec S16 32) (k0_hw112 : k0_chk112 v134 v136 v352), ∀ a x, ((![v134, v352] : Fin 2 → IVec S16 32) a x).toNat < S96x384.size a := fun v134 v136 v352 k0_hw112 => k0_hw112.1
theorem k0_idx224_inb : ∀ (v134 : IVec S16 32) (v136 : IVec S16 32) (v352 : IVec S16 32) (k0_hw112 : k0_chk112 v134 v136 v352), ∀ a x, ((![v136, v352] : Fin 2 → IVec S16 32) a x).toNat < S96x384.size a := fun v134 v136 v352 k0_hw112 => k0_hw112.2
def k0_off69 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v383 : Index := Scalar.indexCast v130
  let c128 : Index := 128#32
  ![v383.toNat, 128]

def k0_chk113 (v134 : IVec S16 32) (v136 : IVec S16 32) (v380 : IVec S16 32) : Prop :=
  (∀ a x, ((![v134, v380] : Fin 2 → IVec S16 32) a x).toNat < S96x384.size a) ∧
  (∀ a x, ((![v136, v380] : Fin 2 → IVec S16 32) a x).toNat < S96x384.size a)
theorem k0_idx225_inb : ∀ (v134 : IVec S16 32) (v136 : IVec S16 32) (v380 : IVec S16 32) (k0_hw113 : k0_chk113 v134 v136 v380), ∀ a x, ((![v134, v380] : Fin 2 → IVec S16 32) a x).toNat < S96x384.size a := fun v134 v136 v380 k0_hw113 => k0_hw113.1
theorem k0_idx227_inb : ∀ (v134 : IVec S16 32) (v136 : IVec S16 32) (v380 : IVec S16 32) (k0_hw113 : k0_chk113 v134 v136 v380), ∀ a x, ((![v136, v380] : Fin 2 → IVec S16 32) a x).toNat < S96x384.size a := fun v134 v136 v380 k0_hw113 => k0_hw113.2

def k0_chk114 (v134 : IVec S16 32) (v136 : IVec S16 32) (v382 : IVec S16 32) : Prop :=
  (∀ a x, ((![v134, v382] : Fin 2 → IVec S16 32) a x).toNat < S96x384.size a) ∧
  (∀ a x, ((![v136, v382] : Fin 2 → IVec S16 32) a x).toNat < S96x384.size a)
theorem k0_idx226_inb : ∀ (v134 : IVec S16 32) (v136 : IVec S16 32) (v382 : IVec S16 32) (k0_hw114 : k0_chk114 v134 v136 v382), ∀ a x, ((![v134, v382] : Fin 2 → IVec S16 32) a x).toNat < S96x384.size a := fun v134 v136 v382 k0_hw114 => k0_hw114.1
theorem k0_idx228_inb : ∀ (v134 : IVec S16 32) (v136 : IVec S16 32) (v382 : IVec S16 32) (k0_hw114 : k0_chk114 v134 v136 v382), ∀ a x, ((![v136, v382] : Fin 2 → IVec S16 32) a x).toNat < S96x384.size a := fun v134 v136 v382 k0_hw114 => k0_hw114.2
def k0_off70 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v413 : Index := Scalar.indexCast v130
  let c144 : Index := 144#32
  ![v413.toNat, 144]

def k0_chk115 (v134 : IVec S16 32) (v136 : IVec S16 32) (v410 : IVec S16 32) : Prop :=
  (∀ a x, ((![v134, v410] : Fin 2 → IVec S16 32) a x).toNat < S96x384.size a) ∧
  (∀ a x, ((![v136, v410] : Fin 2 → IVec S16 32) a x).toNat < S96x384.size a)
theorem k0_idx229_inb : ∀ (v134 : IVec S16 32) (v136 : IVec S16 32) (v410 : IVec S16 32) (k0_hw115 : k0_chk115 v134 v136 v410), ∀ a x, ((![v134, v410] : Fin 2 → IVec S16 32) a x).toNat < S96x384.size a := fun v134 v136 v410 k0_hw115 => k0_hw115.1
theorem k0_idx231_inb : ∀ (v134 : IVec S16 32) (v136 : IVec S16 32) (v410 : IVec S16 32) (k0_hw115 : k0_chk115 v134 v136 v410), ∀ a x, ((![v136, v410] : Fin 2 → IVec S16 32) a x).toNat < S96x384.size a := fun v134 v136 v410 k0_hw115 => k0_hw115.2

def k0_chk116 (v134 : IVec S16 32) (v136 : IVec S16 32) (v412 : IVec S16 32) : Prop :=
  (∀ a x, ((![v134, v412] : Fin 2 → IVec S16 32) a x).toNat < S96x384.size a) ∧
  (∀ a x, ((![v136, v412] : Fin 2 → IVec S16 32) a x).toNat < S96x384.size a)
theorem k0_idx230_inb : ∀ (v134 : IVec S16 32) (v136 : IVec S16 32) (v412 : IVec S16 32) (k0_hw116 : k0_chk116 v134 v136 v412), ∀ a x, ((![v134, v412] : Fin 2 → IVec S16 32) a x).toNat < S96x384.size a := fun v134 v136 v412 k0_hw116 => k0_hw116.1
theorem k0_idx232_inb : ∀ (v134 : IVec S16 32) (v136 : IVec S16 32) (v412 : IVec S16 32) (k0_hw116 : k0_chk116 v134 v136 v412), ∀ a x, ((![v136, v412] : Fin 2 → IVec S16 32) a x).toNat < S96x384.size a := fun v134 v136 v412 k0_hw116 => k0_hw116.2
def k0_off71 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v443 : Index := Scalar.indexCast v130
  let c160 : Index := 160#32
  ![v443.toNat, 160]

def k0_chk117 (v134 : IVec S16 32) (v136 : IVec S16 32) (v440 : IVec S16 32) : Prop :=
  (∀ a x, ((![v134, v440] : Fin 2 → IVec S16 32) a x).toNat < S96x384.size a) ∧
  (∀ a x, ((![v136, v440] : Fin 2 → IVec S16 32) a x).toNat < S96x384.size a)
theorem k0_idx233_inb : ∀ (v134 : IVec S16 32) (v136 : IVec S16 32) (v440 : IVec S16 32) (k0_hw117 : k0_chk117 v134 v136 v440), ∀ a x, ((![v134, v440] : Fin 2 → IVec S16 32) a x).toNat < S96x384.size a := fun v134 v136 v440 k0_hw117 => k0_hw117.1
theorem k0_idx235_inb : ∀ (v134 : IVec S16 32) (v136 : IVec S16 32) (v440 : IVec S16 32) (k0_hw117 : k0_chk117 v134 v136 v440), ∀ a x, ((![v136, v440] : Fin 2 → IVec S16 32) a x).toNat < S96x384.size a := fun v134 v136 v440 k0_hw117 => k0_hw117.2

def k0_chk118 (v134 : IVec S16 32) (v136 : IVec S16 32) (v442 : IVec S16 32) : Prop :=
  (∀ a x, ((![v134, v442] : Fin 2 → IVec S16 32) a x).toNat < S96x384.size a) ∧
  (∀ a x, ((![v136, v442] : Fin 2 → IVec S16 32) a x).toNat < S96x384.size a)
theorem k0_idx234_inb : ∀ (v134 : IVec S16 32) (v136 : IVec S16 32) (v442 : IVec S16 32) (k0_hw118 : k0_chk118 v134 v136 v442), ∀ a x, ((![v134, v442] : Fin 2 → IVec S16 32) a x).toNat < S96x384.size a := fun v134 v136 v442 k0_hw118 => k0_hw118.1
theorem k0_idx236_inb : ∀ (v134 : IVec S16 32) (v136 : IVec S16 32) (v442 : IVec S16 32) (k0_hw118 : k0_chk118 v134 v136 v442), ∀ a x, ((![v136, v442] : Fin 2 → IVec S16 32) a x).toNat < S96x384.size a := fun v134 v136 v442 k0_hw118 => k0_hw118.2
def k0_off72 (k0_t6 : Fin k0_t6_loop.trips) : Fin 2 → Nat :=
  let c0_i32_131 : BitVec 32 := 0#32
  let c0_i32_87 : BitVec 32 := 0#32
  let c1_i32_89 : BitVec 32 := 1#32
  let arg15 : BitVec 32 := Scf.iv c0_i32_87 c1_i32_89 k0_t6
  let c1_i32_130 : BitVec 32 := 1#32
  let v129 : BitVec 32 := Scalar.muli arg15 c1_i32_130
  let v130 : BitVec 32 := Scalar.addi c0_i32_131 v129
  let v473 : Index := Scalar.indexCast v130
  let c176 : Index := 176#32
  ![v473.toNat, 176]

def k0_chk119 (v134 : IVec S16 32) (v136 : IVec S16 32) (v470 : IVec S16 32) : Prop :=
  (∀ a x, ((![v134, v470] : Fin 2 → IVec S16 32) a x).toNat < S96x384.size a) ∧
  (∀ a x, ((![v136, v470] : Fin 2 → IVec S16 32) a x).toNat < S96x384.size a)
theorem k0_idx237_inb : ∀ (v134 : IVec S16 32) (v136 : IVec S16 32) (v470 : IVec S16 32) (k0_hw119 : k0_chk119 v134 v136 v470), ∀ a x, ((![v134, v470] : Fin 2 → IVec S16 32) a x).toNat < S96x384.size a := fun v134 v136 v470 k0_hw119 => k0_hw119.1
theorem k0_idx239_inb : ∀ (v134 : IVec S16 32) (v136 : IVec S16 32) (v470 : IVec S16 32) (k0_hw119 : k0_chk119 v134 v136 v470), ∀ a x, ((![v136, v470] : Fin 2 → IVec S16 32) a x).toNat < S96x384.size a := fun v134 v136 v470 k0_hw119 => k0_hw119.2

def k0_chk120 (v134 : IVec S16 32) (v136 : IVec S16 32) (v472 : IVec S16 32) : Prop :=
  (∀ a x, ((![v134, v472] : Fin 2 → IVec S16 32) a x).toNat < S96x384.size a) ∧
  (∀ a x, ((![v136, v472] : Fin 2 → IVec S16 32) a x).toNat < S96x384.size a)
theorem k0_idx238_inb : ∀ (v134 : IVec S16 32) (v136 : IVec S16 32) (v472 : IVec S16 32) (k0_hw120 : k0_chk120 v134 v136 v472), ∀ a x, ((![v134, v472] : Fin 2 → IVec S16 32) a x).toNat < S96x384.size a := fun v134 v136 v472 k0_hw120 => k0_hw120.1
theorem k0_idx240_inb : ∀ (v134 : IVec S16 32) (v136 : IVec S16 32) (v472 : IVec S16 32) (k0_hw120 : k0_chk120 v134 v136 v472), ∀ a x, ((![v136, v472] : Fin 2 → IVec S16 32) a x).toNat < S96x384.size a := fun v134 v136 v472 k0_hw120 => k0_hw120.2
def k0_off73 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c11_i32_96 : BitVec 32 := 11#32
  let v97 : BitVec 32 := Scalar.addi v2 c11_i32_96
  let c288_i32 : BitVec 32 := 288#32
  let c0_i32_97 : BitVec 32 := 0#32
  ![v97.toNat, 288, 0]
@[reducible] def k0_t7_loop : Scf.Loop 32 :=
  let c0_i32_111 : BitVec 32 := 0#32
  let c48_i32_112 : BitVec 32 := 48#32
  let v113 : BitVec 32 := Scalar.addi c0_i32_111 c48_i32_112
  let c1_i32_113 : BitVec 32 := 1#32
  ⟨c0_i32_111, v113, c1_i32_113⟩
def k0_off74 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v143 : Index := Scalar.indexCast v130
  let c0 : Index := 0#32
  ![v143.toNat, 0]

def k0_chk121 (v134 : IVec S16 32) (v136 : IVec S16 32) (v140 : IVec S16 32) : Prop :=
  (∀ a x, ((![v134, v140] : Fin 2 → IVec S16 32) a x).toNat < S96x384.size a) ∧
  (∀ a x, ((![v136, v140] : Fin 2 → IVec S16 32) a x).toNat < S96x384.size a)
theorem k0_idx241_inb : ∀ (v134 : IVec S16 32) (v136 : IVec S16 32) (v140 : IVec S16 32) (k0_hw121 : k0_chk121 v134 v136 v140), ∀ a x, ((![v134, v140] : Fin 2 → IVec S16 32) a x).toNat < S96x384.size a := fun v134 v136 v140 k0_hw121 => k0_hw121.1
theorem k0_idx243_inb : ∀ (v134 : IVec S16 32) (v136 : IVec S16 32) (v140 : IVec S16 32) (k0_hw121 : k0_chk121 v134 v136 v140), ∀ a x, ((![v136, v140] : Fin 2 → IVec S16 32) a x).toNat < S96x384.size a := fun v134 v136 v140 k0_hw121 => k0_hw121.2

def k0_chk122 (v134 : IVec S16 32) (v136 : IVec S16 32) (v142 : IVec S16 32) : Prop :=
  (∀ a x, ((![v134, v142] : Fin 2 → IVec S16 32) a x).toNat < S96x384.size a) ∧
  (∀ a x, ((![v136, v142] : Fin 2 → IVec S16 32) a x).toNat < S96x384.size a)
theorem k0_idx242_inb : ∀ (v134 : IVec S16 32) (v136 : IVec S16 32) (v142 : IVec S16 32) (k0_hw122 : k0_chk122 v134 v136 v142), ∀ a x, ((![v134, v142] : Fin 2 → IVec S16 32) a x).toNat < S96x384.size a := fun v134 v136 v142 k0_hw122 => k0_hw122.1
theorem k0_idx244_inb : ∀ (v134 : IVec S16 32) (v136 : IVec S16 32) (v142 : IVec S16 32) (k0_hw122 : k0_chk122 v134 v136 v142), ∀ a x, ((![v136, v142] : Fin 2 → IVec S16 32) a x).toNat < S96x384.size a := fun v134 v136 v142 k0_hw122 => k0_hw122.2
def k0_off75 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v173 : Index := Scalar.indexCast v130
  let c16 : Index := 16#32
  ![v173.toNat, 16]

def k0_chk123 (v134 : IVec S16 32) (v136 : IVec S16 32) (v170 : IVec S16 32) : Prop :=
  (∀ a x, ((![v134, v170] : Fin 2 → IVec S16 32) a x).toNat < S96x384.size a) ∧
  (∀ a x, ((![v136, v170] : Fin 2 → IVec S16 32) a x).toNat < S96x384.size a)
theorem k0_idx245_inb : ∀ (v134 : IVec S16 32) (v136 : IVec S16 32) (v170 : IVec S16 32) (k0_hw123 : k0_chk123 v134 v136 v170), ∀ a x, ((![v134, v170] : Fin 2 → IVec S16 32) a x).toNat < S96x384.size a := fun v134 v136 v170 k0_hw123 => k0_hw123.1
theorem k0_idx247_inb : ∀ (v134 : IVec S16 32) (v136 : IVec S16 32) (v170 : IVec S16 32) (k0_hw123 : k0_chk123 v134 v136 v170), ∀ a x, ((![v136, v170] : Fin 2 → IVec S16 32) a x).toNat < S96x384.size a := fun v134 v136 v170 k0_hw123 => k0_hw123.2

def k0_chk124 (v134 : IVec S16 32) (v136 : IVec S16 32) (v172 : IVec S16 32) : Prop :=
  (∀ a x, ((![v134, v172] : Fin 2 → IVec S16 32) a x).toNat < S96x384.size a) ∧
  (∀ a x, ((![v136, v172] : Fin 2 → IVec S16 32) a x).toNat < S96x384.size a)
theorem k0_idx246_inb : ∀ (v134 : IVec S16 32) (v136 : IVec S16 32) (v172 : IVec S16 32) (k0_hw124 : k0_chk124 v134 v136 v172), ∀ a x, ((![v134, v172] : Fin 2 → IVec S16 32) a x).toNat < S96x384.size a := fun v134 v136 v172 k0_hw124 => k0_hw124.1
theorem k0_idx248_inb : ∀ (v134 : IVec S16 32) (v136 : IVec S16 32) (v172 : IVec S16 32) (k0_hw124 : k0_chk124 v134 v136 v172), ∀ a x, ((![v136, v172] : Fin 2 → IVec S16 32) a x).toNat < S96x384.size a := fun v134 v136 v172 k0_hw124 => k0_hw124.2
def k0_off76 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v203 : Index := Scalar.indexCast v130
  let c32 : Index := 32#32
  ![v203.toNat, 32]

def k0_chk125 (v134 : IVec S16 32) (v136 : IVec S16 32) (v200 : IVec S16 32) : Prop :=
  (∀ a x, ((![v134, v200] : Fin 2 → IVec S16 32) a x).toNat < S96x384.size a) ∧
  (∀ a x, ((![v136, v200] : Fin 2 → IVec S16 32) a x).toNat < S96x384.size a)
theorem k0_idx249_inb : ∀ (v134 : IVec S16 32) (v136 : IVec S16 32) (v200 : IVec S16 32) (k0_hw125 : k0_chk125 v134 v136 v200), ∀ a x, ((![v134, v200] : Fin 2 → IVec S16 32) a x).toNat < S96x384.size a := fun v134 v136 v200 k0_hw125 => k0_hw125.1
theorem k0_idx251_inb : ∀ (v134 : IVec S16 32) (v136 : IVec S16 32) (v200 : IVec S16 32) (k0_hw125 : k0_chk125 v134 v136 v200), ∀ a x, ((![v136, v200] : Fin 2 → IVec S16 32) a x).toNat < S96x384.size a := fun v134 v136 v200 k0_hw125 => k0_hw125.2

def k0_chk126 (v134 : IVec S16 32) (v136 : IVec S16 32) (v202 : IVec S16 32) : Prop :=
  (∀ a x, ((![v134, v202] : Fin 2 → IVec S16 32) a x).toNat < S96x384.size a) ∧
  (∀ a x, ((![v136, v202] : Fin 2 → IVec S16 32) a x).toNat < S96x384.size a)
theorem k0_idx250_inb : ∀ (v134 : IVec S16 32) (v136 : IVec S16 32) (v202 : IVec S16 32) (k0_hw126 : k0_chk126 v134 v136 v202), ∀ a x, ((![v134, v202] : Fin 2 → IVec S16 32) a x).toNat < S96x384.size a := fun v134 v136 v202 k0_hw126 => k0_hw126.1
theorem k0_idx252_inb : ∀ (v134 : IVec S16 32) (v136 : IVec S16 32) (v202 : IVec S16 32) (k0_hw126 : k0_chk126 v134 v136 v202), ∀ a x, ((![v136, v202] : Fin 2 → IVec S16 32) a x).toNat < S96x384.size a := fun v134 v136 v202 k0_hw126 => k0_hw126.2
def k0_off77 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v233 : Index := Scalar.indexCast v130
  let c48 : Index := 48#32
  ![v233.toNat, 48]

def k0_chk127 (v134 : IVec S16 32) (v136 : IVec S16 32) (v230 : IVec S16 32) : Prop :=
  (∀ a x, ((![v134, v230] : Fin 2 → IVec S16 32) a x).toNat < S96x384.size a) ∧
  (∀ a x, ((![v136, v230] : Fin 2 → IVec S16 32) a x).toNat < S96x384.size a)
theorem k0_idx253_inb : ∀ (v134 : IVec S16 32) (v136 : IVec S16 32) (v230 : IVec S16 32) (k0_hw127 : k0_chk127 v134 v136 v230), ∀ a x, ((![v134, v230] : Fin 2 → IVec S16 32) a x).toNat < S96x384.size a := fun v134 v136 v230 k0_hw127 => k0_hw127.1
theorem k0_idx255_inb : ∀ (v134 : IVec S16 32) (v136 : IVec S16 32) (v230 : IVec S16 32) (k0_hw127 : k0_chk127 v134 v136 v230), ∀ a x, ((![v136, v230] : Fin 2 → IVec S16 32) a x).toNat < S96x384.size a := fun v134 v136 v230 k0_hw127 => k0_hw127.2

def k0_chk128 (v134 : IVec S16 32) (v136 : IVec S16 32) (v232 : IVec S16 32) : Prop :=
  (∀ a x, ((![v134, v232] : Fin 2 → IVec S16 32) a x).toNat < S96x384.size a) ∧
  (∀ a x, ((![v136, v232] : Fin 2 → IVec S16 32) a x).toNat < S96x384.size a)
theorem k0_idx254_inb : ∀ (v134 : IVec S16 32) (v136 : IVec S16 32) (v232 : IVec S16 32) (k0_hw128 : k0_chk128 v134 v136 v232), ∀ a x, ((![v134, v232] : Fin 2 → IVec S16 32) a x).toNat < S96x384.size a := fun v134 v136 v232 k0_hw128 => k0_hw128.1
theorem k0_idx256_inb : ∀ (v134 : IVec S16 32) (v136 : IVec S16 32) (v232 : IVec S16 32) (k0_hw128 : k0_chk128 v134 v136 v232), ∀ a x, ((![v136, v232] : Fin 2 → IVec S16 32) a x).toNat < S96x384.size a := fun v134 v136 v232 k0_hw128 => k0_hw128.2
def k0_off78 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v263 : Index := Scalar.indexCast v130
  let c64 : Index := 64#32
  ![v263.toNat, 64]

def k0_chk129 (v134 : IVec S16 32) (v136 : IVec S16 32) (v260 : IVec S16 32) : Prop :=
  (∀ a x, ((![v134, v260] : Fin 2 → IVec S16 32) a x).toNat < S96x384.size a) ∧
  (∀ a x, ((![v136, v260] : Fin 2 → IVec S16 32) a x).toNat < S96x384.size a)
theorem k0_idx257_inb : ∀ (v134 : IVec S16 32) (v136 : IVec S16 32) (v260 : IVec S16 32) (k0_hw129 : k0_chk129 v134 v136 v260), ∀ a x, ((![v134, v260] : Fin 2 → IVec S16 32) a x).toNat < S96x384.size a := fun v134 v136 v260 k0_hw129 => k0_hw129.1
theorem k0_idx259_inb : ∀ (v134 : IVec S16 32) (v136 : IVec S16 32) (v260 : IVec S16 32) (k0_hw129 : k0_chk129 v134 v136 v260), ∀ a x, ((![v136, v260] : Fin 2 → IVec S16 32) a x).toNat < S96x384.size a := fun v134 v136 v260 k0_hw129 => k0_hw129.2

def k0_chk130 (v134 : IVec S16 32) (v136 : IVec S16 32) (v262 : IVec S16 32) : Prop :=
  (∀ a x, ((![v134, v262] : Fin 2 → IVec S16 32) a x).toNat < S96x384.size a) ∧
  (∀ a x, ((![v136, v262] : Fin 2 → IVec S16 32) a x).toNat < S96x384.size a)
theorem k0_idx258_inb : ∀ (v134 : IVec S16 32) (v136 : IVec S16 32) (v262 : IVec S16 32) (k0_hw130 : k0_chk130 v134 v136 v262), ∀ a x, ((![v134, v262] : Fin 2 → IVec S16 32) a x).toNat < S96x384.size a := fun v134 v136 v262 k0_hw130 => k0_hw130.1
theorem k0_idx260_inb : ∀ (v134 : IVec S16 32) (v136 : IVec S16 32) (v262 : IVec S16 32) (k0_hw130 : k0_chk130 v134 v136 v262), ∀ a x, ((![v136, v262] : Fin 2 → IVec S16 32) a x).toNat < S96x384.size a := fun v134 v136 v262 k0_hw130 => k0_hw130.2
def k0_off79 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v293 : Index := Scalar.indexCast v130
  let c80 : Index := 80#32
  ![v293.toNat, 80]

def k0_chk131 (v134 : IVec S16 32) (v136 : IVec S16 32) (v290 : IVec S16 32) : Prop :=
  (∀ a x, ((![v134, v290] : Fin 2 → IVec S16 32) a x).toNat < S96x384.size a) ∧
  (∀ a x, ((![v136, v290] : Fin 2 → IVec S16 32) a x).toNat < S96x384.size a)
theorem k0_idx261_inb : ∀ (v134 : IVec S16 32) (v136 : IVec S16 32) (v290 : IVec S16 32) (k0_hw131 : k0_chk131 v134 v136 v290), ∀ a x, ((![v134, v290] : Fin 2 → IVec S16 32) a x).toNat < S96x384.size a := fun v134 v136 v290 k0_hw131 => k0_hw131.1
theorem k0_idx263_inb : ∀ (v134 : IVec S16 32) (v136 : IVec S16 32) (v290 : IVec S16 32) (k0_hw131 : k0_chk131 v134 v136 v290), ∀ a x, ((![v136, v290] : Fin 2 → IVec S16 32) a x).toNat < S96x384.size a := fun v134 v136 v290 k0_hw131 => k0_hw131.2

def k0_chk132 (v134 : IVec S16 32) (v136 : IVec S16 32) (v292 : IVec S16 32) : Prop :=
  (∀ a x, ((![v134, v292] : Fin 2 → IVec S16 32) a x).toNat < S96x384.size a) ∧
  (∀ a x, ((![v136, v292] : Fin 2 → IVec S16 32) a x).toNat < S96x384.size a)
theorem k0_idx262_inb : ∀ (v134 : IVec S16 32) (v136 : IVec S16 32) (v292 : IVec S16 32) (k0_hw132 : k0_chk132 v134 v136 v292), ∀ a x, ((![v134, v292] : Fin 2 → IVec S16 32) a x).toNat < S96x384.size a := fun v134 v136 v292 k0_hw132 => k0_hw132.1
theorem k0_idx264_inb : ∀ (v134 : IVec S16 32) (v136 : IVec S16 32) (v292 : IVec S16 32) (k0_hw132 : k0_chk132 v134 v136 v292), ∀ a x, ((![v136, v292] : Fin 2 → IVec S16 32) a x).toNat < S96x384.size a := fun v134 v136 v292 k0_hw132 => k0_hw132.2
def k0_off80 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v323 : Index := Scalar.indexCast v130
  let c96 : Index := 96#32
  ![v323.toNat, 96]

def k0_chk133 (v134 : IVec S16 32) (v136 : IVec S16 32) (v320 : IVec S16 32) : Prop :=
  (∀ a x, ((![v134, v320] : Fin 2 → IVec S16 32) a x).toNat < S96x384.size a) ∧
  (∀ a x, ((![v136, v320] : Fin 2 → IVec S16 32) a x).toNat < S96x384.size a)
theorem k0_idx265_inb : ∀ (v134 : IVec S16 32) (v136 : IVec S16 32) (v320 : IVec S16 32) (k0_hw133 : k0_chk133 v134 v136 v320), ∀ a x, ((![v134, v320] : Fin 2 → IVec S16 32) a x).toNat < S96x384.size a := fun v134 v136 v320 k0_hw133 => k0_hw133.1
theorem k0_idx267_inb : ∀ (v134 : IVec S16 32) (v136 : IVec S16 32) (v320 : IVec S16 32) (k0_hw133 : k0_chk133 v134 v136 v320), ∀ a x, ((![v136, v320] : Fin 2 → IVec S16 32) a x).toNat < S96x384.size a := fun v134 v136 v320 k0_hw133 => k0_hw133.2

def k0_chk134 (v134 : IVec S16 32) (v136 : IVec S16 32) (v322 : IVec S16 32) : Prop :=
  (∀ a x, ((![v134, v322] : Fin 2 → IVec S16 32) a x).toNat < S96x384.size a) ∧
  (∀ a x, ((![v136, v322] : Fin 2 → IVec S16 32) a x).toNat < S96x384.size a)
theorem k0_idx266_inb : ∀ (v134 : IVec S16 32) (v136 : IVec S16 32) (v322 : IVec S16 32) (k0_hw134 : k0_chk134 v134 v136 v322), ∀ a x, ((![v134, v322] : Fin 2 → IVec S16 32) a x).toNat < S96x384.size a := fun v134 v136 v322 k0_hw134 => k0_hw134.1
theorem k0_idx268_inb : ∀ (v134 : IVec S16 32) (v136 : IVec S16 32) (v322 : IVec S16 32) (k0_hw134 : k0_chk134 v134 v136 v322), ∀ a x, ((![v136, v322] : Fin 2 → IVec S16 32) a x).toNat < S96x384.size a := fun v134 v136 v322 k0_hw134 => k0_hw134.2
def k0_off81 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v353 : Index := Scalar.indexCast v130
  let c112 : Index := 112#32
  ![v353.toNat, 112]

def k0_chk135 (v134 : IVec S16 32) (v136 : IVec S16 32) (v350 : IVec S16 32) : Prop :=
  (∀ a x, ((![v134, v350] : Fin 2 → IVec S16 32) a x).toNat < S96x384.size a) ∧
  (∀ a x, ((![v136, v350] : Fin 2 → IVec S16 32) a x).toNat < S96x384.size a)
theorem k0_idx269_inb : ∀ (v134 : IVec S16 32) (v136 : IVec S16 32) (v350 : IVec S16 32) (k0_hw135 : k0_chk135 v134 v136 v350), ∀ a x, ((![v134, v350] : Fin 2 → IVec S16 32) a x).toNat < S96x384.size a := fun v134 v136 v350 k0_hw135 => k0_hw135.1
theorem k0_idx271_inb : ∀ (v134 : IVec S16 32) (v136 : IVec S16 32) (v350 : IVec S16 32) (k0_hw135 : k0_chk135 v134 v136 v350), ∀ a x, ((![v136, v350] : Fin 2 → IVec S16 32) a x).toNat < S96x384.size a := fun v134 v136 v350 k0_hw135 => k0_hw135.2

def k0_chk136 (v134 : IVec S16 32) (v136 : IVec S16 32) (v352 : IVec S16 32) : Prop :=
  (∀ a x, ((![v134, v352] : Fin 2 → IVec S16 32) a x).toNat < S96x384.size a) ∧
  (∀ a x, ((![v136, v352] : Fin 2 → IVec S16 32) a x).toNat < S96x384.size a)
theorem k0_idx270_inb : ∀ (v134 : IVec S16 32) (v136 : IVec S16 32) (v352 : IVec S16 32) (k0_hw136 : k0_chk136 v134 v136 v352), ∀ a x, ((![v134, v352] : Fin 2 → IVec S16 32) a x).toNat < S96x384.size a := fun v134 v136 v352 k0_hw136 => k0_hw136.1
theorem k0_idx272_inb : ∀ (v134 : IVec S16 32) (v136 : IVec S16 32) (v352 : IVec S16 32) (k0_hw136 : k0_chk136 v134 v136 v352), ∀ a x, ((![v136, v352] : Fin 2 → IVec S16 32) a x).toNat < S96x384.size a := fun v134 v136 v352 k0_hw136 => k0_hw136.2
def k0_off82 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v383 : Index := Scalar.indexCast v130
  let c128 : Index := 128#32
  ![v383.toNat, 128]

def k0_chk137 (v134 : IVec S16 32) (v136 : IVec S16 32) (v380 : IVec S16 32) : Prop :=
  (∀ a x, ((![v134, v380] : Fin 2 → IVec S16 32) a x).toNat < S96x384.size a) ∧
  (∀ a x, ((![v136, v380] : Fin 2 → IVec S16 32) a x).toNat < S96x384.size a)
theorem k0_idx273_inb : ∀ (v134 : IVec S16 32) (v136 : IVec S16 32) (v380 : IVec S16 32) (k0_hw137 : k0_chk137 v134 v136 v380), ∀ a x, ((![v134, v380] : Fin 2 → IVec S16 32) a x).toNat < S96x384.size a := fun v134 v136 v380 k0_hw137 => k0_hw137.1
theorem k0_idx275_inb : ∀ (v134 : IVec S16 32) (v136 : IVec S16 32) (v380 : IVec S16 32) (k0_hw137 : k0_chk137 v134 v136 v380), ∀ a x, ((![v136, v380] : Fin 2 → IVec S16 32) a x).toNat < S96x384.size a := fun v134 v136 v380 k0_hw137 => k0_hw137.2

def k0_chk138 (v134 : IVec S16 32) (v136 : IVec S16 32) (v382 : IVec S16 32) : Prop :=
  (∀ a x, ((![v134, v382] : Fin 2 → IVec S16 32) a x).toNat < S96x384.size a) ∧
  (∀ a x, ((![v136, v382] : Fin 2 → IVec S16 32) a x).toNat < S96x384.size a)
theorem k0_idx274_inb : ∀ (v134 : IVec S16 32) (v136 : IVec S16 32) (v382 : IVec S16 32) (k0_hw138 : k0_chk138 v134 v136 v382), ∀ a x, ((![v134, v382] : Fin 2 → IVec S16 32) a x).toNat < S96x384.size a := fun v134 v136 v382 k0_hw138 => k0_hw138.1
theorem k0_idx276_inb : ∀ (v134 : IVec S16 32) (v136 : IVec S16 32) (v382 : IVec S16 32) (k0_hw138 : k0_chk138 v134 v136 v382), ∀ a x, ((![v136, v382] : Fin 2 → IVec S16 32) a x).toNat < S96x384.size a := fun v134 v136 v382 k0_hw138 => k0_hw138.2
def k0_off83 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v413 : Index := Scalar.indexCast v130
  let c144 : Index := 144#32
  ![v413.toNat, 144]

def k0_chk139 (v134 : IVec S16 32) (v136 : IVec S16 32) (v410 : IVec S16 32) : Prop :=
  (∀ a x, ((![v134, v410] : Fin 2 → IVec S16 32) a x).toNat < S96x384.size a) ∧
  (∀ a x, ((![v136, v410] : Fin 2 → IVec S16 32) a x).toNat < S96x384.size a)
theorem k0_idx277_inb : ∀ (v134 : IVec S16 32) (v136 : IVec S16 32) (v410 : IVec S16 32) (k0_hw139 : k0_chk139 v134 v136 v410), ∀ a x, ((![v134, v410] : Fin 2 → IVec S16 32) a x).toNat < S96x384.size a := fun v134 v136 v410 k0_hw139 => k0_hw139.1
theorem k0_idx279_inb : ∀ (v134 : IVec S16 32) (v136 : IVec S16 32) (v410 : IVec S16 32) (k0_hw139 : k0_chk139 v134 v136 v410), ∀ a x, ((![v136, v410] : Fin 2 → IVec S16 32) a x).toNat < S96x384.size a := fun v134 v136 v410 k0_hw139 => k0_hw139.2

def k0_chk140 (v134 : IVec S16 32) (v136 : IVec S16 32) (v412 : IVec S16 32) : Prop :=
  (∀ a x, ((![v134, v412] : Fin 2 → IVec S16 32) a x).toNat < S96x384.size a) ∧
  (∀ a x, ((![v136, v412] : Fin 2 → IVec S16 32) a x).toNat < S96x384.size a)
theorem k0_idx278_inb : ∀ (v134 : IVec S16 32) (v136 : IVec S16 32) (v412 : IVec S16 32) (k0_hw140 : k0_chk140 v134 v136 v412), ∀ a x, ((![v134, v412] : Fin 2 → IVec S16 32) a x).toNat < S96x384.size a := fun v134 v136 v412 k0_hw140 => k0_hw140.1
theorem k0_idx280_inb : ∀ (v134 : IVec S16 32) (v136 : IVec S16 32) (v412 : IVec S16 32) (k0_hw140 : k0_chk140 v134 v136 v412), ∀ a x, ((![v136, v412] : Fin 2 → IVec S16 32) a x).toNat < S96x384.size a := fun v134 v136 v412 k0_hw140 => k0_hw140.2
def k0_off84 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v443 : Index := Scalar.indexCast v130
  let c160 : Index := 160#32
  ![v443.toNat, 160]

def k0_chk141 (v134 : IVec S16 32) (v136 : IVec S16 32) (v440 : IVec S16 32) : Prop :=
  (∀ a x, ((![v134, v440] : Fin 2 → IVec S16 32) a x).toNat < S96x384.size a) ∧
  (∀ a x, ((![v136, v440] : Fin 2 → IVec S16 32) a x).toNat < S96x384.size a)
theorem k0_idx281_inb : ∀ (v134 : IVec S16 32) (v136 : IVec S16 32) (v440 : IVec S16 32) (k0_hw141 : k0_chk141 v134 v136 v440), ∀ a x, ((![v134, v440] : Fin 2 → IVec S16 32) a x).toNat < S96x384.size a := fun v134 v136 v440 k0_hw141 => k0_hw141.1
theorem k0_idx283_inb : ∀ (v134 : IVec S16 32) (v136 : IVec S16 32) (v440 : IVec S16 32) (k0_hw141 : k0_chk141 v134 v136 v440), ∀ a x, ((![v136, v440] : Fin 2 → IVec S16 32) a x).toNat < S96x384.size a := fun v134 v136 v440 k0_hw141 => k0_hw141.2

def k0_chk142 (v134 : IVec S16 32) (v136 : IVec S16 32) (v442 : IVec S16 32) : Prop :=
  (∀ a x, ((![v134, v442] : Fin 2 → IVec S16 32) a x).toNat < S96x384.size a) ∧
  (∀ a x, ((![v136, v442] : Fin 2 → IVec S16 32) a x).toNat < S96x384.size a)
theorem k0_idx282_inb : ∀ (v134 : IVec S16 32) (v136 : IVec S16 32) (v442 : IVec S16 32) (k0_hw142 : k0_chk142 v134 v136 v442), ∀ a x, ((![v134, v442] : Fin 2 → IVec S16 32) a x).toNat < S96x384.size a := fun v134 v136 v442 k0_hw142 => k0_hw142.1
theorem k0_idx284_inb : ∀ (v134 : IVec S16 32) (v136 : IVec S16 32) (v442 : IVec S16 32) (k0_hw142 : k0_chk142 v134 v136 v442), ∀ a x, ((![v136, v442] : Fin 2 → IVec S16 32) a x).toNat < S96x384.size a := fun v134 v136 v442 k0_hw142 => k0_hw142.2
def k0_off85 (k0_t7 : Fin k0_t7_loop.trips) : Fin 2 → Nat :=
  let c0_i32_131 : BitVec 32 := 0#32
  let c0_i32_111 : BitVec 32 := 0#32
  let c1_i32_113 : BitVec 32 := 1#32
  let arg15 : BitVec 32 := Scf.iv c0_i32_111 c1_i32_113 k0_t7
  let c1_i32_130 : BitVec 32 := 1#32
  let v129 : BitVec 32 := Scalar.muli arg15 c1_i32_130
  let v130 : BitVec 32 := Scalar.addi c0_i32_131 v129
  let v473 : Index := Scalar.indexCast v130
  let c176 : Index := 176#32
  ![v473.toNat, 176]

def k0_chk143 (v134 : IVec S16 32) (v136 : IVec S16 32) (v470 : IVec S16 32) : Prop :=
  (∀ a x, ((![v134, v470] : Fin 2 → IVec S16 32) a x).toNat < S96x384.size a) ∧
  (∀ a x, ((![v136, v470] : Fin 2 → IVec S16 32) a x).toNat < S96x384.size a)
theorem k0_idx285_inb : ∀ (v134 : IVec S16 32) (v136 : IVec S16 32) (v470 : IVec S16 32) (k0_hw143 : k0_chk143 v134 v136 v470), ∀ a x, ((![v134, v470] : Fin 2 → IVec S16 32) a x).toNat < S96x384.size a := fun v134 v136 v470 k0_hw143 => k0_hw143.1
theorem k0_idx287_inb : ∀ (v134 : IVec S16 32) (v136 : IVec S16 32) (v470 : IVec S16 32) (k0_hw143 : k0_chk143 v134 v136 v470), ∀ a x, ((![v136, v470] : Fin 2 → IVec S16 32) a x).toNat < S96x384.size a := fun v134 v136 v470 k0_hw143 => k0_hw143.2

def k0_chk144 (v134 : IVec S16 32) (v136 : IVec S16 32) (v472 : IVec S16 32) : Prop :=
  (∀ a x, ((![v134, v472] : Fin 2 → IVec S16 32) a x).toNat < S96x384.size a) ∧
  (∀ a x, ((![v136, v472] : Fin 2 → IVec S16 32) a x).toNat < S96x384.size a)
theorem k0_idx286_inb : ∀ (v134 : IVec S16 32) (v136 : IVec S16 32) (v472 : IVec S16 32) (k0_hw144 : k0_chk144 v134 v136 v472), ∀ a x, ((![v134, v472] : Fin 2 → IVec S16 32) a x).toNat < S96x384.size a := fun v134 v136 v472 k0_hw144 => k0_hw144.1
theorem k0_idx288_inb : ∀ (v134 : IVec S16 32) (v136 : IVec S16 32) (v472 : IVec S16 32) (k0_hw144 : k0_chk144 v134 v136 v472), ∀ a x, ((![v136, v472] : Fin 2 → IVec S16 32) a x).toNat < S96x384.size a := fun v134 v136 v472 k0_hw144 => k0_hw144.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x192x192 : Shape := ⟨4, ![4, 96, 192, 192]⟩
abbrev S384x36864 : Shape := ⟨2, ![384, 36864]⟩
abbrev S384 : Shape := ⟨1, ![384]⟩
abbrev S384x1 : Shape := ⟨2, ![384, 1]⟩
abbrev S_ : Shape := ⟨0, ![]⟩
abbrev S384x147456 : Shape := ⟨2, ![384, 147456]⟩
abbrev S384x36864x1 : Shape := ⟨3, ![384, 36864, 1]⟩
abbrev S384x36864x2 : Shape := ⟨3, ![384, 36864, 2]⟩
abbrev S4x96x384x384 : Shape := ⟨4, ![4, 96, 384, 384]⟩

abbrev nBuf : Space → Nat
  | .hbm => 28
  | .vmem => 0
  | .smem => 0
  | _ => 0

abbrev bufTy : (tb : Table) → Fin (tcTables nBuf tb) → BufTy
  | .hbm, ⟨0, _⟩ => ⟨S4x96x192x192, .f32⟩
  | .hbm, ⟨1, _⟩ => ⟨S4x96x192x192, .i32⟩
  | .hbm, ⟨2, _⟩ => ⟨S384x36864, .f32⟩
  | .hbm, ⟨3, _⟩ => ⟨S384x36864, .i32⟩
  | .hbm, ⟨4, _⟩ => ⟨S384, .i32⟩
  | .hbm, ⟨5, _⟩ => ⟨S384x1, .i32⟩
  | .hbm, ⟨6, _⟩ => ⟨S_, .f32⟩
  | .hbm, ⟨7, _⟩ => ⟨S384x147456, .f32⟩
  | .hbm, ⟨8, _⟩ => ⟨S_, .i32⟩
  | .hbm, ⟨9, _⟩ => ⟨S384x1, .i32⟩
  | .hbm, ⟨10, _⟩ => ⟨S384x1, .i1⟩
  | .hbm, ⟨11, _⟩ => ⟨S_, .i32⟩
  | .hbm, ⟨12, _⟩ => ⟨S384x1, .i32⟩
  | .hbm, ⟨13, _⟩ => ⟨S384x1, .i32⟩
  | .hbm, ⟨14, _⟩ => ⟨S384x1, .i32⟩
  | .hbm, ⟨15, _⟩ => ⟨S_, .i32⟩
  | .hbm, ⟨16, _⟩ => ⟨S384x36864, .i32⟩
  | .hbm, ⟨17, _⟩ => ⟨S384x36864, .i1⟩
  | .hbm, ⟨18, _⟩ => ⟨S_, .i32⟩
  | .hbm, ⟨19, _⟩ => ⟨S384x36864, .i32⟩
  | .hbm, ⟨20, _⟩ => ⟨S384x36864, .i32⟩
  | .hbm, ⟨21, _⟩ => ⟨S384x36864, .i32⟩
  | .hbm, ⟨22, _⟩ => ⟨S384x36864, .i32⟩
  | .hbm, ⟨23, _⟩ => ⟨S384x36864x1, .i32⟩
  | .hbm, ⟨24, _⟩ => ⟨S384x36864x1, .i32⟩
  | .hbm, ⟨25, _⟩ => ⟨S384x36864x2, .i32⟩
  | .hbm, ⟨26, _⟩ => ⟨S384x147456, .f32⟩
  | .hbm, ⟨27, _⟩ => ⟨S4x96x384x384, .f32⟩
  | _, _ => ⟨S4x96x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Program.lean ====
/-
  The kernel's body named piece by piece.

  A tile works on 48 chunks, each a block of 48 rows of one plane. A chunk is: two copies in (the values and the
  indices), two waits for them, a loop over the 48 rows, one copy out. A row is twelve groups of sixteen lanes, and a
  group writes the four cells of sixteen windows. The printed body says each of these several times over; here each is
  one program, over the buffers, offsets and words that vary, and `body_eq` says that the printed body is their
  sequence.
-/
module

public import proofs.«01_k».proof.Defs
public import proofs.«01_k».proof.Proof.Gen.KernelIdeal

@[expose] public section

noncomputable section

namespace Cert.Proof.Unpool

open Idealize.ShloMosaic Idealize.SL.Sem
open Cert.KernelIdeal Cert.KernelIdeal.Gen

variable {F : FTy → Type} [FloatOps F]

/-- A tile's programs. -/
abbrev TileProg (F : FTy → Type) [FloatOps F] (i : grid0.Coords) (α : Type) : Type _ :=
  Prog (TpuEff nD τ sig (Elt F) Λ₀ (.scVector ((i 0).castLE hcore0) ((i 1).castLE hsub0))) α

/-- The sixteen lane numbers. -/
abbrev lanes : IVec S16 32 := iota .scVector S16 32 [0] iota_S16_d0_w32_scVector

/-- Sixteen zeros. -/
abbrev zeros (F : FTy → Type) [FloatOps F] : FVec F S16 .f32 := broadcast S16 (Scalar.ofBits .f32 0x00000000#32)

/-- The column of each lane's window's left cells, for the group whose first left cell is in column `c`. -/
abbrev leftCols (c : BitVec 32) : IVec S16 32 := addi (broadcast S16 c) (muli (broadcast S16 2#32) lanes)

/-- The column to the right of each. -/
abbrev rightCols (c : BitVec 32) : IVec S16 32 := addi (leftCols c) (broadcast S16 1#32)

/-- The upper row of the windows of row `r`, in each lane, -/
abbrev upRows (r : BitVec 32) : IVec S16 32 := broadcast S16 (Scalar.muli 2#32 r)

/-- and the row below it. -/
abbrev downRows (r : BitVec 32) : IVec S16 32 := addi (upRows r) (broadcast S16 1#32)

/-- Which lanes' indices name a lower cell: those whose index less the row's first is at least a row's length. -/
abbrev isDown (ld : Vec F S1x16 .i32) (base : BitVec 32) : IVec S16 1 :=
  cmpi .sge (subi (shapeCast S16 ld shapeCasts_S1x16_S16) (broadcast S16 base)) (broadcast S16 384#32)

/-- Which lanes' indices name a right-hand cell: those whose index less the row's first is odd. -/
abbrev isRight (ld : Vec F S1x16 .i32) (base : BitVec 32) : IVec S16 1 :=
  cmpi .eq (andi (subi (shapeCast S16 ld shapeCasts_S1x16_S16) (broadcast S16 base)) (broadcast S16 1#32)) (broadcast S16 1#32)

/-- Sixteen set bits. -/
abbrev ones16 : IVec S16 1 := constantI S16 1 1#1

/-- One group: sixteen windows' four cells, from sixteen values and their indices. -/
def group (i : grid0.Coords) (xs : Memref sig .scVector .vmem S48x192 .f32) (is : Memref sig .scVector .vmem S48x192 .i32)
    (os : Memref sig .scVector .vmem S96x384 .f32) (r base c : BitVec 32) (off : Fin 2 → Nat)
    (inb : ∀ a, off a + S1x16.size a ≤ S48x192.size a) : TileProg F i PUnit := do
  have h1 : k0_chk1 (upRows r) (downRows r) (leftCols c) :=
    (← Prog.lift (TpuEff.assume (k0_chk1 (upRows r) (downRows r) (leftCols c)) (k0_chk1.dec (upRows r) (downRows r) (leftCols c)))).down
  have h2 : k0_chk2 (upRows r) (downRows r) (rightCols c) :=
    (← Prog.lift (TpuEff.assume (k0_chk2 (upRows r) (downRows r) (rightCols c)) (k0_chk2.dec (upRows r) (downRows r) (rightCols c)))).down
  let il : Vec F S1x16 .i32 ← Prog.lift (.load is (Rect.unit (s := S48x192) off S1x16.size inb).toLoadRect (View.loadsAt_vmem h_S1x16))
  let xl : Vec F S1x16 .f32 ← Prog.lift (.load xs (Rect.unit (s := S48x192) off S1x16.size inb).toLoadRect (View.loadsAt_vmem h_S1x16))
  SparseCore.vectorStoreIdx os ![upRows r, leftCols c]
    (select (ori (isDown (F := F) il base) (isRight (F := F) il base)) (zeros F) (shapeCast S16 xl shapeCasts_S1x16_S16)) (fun _ => 1#1) false h1.1
    (View.stores_vmem_bits_univ h_S96x384 rfl)
  SparseCore.vectorStoreIdx os ![upRows r, rightCols c]
    (select (ori (isDown (F := F) il base) (xori (isRight (F := F) il base) ones16)) (zeros F) (shapeCast S16 xl shapeCasts_S1x16_S16)) (fun _ => 1#1) false h2.1
    (View.stores_vmem_bits_univ h_S96x384 rfl)
  SparseCore.vectorStoreIdx os ![downRows r, leftCols c]
    (select (ori (xori (isDown (F := F) il base) ones16) (isRight (F := F) il base)) (zeros F) (shapeCast S16 xl shapeCasts_S1x16_S16)) (fun _ => 1#1) false h1.2
    (View.stores_vmem_bits_univ h_S96x384 rfl)
  SparseCore.vectorStoreIdx os ![downRows r, rightCols c]
    (select (ori (xori (isDown (F := F) il base) ones16) (xori (isRight (F := F) il base) ones16)) (zeros F) (shapeCast S16 xl shapeCasts_S1x16_S16)) (fun _ => 1#1) false h2.2
    (View.stores_vmem_bits_univ h_S96x384 rfl)

/-- The offsets of the twelve groups' reads in row `t`. -/
abbrev rowOff (t : Fin k0_t1_loop.trips) : Fin 12 → Fin 2 → Nat :=
  ![k0_off3 t, k0_off4 t, k0_off5 t, k0_off6 t, k0_off7 t, k0_off8 t, k0_off9 t, k0_off10 t, k0_off11 t, k0_off12 t, k0_off13 t, k0_off14 t]

/-- They are column `16 j` of row `t`. -/
theorem rowOff_eq (t : Fin k0_t1_loop.trips) : ∀ j : Fin 12, rowOff t j = ![t.val, 16 * j.val] := by
  intro j
  fin_cases j
  · exact k0_off3_eq t
  · exact k0_off4_eq t
  · exact k0_off5_eq t
  · exact k0_off6_eq t
  · exact k0_off7_eq t
  · exact k0_off8_eq t
  · exact k0_off9_eq t
  · exact k0_off10_eq t
  · exact k0_off11_eq t
  · exact k0_off12_eq t
  · exact k0_off13_eq t
  · exact k0_off14_eq t

theorem trips_le : k0_t1_loop.trips ≤ 48 := k0_t1_abs.2.1

theorem rowOff_inb (t : Fin k0_t1_loop.trips) (j : Fin 12) : ∀ a, rowOff t j a + S1x16.size a ≤ S48x192.size a := by
  intro a
  rw [rowOff_eq]
  have h1 := t.isLt
  have h2 := trips_le
  have h3 := j.isLt
  fin_cases a
  · show t.val + 1 ≤ 48; omega
  · show 16 * j.val + 16 ≤ 192; omega

/-- The row number of trip `t`, as the loop computes it. -/
abbrev rowWord (t : Fin k0_t1_loop.trips) : BitVec 32 := Scalar.addi 0#32 (Scalar.muli (Scf.iv 0#32 1#32 t) 1#32)

/-- The groups `js` of a row, in order. -/
def groups (i : grid0.Coords) (xs : Memref sig .scVector .vmem S48x192 .f32) (is : Memref sig .scVector .vmem S48x192 .i32)
    (os : Memref sig .scVector .vmem S96x384 .f32) (r0 : BitVec 32) (t : Fin k0_t1_loop.trips) : List (Fin 12) → TileProg F i PUnit
  | [] => .ret ⟨⟩
  | j :: js => do
    group i xs is os (rowWord t) (Scalar.muli (Scalar.addi r0 (rowWord t)) 768#32) (BitVec.ofNat 32 (32 * j.val)) (rowOff t j) (rowOff_inb t j)
    groups i xs is os r0 t js

/-- One row: its twelve groups. -/
abbrev rowTrip (i : grid0.Coords) (xs : Memref sig .scVector .vmem S48x192 .f32) (is : Memref sig .scVector .vmem S48x192 .i32)
    (os : Memref sig .scVector .vmem S96x384 .f32) (r0 : BitVec 32) (t : Fin k0_t1_loop.trips) : TileProg F i PUnit :=
  groups i xs is os r0 t [0, 1, 2, 3, 4, 5, 6, 7, 8, 9, 10, 11]

/-- The loop over a chunk's rows; `r0` is the chunk's first row in its plane. -/
abbrev rowLoop (i : grid0.Coords) (xs : Memref sig .scVector .vmem S48x192 .f32) (is : Memref sig .scVector .vmem S48x192 .i32)
    (os : Memref sig .scVector .vmem S96x384 .f32) (r0 : BitVec 32) : TileProg F i PUnit :=
  Scf.Loop.for k0_t1_loop k0_t1_ok ⟨⟩ fun t _ => rowTrip i xs is os r0 t

/-- A block of 48 rows of one plane of an input. -/
abbrev inBlock {e : EltTy} (a : Memref sig .scVector .hbm S384x192x192 e) (off : Fin 3 → Nat)
    (inb : ∀ a, off a + S1x48x192.size a ≤ S384x192x192.size a) : Memref sig .scVector .hbm S48x192 e :=
  (a.slice (Rect.unit (s := S384x192x192) off S1x48x192.size inb) (fun _ => rfl)).squeeze S48x192 squeezes_S1x48x192_S48x192

/-- A block of 96 rows of one plane of the output. -/
abbrev outBlock (a : Memref sig .scVector .hbm S384x384x384 .f32) (off : Fin 3 → Nat)
    (inb : ∀ a, off a + S1x96x384.size a ≤ S384x384x384.size a) : Memref sig .scVector .hbm S96x384 .f32 :=
  (a.slice (Rect.unit (s := S384x384x384) off S1x96x384.size inb) (fun _ => rfl)).squeeze S96x384 squeezes_S1x96x384_S96x384

section Copies

variable (i : grid0.Coords) (xa : Memref sig .scVector .hbm S384x192x192 .f32) (ia : Memref sig .scVector .hbm S384x192x192 .i32)
  (oa : Memref sig .scVector .hbm S384x384x384 .f32)
  (xs : Memref sig .scVector .vmem S48x192 .f32) (hxs : xs.IsWhole) (is : Memref sig .scVector .vmem S48x192 .i32) (his : is.IsWhole)
  (os : Memref sig .scVector .vmem S96x384 .f32) (hos : os.IsWhole) (sem : DmaSems sig S_)

/-- The two copies in of a chunk, both on one semaphore, -/
def startIn (off : Fin 3 → Nat) (inb : ∀ a, off a + S1x48x192.size a ≤ S384x192x192.size a) : TileProg F i PUnit := do
  Prog.lift (.enqueueDma (inBlock xa off inb) (.here xs) (.dma sem.sem) ((View.wordExact_bits rfl).reshape _ _) hxs.wordExact ⟨Or.inl rfl, trivial⟩)
  Prog.lift (.enqueueDma (inBlock ia off inb) (.here is) (.dma sem.sem) ((View.wordExact_bits rfl).reshape _ _) his.wordExact ⟨Or.inl rfl, trivial⟩)

/-- the waits for them, -/
def waitIn (off : Fin 3 → Nat) (inb : ∀ a, off a + S1x48x192.size a ≤ S384x192x192.size a) : TileProg F i PUnit := do
  Prog.lift (.waitDma2 sem.sem (inBlock xa off inb) xs ((View.wordExact_bits rfl).reshape _ _) hxs.wordExact)
  Prog.lift (.waitDma2 sem.sem (inBlock ia off inb) is ((View.wordExact_bits rfl).reshape _ _) his.wordExact)

/-- the copy out, -/
def startOut (off : Fin 3 → Nat) (inb : ∀ a, off a + S1x96x384.size a ≤ S384x384x384.size a) : TileProg F i PUnit :=
  Prog.lift (.enqueueDma os (.here (outBlock oa off inb)) (.dma sem.sem) hos.wordExact ((View.wordExact_bits rfl).reshape _ _) ⟨Or.inl rfl, trivial⟩)

/-- and the wait for it. -/
def waitOut (off : Fin 3 → Nat) (inb : ∀ a, off a + S1x96x384.size a ≤ S384x384x384.size a) : TileProg F i PUnit :=
  Prog.lift (.waitDma2 sem.sem os (outBlock oa off inb) hos.wordExact ((View.wordExact_bits rfl).reshape _ _))

end Copies

/-- The number of the first of trip `t`'s two chunks, as the loop over pairs of chunks computes it. -/
abbrev pairWord (t : Fin k0_t3_loop.trips) : BitVec 32 := Scalar.muli (Scf.iv 1#32 1#32 t) 2#32

/-- The first row in its plane of the chunk numbered `g`. -/
abbrev firstRow (g : BitVec 32) : BitVec 32 := Scalar.muli (Scalar.andi g 3#32) 48#32

section Body

variable (i : grid0.Coords) (arg2 : Memref sig .scVector .hbm S384x192x192 .f32) (harg2 : arg2.IsWhole)
  (arg3 : Memref sig .scVector .hbm S384x192x192 .i32) (harg3 : arg3.IsWhole)
  (arg4 : Memref sig .scVector .hbm S384x384x384 .f32) (harg4 : arg4.IsWhole)
  (arg5 : Memref sig .scVector .vmem S48x192 .f32) (harg5 : arg5.IsWhole) (arg6 : Memref sig .scVector .vmem S48x192 .f32) (harg6 : arg6.IsWhole)
  (arg7 : Memref sig .scVector .vmem S48x192 .i32) (harg7 : arg7.IsWhole) (arg8 : Memref sig .scVector .vmem S48x192 .i32) (harg8 : arg8.IsWhole)
  (arg9 : Memref sig .scVector .vmem S96x384 .f32) (harg9 : arg9.IsWhole) (arg10 : Memref sig .scVector .vmem S96x384 .f32) (harg10 : arg10.IsWhole)
  (arg11 arg12 arg13 arg14 : DmaSems sig S_)

/-- One trip of the loop over pairs: an even chunk through the first buffers, then an odd one through the second, each
    starting the next chunk's copies in before it waits for its own. -/
def pairTrip (t : Fin k0_t3_loop.trips) : TileProg F i PUnit := do
  startIn i arg2 arg3 arg6 harg6 arg8 harg8 arg12 (k0_off30 i t) (k0_off30_inb i t)
  waitOut i arg4 arg9 harg9 arg13 (k0_off31 i t) (k0_off31_inb i t)
  waitIn i arg2 arg3 arg5 harg5 arg7 harg7 arg11 (k0_off32 i t) (k0_off32_inb i t)
  rowLoop i arg5 arg7 arg9 (firstRow (pairWord t))
  startOut i arg4 arg9 harg9 arg13 (k0_off31 i t) (k0_off31_inb i t)
  startIn i arg2 arg3 arg5 harg5 arg7 harg7 arg11 (k0_off45 i t) (k0_off45_inb i t)
  waitOut i arg4 arg10 harg10 arg14 (k0_off46 i t) (k0_off46_inb i t)
  waitIn i arg2 arg3 arg6 harg6 arg8 harg8 arg12 (k0_off30 i t) (k0_off30_inb i t)
  rowLoop i arg6 arg8 arg10 (firstRow (Scalar.addi (pairWord t) 1#32))
  startOut i arg4 arg10 harg10 arg14 (k0_off46 i t) (k0_off46_inb i t)

/-- The two chunks before that loop: no copy out of theirs has an earlier one to wait for. -/
def before : TileProg F i PUnit := do
  startIn i arg2 arg3 arg5 harg5 arg7 harg7 arg11 (k0_off1 i) (k0_off1_inb i)
  startIn i arg2 arg3 arg6 harg6 arg8 harg8 arg12 (k0_off2 i) (k0_off2_inb i)
  waitIn i arg2 arg3 arg5 harg5 arg7 harg7 arg11 (k0_off1 i) (k0_off1_inb i)
  rowLoop i arg5 arg7 arg9 0#32
  startOut i arg4 arg9 harg9 arg13 (k0_off15 i) (k0_off15_inb i)
  startIn i arg2 arg3 arg5 harg5 arg7 harg7 arg11 (k0_off16 i 0#32) (k0_off16_inb i 0)
  waitIn i arg2 arg3 arg6 harg6 arg8 harg8 arg12 (k0_off2 i) (k0_off2_inb i)
  rowLoop i arg6 arg8 arg10 48#32
  startOut i arg4 arg10 harg10 arg14 (k0_off29 i) (k0_off29_inb i)

/-- The loop over pairs. -/
abbrev pairs : TileProg F i PUnit :=
  Scf.Loop.for k0_t3_loop k0_t3_ok ⟨⟩ fun t _ =>
    pairTrip i arg2 arg3 arg4 arg5 harg5 arg6 harg6 arg7 harg7 arg8 harg8 arg9 harg9 arg10 harg10 arg11 arg12 arg13 arg14 t

/-- The two chunks after it, and the last copies out awaited. -/
def after : TileProg F i PUnit := do
  startIn i arg2 arg3 arg6 harg6 arg8 harg8 arg12 (k0_off59 i) (k0_off59_inb i)
  waitOut i arg4 arg9 harg9 arg13 (k0_off60 i) (k0_off60_inb i)
  waitIn i arg2 arg3 arg5 harg5 arg7 harg7 arg11 (k0_off16 i 11#32) (k0_off16_inb i 1)
  rowLoop i arg5 arg7 arg9 96#32
  startOut i arg4 arg9 harg9 arg13 (k0_off60 i) (k0_off60_inb i)
  waitOut i arg4 arg10 harg10 arg14 (k0_off73 i) (k0_off73_inb i)
  waitIn i arg2 arg3 arg6 harg6 arg8 harg8 arg12 (k0_off59 i) (k0_off59_inb i)
  rowLoop i arg6 arg8 arg10 144#32
  startOut i arg4 arg10 harg10 arg14 (k0_off73 i) (k0_off73_inb i)
  waitOut i arg4 arg9 harg9 arg13 (k0_off60 i) (k0_off60_inb i)
  waitOut i arg4 arg10 harg10 arg14 (k0_off73 i) (k0_off73_inb i)

/-! The printed body is cut into windows of a fixed number of statements; what each window is, in these terms. -/

theorem window41 (v2 : BitVec 32) (t : Fin k0_t3_loop.trips) :
    k0_part41 (F := F) i arg2 harg2 arg3 harg3 arg4 harg4 arg5 harg5 arg6 harg6 arg7 harg7 arg8 harg8 arg9 harg9 arg10 harg10 arg11 arg12 arg13 arg14 v2 1#32 1#32 t = (do
      startIn i arg2 arg3 arg6 harg6 arg8 harg8 arg12 (k0_off30 i t) (k0_off30_inb i t)
      waitOut i arg4 arg9 harg9 arg13 (k0_off31 i t) (k0_off31_inb i t)
      Prog.lift (.waitDma2 arg11.sem (inBlock arg2 (k0_off32 i t) (k0_off32_inb i t)) arg5 ((View.wordExact_bits rfl).reshape _ _) harg5.wordExact)
      pure (pairWord t)) := rfl

set_option maxHeartbeats 4000000 in
theorem window42 (v2 : BitVec 32) (t : Fin k0_t3_loop.trips) :
    k0_part42 (F := F) i arg2 harg2 arg3 harg3 arg4 harg4 arg5 harg5 arg6 harg6 arg7 harg7 arg8 harg8 arg9 harg9 arg10 harg10 arg11 arg12 arg13 arg14 v2 lanes t (pairWord t) = (do
      Prog.lift (.waitDma2 arg11.sem (inBlock arg3 (k0_off32 i t) (k0_off32_inb i t)) arg7 ((View.wordExact_bits rfl).reshape _ _) harg7.wordExact)
      rowLoop i arg5 arg7 arg9 (firstRow (pairWord t))
      startOut i arg4 arg9 harg9 arg13 (k0_off31 i t) (k0_off31_inb i t)
      startIn i arg2 arg3 arg5 harg5 arg7 harg7 arg11 (k0_off45 i t) (k0_off45_inb i t)
      pure ⟨Scalar.addi (pairWord t) 1#32, 2#32⟩) := rfl

set_option maxHeartbeats 4000000 in
theorem window43 (v2 : BitVec 32) (t : Fin k0_t3_loop.trips) :
    k0_part43 (F := F) i arg2 harg2 arg3 harg3 arg4 harg4 arg5 harg5 arg6 harg6 arg7 harg7 arg8 harg8 arg9 harg9 arg10 harg10 arg11 arg12 arg13 arg14 v2 lanes t (Scalar.addi (pairWord t) 1#32) 2#32 = (do
      waitOut i arg4 arg10 harg10 arg14 (k0_off46 i t) (k0_off46_inb i t)
      waitIn i arg2 arg3 arg6 harg6 arg8 harg8 arg12 (k0_off30 i t) (k0_off30_inb i t)
      rowLoop i arg6 arg8 arg10 (firstRow (Scalar.addi (pairWord t) 1#32))
      pure ⟨⟩) := rfl

/-- A trip of the printed loop over pairs is `pairTrip`. -/
theorem pairTrip_eq (v2 : BitVec 32) (t : Fin k0_t3_loop.trips) :
    (do
      let v129 : BitVec 32 ← k0_part41 (F := F) i arg2 harg2 arg3 harg3 arg4 harg4 arg5 harg5 arg6 harg6 arg7 harg7 arg8 harg8 arg9 harg9 arg10 harg10 arg11 arg12 arg13 arg14 v2 1#32 1#32 t
      let ⟨v179, c2_i32_174⟩ : Σ' (v179 : BitVec 32), BitVec 32 ← k0_part42 i arg2 harg2 arg3 harg3 arg4 harg4 arg5 harg5 arg6 harg6 arg7 harg7 arg8 harg8 arg9 harg9 arg10 harg10 arg11 arg12 arg13 arg14 v2 lanes t v129
      k0_part43 i arg2 harg2 arg3 harg3 arg4 harg4 arg5 harg5 arg6 harg6 arg7 harg7 arg8 harg8 arg9 harg9 arg10 harg10 arg11 arg12 arg13 arg14 v2 lanes t v179 c2_i32_174
      startOut i arg4 arg10 harg10 arg14 (k0_off46 i t) (k0_off46_inb i t))
      = pairTrip i arg2 arg3 arg4 arg5 harg5 arg6 harg6 arg7 harg7 arg8 harg8 arg9 harg9 arg10 harg10 arg11 arg12 arg13 arg14 t := by
  simp only [window41, window42, window43, bind_assoc, pure_bind, pairTrip, waitIn]

theorem window64 :
    k0_part64 (F := F) i arg2 harg2 arg3 harg3 arg4 harg4 arg5 harg5 arg6 harg6 arg7 harg7 arg8 harg8 arg9 harg9 arg10 harg10 arg11 arg12 arg13 arg14 = (do
      startIn i arg2 arg3 arg5 harg5 arg7 harg7 arg11 (k0_off1 i) (k0_off1_inb i)
      startIn i arg2 arg3 arg6 harg6 arg8 harg8 arg12 (k0_off2 i) (k0_off2_inb i)
      Prog.lift (.waitDma2 arg11.sem (inBlock arg2 (k0_off1 i) (k0_off1_inb i)) arg5 ((View.wordExact_bits rfl).reshape _ _) harg5.wordExact)
      pure ⟨Scalar.muli (Scalar.addi (Scalar.muli (BitVec.ofNat 32 (i 1).val) 2#32) (BitVec.ofNat 32 (i 0).val)) 12#32, lanes⟩) := rfl

set_option maxHeartbeats 4000000 in
theorem window65 (v2 : BitVec 32) :
    k0_part65 (F := F) i arg2 harg2 arg3 harg3 arg4 harg4 arg5 harg5 arg6 harg6 arg7 harg7 arg8 harg8 arg9 harg9 arg10 harg10 arg11 arg12 arg13 arg14 v2 lanes = (do
      Prog.lift (.waitDma2 arg11.sem (inBlock arg3 (k0_off1 i) (k0_off1_inb i)) arg7 ((View.wordExact_bits rfl).reshape _ _) harg7.wordExact)
      rowLoop i arg5 arg7 arg9 0#32
      startOut i arg4 arg9 harg9 arg13 (k0_off15 i) (k0_off15_inb i)
      startIn i arg2 arg3 arg5 harg5 arg7 harg7 arg11 (k0_off16 i 0#32) (k0_off16_inb i 0)
      Prog.lift (.waitDma2 arg12.sem (inBlock arg2 (k0_off2 i) (k0_off2_inb i)) arg6 ((View.wordExact_bits rfl).reshape _ _) harg6.wordExact)) := rfl

set_option maxHeartbeats 4000000 in
theorem window66 (v2 : BitVec 32) :
    k0_part66 (F := F) i arg2 harg2 arg3 harg3 arg4 harg4 arg5 harg5 arg6 harg6 arg7 harg7 arg8 harg8 arg9 harg9 arg10 harg10 arg11 arg12 arg13 arg14 v2 lanes = (do
      Prog.lift (.waitDma2 arg12.sem (inBlock arg3 (k0_off2 i) (k0_off2_inb i)) arg8 ((View.wordExact_bits rfl).reshape _ _) harg8.wordExact)
      rowLoop i arg6 arg8 arg10 48#32
      startOut i arg4 arg10 harg10 arg14 (k0_off29 i) (k0_off29_inb i)
      pairs i arg2 arg3 arg4 arg5 harg5 arg6 harg6 arg7 harg7 arg8 harg8 arg9 harg9 arg10 harg10 arg11 arg12 arg13 arg14
      startIn i arg2 arg3 arg6 harg6 arg8 harg8 arg12 (k0_off59 i) (k0_off59_inb i)) := by
  unfold pairs
  simp only [← pairTrip_eq i arg2 harg2 arg3 harg3 arg4 harg4 arg5 harg5 arg6 harg6 arg7 harg7 arg8 harg8 arg9 harg9 arg10 harg10 arg11 arg12 arg13 arg14 v2]
  rfl

set_option maxHeartbeats 4000000 in
theorem window67 (v2 : BitVec 32) :
    k0_part67 (F := F) i arg2 harg2 arg3 harg3 arg4 harg4 arg5 harg5 arg6 harg6 arg7 harg7 arg8 harg8 arg9 harg9 arg10 harg10 arg11 arg12 arg13 arg14 v2 lanes = (do
      waitOut i arg4 arg9 harg9 arg13 (k0_off60 i) (k0_off60_inb i)
      waitIn i arg2 arg3 arg5 harg5 arg7 harg7 arg11 (k0_off16 i 11#32) (k0_off16_inb i 1)
      rowLoop i arg5 arg7 arg9 96#32
      startOut i arg4 arg9 harg9 arg13 (k0_off60 i) (k0_off60_inb i)
      waitOut i arg4 arg10 harg10 arg14 (k0_off73 i) (k0_off73_inb i)
      pure 11#32) := rfl

set_option maxHeartbeats 4000000 in
theorem window68 (v2 : BitVec 32) :
    k0_part68 (F := F) i arg2 harg2 arg3 harg3 arg4 harg4 arg5 harg5 arg6 harg6 arg7 harg7 arg8 harg8 arg9 harg9 arg10 harg10 arg11 arg12 arg13 arg14 v2 lanes 11#32 = (do
      waitIn i arg2 arg3 arg6 harg6 arg8 harg8 arg12 (k0_off59 i) (k0_off59_inb i)
      rowLoop i arg6 arg8 arg10 144#32
      startOut i arg4 arg10 harg10 arg14 (k0_off73 i) (k0_off73_inb i)
      waitOut i arg4 arg9 harg9 arg13 (k0_off60 i) (k0_off60_inb i)) := rfl

/-- The printed body is these three in turn. -/
theorem body_eq :
    cc0__unpool (F := F) i arg2 harg2 arg3 harg3 arg4 harg4 arg5 harg5 arg6 harg6 arg7 harg7 arg8 harg8 arg9 harg9 arg10 harg10 arg11 arg12 arg13 arg14 = (do
      before i arg2 arg3 arg4 arg5 harg5 arg6 harg6 arg7 harg7 arg8 harg8 arg9 harg9 arg10 harg10 arg11 arg12 arg13 arg14
      pairs i arg2 arg3 arg4 arg5 harg5 arg6 harg6 arg7 harg7 arg8 harg8 arg9 harg9 arg10 harg10 arg11 arg12 arg13 arg14
      after i arg2 arg3 arg4 arg5 harg5 arg6 harg6 arg7 harg7 arg8 harg8 arg9 harg9 arg10 harg10 arg11 arg12 arg13 arg14) := by
  unfold cc0__unpool
  simp only [window64, window65, window66, window67, window68, bind_assoc, pure_bind, before, after, waitIn]
  rfl

end Body

end Cert.Proof.Unpool

end
-- ==== Proof.Values.lean ====
/-
  What a chunk's output block holds, and what the four scattered stores of a group leave in it.
-/
module

public import proofs.«01_k».proof.Proof.Program
public import Idealize.ShloMosaic.Lib.LaneScatter.Casts
public import Idealize.ShloMosaic.Lib.ValueIdxCore

@[expose] public section

noncomputable section

namespace Cert.Proof.Unpool

open Idealize.ShloMosaic Idealize.ShloMosaic.ValueIdx
open Cert.KernelIdeal Cert.KernelIdeal.Gen

/-- Cell `(a, b)` of a window whose index word is `w` and whose row's first index is `base`: the value `x` if the index
    names this cell — its row by being a row's length past `base` or not, its column by its parity —, else `z`. -/
def cell {α : Type} (x z : α) (w base : BitVec 32) (a b : Nat) : α :=
  if ((384#32).sle (w - base) = true ↔ a = 1) ∧ ((w - base) &&& 1#32 = 1#32 ↔ b = 1) then x else z

/-- The first index of row `r` of the windows of a chunk whose first row is `r0`. -/
abbrev baseWord (r0 : BitVec 32) (r : Nat) : BitVec 32 := (r0 + BitVec.ofNat 32 r) * 768#32

variable {F : FTy → Type} [FloatOps F]

/-- Window of a cell of an output block. -/
abbrev window (y : S96x384.Idx) : S48x192.Idx :=
  ix2 ⟨(y 0).val / 2, by have h := (y 0).isLt; change (y 0).val < 96 at h; omega⟩ ⟨(y 1).val / 2, by have h := (y 1).isLt; change (y 1).val < 384 at h; omega⟩

/-- The zero of the format. -/
abbrev zeroOf (F : FTy → Type) [FloatOps F] : F .f32 := Scalar.ofBits .f32 0x00000000#32

/-- The output block of a chunk, from its values, its indices and its first row. -/
def block (X : S48x192.Idx → Elt F .f32) (I : S48x192.Idx → Elt F .i32) (r0 : BitVec 32) : S96x384.Idx → Elt F .f32 := fun y =>
  cell (X (window y)) (zeroOf F) (I (window y)) (baseWord r0 ((y 0).val / 2)) ((y 0).val % 2) ((y 1).val % 2)

/-! ## One scattered store -/

section Fold
variable {ι κ α : Type} (P : ι → κ → Prop) [∀ k j, Decidable (P k j)] (v : ι → α)

theorem fold_miss (j : κ) : ∀ (L : List ι) (f : κ → α), (∀ k ∈ L, ¬P k j) →
    L.foldl (fun g k => fun j => if P k j then v k else g j) f j = f j
  | [], _, _ => rfl
  | k :: L, f, h => by
    rw [List.foldl_cons, fold_miss j L _ fun k' hk => h k' (List.mem_cons_of_mem _ hk)]
    exact if_neg (h k List.mem_cons_self)

theorem fold_hit (j : κ) (k : ι) (hP : P k j) (hv : ∀ k', P k' j → v k' = v k) : ∀ (L : List ι) (f : κ → α), k ∈ L →
    L.foldl (fun g k => fun j => if P k j then v k else g j) f j = v k
  | [], _, h => absurd h List.not_mem_nil
  | k₀ :: L, f, h => by
    rw [List.foldl_cons]
    by_cases hL : ∃ k' ∈ L, P k' j
    · obtain ⟨k', hk', hP'⟩ := hL
      rw [fold_hit j k' hP' (fun k'' h'' => (hv k'' h'').trans (hv k' hP').symm) L _ hk', hv k' hP']
    · rw [fold_miss P v j L _ fun k' hk' hP' => hL ⟨k', hk', hP'⟩]
      rcases List.mem_cons.mp h with rfl | h
      · exact if_pos hP
      · exact absurd ⟨k, h, hP⟩ hL

end Fold

/-- Lane `k`. -/
abbrev laneIx (k : Fin 16) : S16.Idx := ix1 k

theorem ofLane_eq (k : Fin 16) : (Shape.ofLane (d := ![16]) k : S16.Idx) = laneIx k := by
  funext a
  match a with
  | ⟨0, _⟩ => rfl

/-- A group's store writes lane `k`'s value in row `h`, column `c + 2 k`, and nothing else. -/
theorem storeIdx_group (f : Vec F S96x384 .f32) (rows cols : IVec S16 32) (v : Vec F S16 .f32)
    (inb : ∀ a x, ((![rows, cols] : Fin 2 → IVec S16 32) a x).toNat < S96x384.size a) {h c : Nat}
    (hr : ∀ k : Fin 16, (rows (laneIx k)).toNat = h) (hc : ∀ k : Fin 16, (cols (laneIx k)).toNat = c + 2 * k.val) (y : S96x384.Idx) :
    (∀ k : Fin 16, (y 0).val = h → (y 1).val = c + 2 * k.val → storeIdx f ![rows, cols] v (fun _ => 1#1) false inb y = v (laneIx k))
      ∧ ((∀ k : Fin 16, (y 0).val = h → (y 1).val ≠ c + 2 * k.val) → storeIdx f ![rows, cols] v (fun _ => 1#1) false inb y = f y) := by
  have e : storeIdx f ![rows, cols] v (fun _ => 1#1) false inb y
      = (List.finRange 16).foldl (fun g (k : Fin 16) => fun (j : S96x384.Idx) =>
          if (∀ a, (j a).val = (idxAt ![rows, cols] inb (laneIx k) a).val) then v (laneIx k) else g j) f y := by
    unfold storeIdx
    refine congrFun (congrFun (congrArg (fun st => List.foldl st f) ?_) _) y
    funext g k j
    have hk := Iff.of_eq (congrArg (fun l : S16.Idx => ∀ a, (j a).val = (idxAt ![rows, cols] inb l a).val) (ofLane_eq k))
    refine (congrFun (if_pos rfl) j).trans ?_
    by_cases H : ∀ a, (j a).val = (idxAt ![rows, cols] inb (laneIx k) a).val
    · refine Eq.trans ?_ (if_pos H).symm
      refine Eq.trans (if_pos (hk.mpr H)) ?_
      exact (if_neg Bool.false_ne_true).trans (congrArg v (ofLane_eq k))
    · exact (if_neg fun H' => H (hk.mp H')).trans (if_neg H).symm
  have hP : ∀ k : Fin 16, (∀ a, (y a).val = (idxAt ![rows, cols] inb (laneIx k) a).val) ↔ (y 0).val = h ∧ (y 1).val = c + 2 * k.val := by
    intro k
    constructor
    · intro H
      exact ⟨(H 0).trans (hr k), (H 1).trans (hc k)⟩
    · rintro ⟨h0, h1⟩ a
      match a with
      | ⟨0, _⟩ => exact h0.trans (hr k).symm
      | ⟨1, _⟩ => exact h1.trans (hc k).symm
  constructor
  · intro k h0 h1
    rw [e]
    refine fold_hit _ (fun k => v (laneIx k)) y k ((hP k).mpr ⟨h0, h1⟩) (fun k' hk' => ?_) _ f (List.mem_finRange k)
    have := ((hP k').mp hk').2
    have : k' = k := Fin.ext (by omega)
    rw [this]
  · intro H
    rw [e]
    exact fold_miss _ (fun k => v (laneIx k)) y _ f fun k _ hk => H k ((hP k).mp hk).1 ((hP k).mp hk).2

/-! ## A group's words -/

theorem lanes_apply (k : Fin 16) : lanes (laneIx k) = BitVec.ofNat 32 k.val := by
  show BitVec.ofNat 32 (0 * 16 + k.val) = BitVec.ofNat 32 k.val
  rw [Nat.zero_mul, Nat.zero_add]

theorem leftCols_toNat {c : Nat} (hc : c ≤ 352) (k : Fin 16) : (leftCols (BitVec.ofNat 32 c) (laneIx k)).toNat = c + 2 * k.val := by
  have hk := k.isLt
  show (BitVec.ofNat 32 c + 2#32 * lanes (laneIx k)).toNat = _
  rw [lanes_apply, BitVec.toNat_add, BitVec.toNat_mul, BitVec.toNat_ofNat, BitVec.toNat_ofNat, BitVec.toNat_ofNat]
  omega

theorem rightCols_toNat {c : Nat} (hc : c ≤ 352) (k : Fin 16) : (rightCols (BitVec.ofNat 32 c) (laneIx k)).toNat = c + 1 + 2 * k.val := by
  have hk := k.isLt
  show (leftCols (BitVec.ofNat 32 c) (laneIx k) + 1#32).toNat = _
  rw [BitVec.toNat_add, leftCols_toNat hc, BitVec.toNat_ofNat]
  omega

theorem upRows_toNat {r : Nat} (hr : r < 48) (k : Fin 16) : (upRows (BitVec.ofNat 32 r) (laneIx k)).toNat = 2 * r := by
  show (2#32 * BitVec.ofNat 32 r).toNat = _
  rw [BitVec.toNat_mul, BitVec.toNat_ofNat, BitVec.toNat_ofNat]
  omega

theorem downRows_toNat {r : Nat} (hr : r < 48) (k : Fin 16) : (downRows (BitVec.ofNat 32 r) (laneIx k)).toNat = 2 * r + 1 := by
  show (upRows (BitVec.ofNat 32 r) (laneIx k) + 1#32).toNat = _
  rw [BitVec.toNat_add, upRows_toNat hr, BitVec.toNat_ofNat]
  omega

/-- Index vectors whose every lane is in range are in range. -/
theorem inb_of_lanes (rows cols : IVec S16 32) (hr : ∀ k : Fin 16, (rows (laneIx k)).toNat < 96) (hc : ∀ k : Fin 16, (cols (laneIx k)).toNat < 384) :
    ∀ a x, ((![rows, cols] : Fin 2 → IVec S16 32) a x).toNat < S96x384.size a := by
  intro a x
  have hx : x = laneIx (x 0) := by
    funext b
    match b with
    | ⟨0, _⟩ => rfl
  rw [hx]
  match a with
  | ⟨0, _⟩ => exact hr (x 0)
  | ⟨1, _⟩ => exact hc (x 0)

theorem check1 {r c : Nat} (hr : r < 48) (hc : c ≤ 352) :
    k0_chk1 (upRows (BitVec.ofNat 32 r)) (downRows (BitVec.ofNat 32 r)) (leftCols (BitVec.ofNat 32 c)) := by
  refine ⟨inb_of_lanes _ _ (fun k => ?_) (fun k => ?_), inb_of_lanes _ _ (fun k => ?_) (fun k => ?_)⟩
  · rw [upRows_toNat hr]; omega
  · rw [leftCols_toNat hc]; omega
  · rw [downRows_toNat hr]; omega
  · rw [leftCols_toNat hc]; omega

theorem check2 {r c : Nat} (hr : r < 48) (hc : c ≤ 352) :
    k0_chk2 (upRows (BitVec.ofNat 32 r)) (downRows (BitVec.ofNat 32 r)) (rightCols (BitVec.ofNat 32 c)) := by
  refine ⟨inb_of_lanes _ _ (fun k => ?_) (fun k => ?_), inb_of_lanes _ _ (fun k => ?_) (fun k => ?_)⟩
  · rw [upRows_toNat hr]; omega
  · rw [rightCols_toNat hc]; omega
  · rw [downRows_toNat hr]; omega
  · rw [rightCols_toNat hc]; omega

/-! ## A group's values -/

section Cells
variable {α : Type} (x z : α) (w base : BitVec 32)

/-- The word that says whether the index names the lower row, -/
abbrev dnWord : BitVec 1 := IntOp.cmpi .sge (IntOp.subi w base) 384#32
/-- and whether it names the right-hand column. -/
abbrev rtWord : BitVec 1 := IntOp.cmpi .eq (IntOp.andi (IntOp.subi w base) 1#32) 1#32

theorem dnWord_eq : dnWord w base = BitVec.ofBool ((384#32).sle (w - base)) := rfl
theorem rtWord_eq : rtWord w base = BitVec.ofBool ((w - base) &&& 1#32 == 1#32) := rfl

theorem cell_eq (a b : Nat) (d r : Bool) (hd : (384#32).sle (w - base) = d) (hr : ((w - base) &&& 1#32 == 1#32) = r) :
    cell x z w base a b = if (d = true ↔ a = 1) ∧ (r = true ↔ b = 1) then x else z := by
  subst hd hr
  simp only [cell, beq_iff_eq]

theorem cell00 : Scalar.select (IntOp.ori (dnWord w base) (rtWord w base)) z x = cell x z w base 0 0 := by
  rw [cell_eq x z w base 0 0 _ _ rfl rfl, dnWord_eq, rtWord_eq]
  cases (384#32).sle (w - base) <;> cases ((w - base) &&& 1#32 == 1#32) <;> simp [Scalar.select, IntOp.ori]

theorem cell01 : Scalar.select (IntOp.ori (dnWord w base) (IntOp.xori (rtWord w base) 1#1)) z x = cell x z w base 0 1 := by
  rw [cell_eq x z w base 0 1 _ _ rfl rfl, dnWord_eq, rtWord_eq]
  cases (384#32).sle (w - base) <;> cases ((w - base) &&& 1#32 == 1#32) <;> simp [Scalar.select, IntOp.ori, IntOp.xori]

theorem cell10 : Scalar.select (IntOp.ori (IntOp.xori (dnWord w base) 1#1) (rtWord w base)) z x = cell x z w base 1 0 := by
  rw [cell_eq x z w base 1 0 _ _ rfl rfl, dnWord_eq, rtWord_eq]
  cases (384#32).sle (w - base) <;> cases ((w - base) &&& 1#32 == 1#32) <;> simp [Scalar.select, IntOp.ori, IntOp.xori]

theorem cell11 : Scalar.select (IntOp.ori (IntOp.xori (dnWord w base) 1#1) (IntOp.xori (rtWord w base) 1#1)) z x = cell x z w base 1 1 := by
  rw [cell_eq x z w base 1 1 _ _ rfl rfl, dnWord_eq, rtWord_eq]
  cases (384#32).sle (w - base) <;> cases ((w - base) &&& 1#32 == 1#32) <;> simp [Scalar.select, IntOp.ori, IntOp.xori]

end Cells

/-- The four cells' values, in lane `k`. -/
abbrev vals (xl : Vec F S1x16 .f32) (il : Vec F S1x16 .i32) (base : BitVec 32) (a b : Nat) : Vec F S16 .f32 := fun l =>
  cell (xl (Fin.cons ⟨0, Nat.one_pos⟩ l)) (zeroOf F) (il (Fin.cons ⟨0, Nat.one_pos⟩ l)) base a b

theorem vals00 (xl : Vec F S1x16 .f32) (il : Vec F S1x16 .i32) (base : BitVec 32) :
    select (ori (isDown (F := F) il base) (isRight (F := F) il base)) (zeros F) (shapeCast S16 xl shapeCasts_S1x16_S16) = vals xl il base 0 0 := by
  funext l
  rw [vals, ← cell00, ← LaneScatter.cast_vec_apply (Ln := 16) xl shapeCasts_S1x16_S16 l, ← LaneScatter.cast_vec_apply (Ln := 16) il shapeCasts_S1x16_S16 l]
  rfl

theorem vals01 (xl : Vec F S1x16 .f32) (il : Vec F S1x16 .i32) (base : BitVec 32) :
    select (ori (isDown (F := F) il base) (xori (isRight (F := F) il base) ones16)) (zeros F) (shapeCast S16 xl shapeCasts_S1x16_S16) = vals xl il base 0 1 := by
  funext l
  rw [vals, ← cell01, ← LaneScatter.cast_vec_apply (Ln := 16) xl shapeCasts_S1x16_S16 l, ← LaneScatter.cast_vec_apply (Ln := 16) il shapeCasts_S1x16_S16 l]
  rfl

theorem vals10 (xl : Vec F S1x16 .f32) (il : Vec F S1x16 .i32) (base : BitVec 32) :
    select (ori (xori (isDown (F := F) il base) ones16) (isRight (F := F) il base)) (zeros F) (shapeCast S16 xl shapeCasts_S1x16_S16) = vals xl il base 1 0 := by
  funext l
  rw [vals, ← cell10, ← LaneScatter.cast_vec_apply (Ln := 16) xl shapeCasts_S1x16_S16 l, ← LaneScatter.cast_vec_apply (Ln := 16) il shapeCasts_S1x16_S16 l]
  rfl

theorem vals11 (xl : Vec F S1x16 .f32) (il : Vec F S1x16 .i32) (base : BitVec 32) :
    select (ori (xori (isDown (F := F) il base) ones16) (xori (isRight (F := F) il base) ones16)) (zeros F) (shapeCast S16 xl shapeCasts_S1x16_S16) = vals xl il base 1 1 := by
  funext l
  rw [vals, ← cell11, ← LaneScatter.cast_vec_apply (Ln := 16) xl shapeCasts_S1x16_S16 l, ← LaneScatter.cast_vec_apply (Ln := 16) il shapeCasts_S1x16_S16 l]
  rfl

/-! ## Progress through a block -/

/-- The cells written once `t` rows of windows and `j` groups of the next are done. -/
def Written (t j : Nat) (y : S96x384.Idx) : Prop := (y 0).val < 2 * t ∨ ((y 0).val < 2 * t + 2 ∧ (y 1).val < 32 * j)

/-- The block `f` is the chunk's so far. -/
def Agrees (f g : S96x384.Idx → Elt F .f32) (t j : Nat) : Prop := ∀ y, Written t j y → f y = g y

theorem agrees_zero (f g : S96x384.Idx → Elt F .f32) : Agrees f g 0 0 := by
  intro y hy
  rcases hy with h | h <;> omega

theorem agrees_row {f g : S96x384.Idx → Elt F .f32} {t : Nat} (h : Agrees f g t 12) : Agrees f g (t + 1) 0 := by
  intro y hy
  refine h y ?_
  have h1 := (y 1).isLt
  change (y 1).val < 384 at h1
  rcases hy with h | h
  · by_cases h' : (y 0).val < 2 * t
    · exact .inl h'
    · exact .inr ⟨by omega, by omega⟩
  · omega

theorem agrees_all {f g : S96x384.Idx → Elt F .f32} (h : Agrees f g 48 0) : f = g := by
  funext y
  have h0 := (y 0).isLt
  change (y 0).val < 96 at h0
  exact h y (.inl (by omega))

/-- A group's four stores in turn. -/
def fourStores (f : Vec F S96x384 .f32) (up dn left right : IVec S16 32) (v00 v01 v10 v11 : Vec F S16 .f32) (h1 : k0_chk1 up dn left) (h2 : k0_chk2 up dn right) :
    Vec F S96x384 .f32 :=
  storeIdx (storeIdx (storeIdx (storeIdx f ![up, left] v00 (fun _ => 1#1) false h1.1)
    ![up, right] v01 (fun _ => 1#1) false h2.1) ![dn, left] v10 (fun _ => 1#1) false h1.2) ![dn, right] v11 (fun _ => 1#1) false h2.2

/-- They take a block from group `j` of row `t` to the next. -/
theorem agrees_group (X : S48x192.Idx → Elt F .f32) (I : S48x192.Idx → Elt F .i32) (r0 : BitVec 32) (f : Vec F S96x384 .f32) {t j : Nat} (ht : t < 48) (hj : j < 12)
    (h : Agrees f (block X I r0) t j) (xl : Vec F S1x16 .f32) (il : Vec F S1x16 .i32)
    (hx : ∀ k : Fin 16, xl (Fin.cons ⟨0, Nat.one_pos⟩ (laneIx k)) = X (ix2 ⟨t, ht⟩ ⟨16 * j + k.val, by omega⟩))
    (hi : ∀ k : Fin 16, il (Fin.cons ⟨0, Nat.one_pos⟩ (laneIx k)) = I (ix2 ⟨t, ht⟩ ⟨16 * j + k.val, by omega⟩))
    (h1 : k0_chk1 (upRows (BitVec.ofNat 32 t)) (downRows (BitVec.ofNat 32 t)) (leftCols (BitVec.ofNat 32 (32 * j))))
    (h2 : k0_chk2 (upRows (BitVec.ofNat 32 t)) (downRows (BitVec.ofNat 32 t)) (rightCols (BitVec.ofNat 32 (32 * j)))) :
    Agrees (fourStores f _ _ _ _ (vals xl il (baseWord r0 t) 0 0) (vals xl il (baseWord r0 t) 0 1) (vals xl il (baseWord r0 t) 1 0) (vals xl il (baseWord r0 t) 1 1) h1 h2)
      (block X I r0) t (j + 1) := by
  intro y hy
  have hc : 32 * j ≤ 352 := by omega
  unfold fourStores
  obtain ⟨a1, b1⟩ := storeIdx_group f _ _ (vals xl il (baseWord r0 t) 0 0) h1.1 (upRows_toNat ht) (leftCols_toNat hc) y
  obtain ⟨a2, b2⟩ := storeIdx_group _ _ _ (vals xl il (baseWord r0 t) 0 1) h2.1 (upRows_toNat ht) (rightCols_toNat hc) y
  obtain ⟨a3, b3⟩ := storeIdx_group _ _ _ (vals xl il (baseWord r0 t) 1 0) h1.2 (downRows_toNat ht) (leftCols_toNat hc) y
  obtain ⟨a4, b4⟩ := storeIdx_group _ _ _ (vals xl il (baseWord r0 t) 1 1) h2.2 (downRows_toNat ht) (rightCols_toNat hc) y
  -- the block's value at a cell of this group, by its place in its window
  have hv : ∀ (a b : Nat) (k : Fin 16), a < 2 → b < 2 → (y 0).val = 2 * t + a → (y 1).val = 32 * j + b + 2 * k.val →
      vals xl il (baseWord r0 t) a b (laneIx k) = block X I r0 y := by
    intro a b k ha hb h0 h1
    have hw : window y = ix2 ⟨t, ht⟩ ⟨16 * j + k.val, by omega⟩ := by
      funext d
      match d with
      | ⟨0, _⟩ => exact Fin.ext (show (y 0).val / 2 = t by omega)
      | ⟨1, _⟩ => exact Fin.ext (show (y 1).val / 2 = 16 * j + k.val by omega)
    have e0 : (y 0).val / 2 = t := by omega
    have e1 : (y 0).val % 2 = a := by omega
    have e2 : (y 1).val % 2 = b := by omega
    rw [block, hw, e0, e1, e2, vals, hx, hi]
  by_cases hin : 2 * t ≤ (y 0).val ∧ (y 0).val < 2 * t + 2 ∧ 32 * j ≤ (y 1).val ∧ (y 1).val < 32 * j + 32
  · obtain ⟨p, q, u, w⟩ := hin
    have hk : ((y 1).val - 32 * j) / 2 < 16 := by omega
    by_cases c0 : (y 0).val = 2 * t <;> by_cases c1 : (y 1).val % 2 = 0
    · rw [b4 fun _ _ => by omega, b3 fun _ _ => by omega, b2 fun _ _ => by omega, a1 ⟨_, hk⟩ c0 (by show _ = 32 * j + 2 * (((y 1).val - 32 * j) / 2); omega)]
      exact hv 0 0 ⟨_, hk⟩ (by omega) (by omega) c0 (by show _ = 32 * j + 0 + 2 * (((y 1).val - 32 * j) / 2); omega)
    · rw [b4 fun _ _ => by omega, b3 fun _ _ => by omega, a2 ⟨_, hk⟩ c0 (by show _ = 32 * j + 1 + 2 * (((y 1).val - 32 * j) / 2); omega)]
      exact hv 0 1 ⟨_, hk⟩ (by omega) (by omega) c0 (by show _ = 32 * j + 1 + 2 * (((y 1).val - 32 * j) / 2); omega)
    · rw [b4 fun _ _ => by omega, a3 ⟨_, hk⟩ (by omega) (by show _ = 32 * j + 2 * (((y 1).val - 32 * j) / 2); omega)]
      exact hv 1 0 ⟨_, hk⟩ (by omega) (by omega) (by omega) (by show _ = 32 * j + 0 + 2 * (((y 1).val - 32 * j) / 2); omega)
    · rw [a4 ⟨_, hk⟩ (by omega) (by show _ = 32 * j + 1 + 2 * (((y 1).val - 32 * j) / 2); omega)]
      exact hv 1 1 ⟨_, hk⟩ (by omega) (by omega) (by omega) (by show _ = 32 * j + 1 + 2 * (((y 1).val - 32 * j) / 2); omega)
  · have hlt : ∀ k : Fin 16, k.val < 16 := fun k => k.isLt
    rw [b4 fun k _ _ => hin (by have := hlt k; omega), b3 fun k _ _ => hin (by have := hlt k; omega),
      b2 fun k _ _ => hin (by have := hlt k; omega), b1 fun k _ _ => hin (by have := hlt k; omega)]
    refine h y ?_
    rcases hy with hy | hy
    · exact .inl hy
    · by_cases c0 : (y 0).val < 2 * t
      · exact .inl c0
      · exact .inr ⟨hy.1, by omega⟩

end Cert.Proof.Unpool

end
-- ==== Proof.Row.lean ====
/-
  A row of a chunk: its groups run from any contents of the output block, and add what the chunk's block holds in their
  cells.
-/
module

public import proofs.«01_k».proof.Proof.Values
public import Idealize.ShloMosaic.Lib.SparseCore.Ops
public import Idealize.ShloMosaic.Lib.Memref
public import Idealize.ShloMosaic.Lib.Scf
public import Idealize.ShloMosaic.Lib.Tactic

@[expose] public section

noncomputable section

namespace Cert.Proof.Unpool

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (bd : Option 𝒱.V)

local notation "𝕄" => MT nD τ sig Ix (Elt F) Name U Lvl

section Ops

variable (c : Thread nD τ) {α : Type}

/-- A load through a rectangle of a buffer that is owned reads the rectangle of what the buffer holds. -/
theorem wp_loadOwned {s : Shape} {e : EltTy} {m : Memref sig c.2.kind .vmem s e} {r : Rect s} {hl : m.view.LoadsAt r.toLoadRect}
    {k : (r.shape.Idx → Elt F e) → Prog (TpuEff nD τ sig (Elt F) Λ₀ c.2) α} {q : PosShare TreeShare} {X : s.Idx → Elt F e} {Q : α → sProp 𝕄} :
    owns c m q X ⊢ iprop((owns c m q X -∗ wp (M := 𝕄) frame (wpE defs 𝒱 c bd) Set.univ (k fun y => X (r.emb y)) Q)
      -∗ wp (M := 𝕄) frame (wpE defs 𝒱 c bd) Set.univ (.op (.load m r.toLoadRect hl) k) Q) := by
  unfold owns
  iintro ⟨%f, %hf, Hm⟩ Hk
  iapply (wp_load_rect (defs := defs) 𝒱 c bd Set.univ (m := m) (r := r) (hl := hl) (k := k) (q := q) (f := f) (S := m.view.set)
    (by rw [View.set_slice]; exact Finset.map_subset_map.mpr (Finset.subset_univ _))) $$ Hm
  iintro Hm
  have he : (m.access r).read (Elt F) f = fun y => X (r.emb y) := by
    subst hf; rfl
  rw [he]
  iapply Hk
  iexists f
  isplitr; · ipureintro; exact hf
  iexact Hm

/-- A scattered store into a buffer that is owned in full leaves it holding `storeIdx` of what it held. -/
theorem wp_storeOwned {d : Fin 1 → Nat} {s : Shape} {e : EltTy} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ₀ c.2) α} {X : Vec F s e} {Q : α → sProp 𝕄} :
    owns c m fullShare X ⊢ iprop((owns c m fullShare (storeIdx X idxs v mask add h) -∗ wp (M := 𝕄) frame (wpE defs 𝒱 c bd) Set.univ (k ⟨⟩) Q)
      -∗ wp (M := 𝕄) frame (wpE defs 𝒱 c bd) Set.univ (SparseCore.vectorStoreIdx m idxs v mask add h hs >>= k) Q) := by
  have hset : (m.access (.whole s)).set = m.view.set := by rw [View.set_slice, Rect.set_whole]; rfl
  have hread : ∀ g, (m.access (.whole s)).read (Elt F) g = m.view.read (Elt F) g := fun g => by
    funext y; show _root_.cast _ (g (m.view.emb ((Rect.whole s).emb y))) = _root_.cast _ (g (m.view.emb y)); rw [Rect.emb_whole_apply]
  unfold owns
  iintro ⟨%f, %hf, Hm⟩ Hk
  iapply (SparseCore.wp_vectorStoreIdx (defs := defs) 𝒱 c bd Set.univ (base := m) (f := f)) $$ [Hm]
  · rw [hset]; iexact Hm
  iintro Hm
  iapply Hk
  iexists _
  rw [hset]
  isplitr
  rotate_left
  · iexact Hm
  · ipureintro
    rw [← hread, View.read_write_univ, hread, hf]

end Ops

/-! ## A group, a row, a chunk -/

/-- The thread of the tile at coordinates `i`. -/
abbrev tile (d : Dev nD) (i : grid0.Coords) : Thread nD τ := SparseCore.V d ((i 0).castLE hcore0) ((i 1).castLE hsub0)

theorem rowWord_eq (t : Fin k0_t1_loop.trips) : rowWord t = BitVec.ofNat 32 t.val := by
  show (0#32 : BitVec 32) + (0#32 + BitVec.ofNat 32 t.val * 1#32) * 1#32 = _
  rw [BitVec.mul_one, BitVec.mul_one, BitVec.zero_add, BitVec.zero_add]

/-- The output block holds what the chunk's block holds in the cells of the first `t` rows of windows and of the first `j`
    groups of the next. -/
def Partial (c : Thread nD τ) (os : Memref sig c.2.kind .vmem S96x384 .f32) (X : S48x192.Idx → Elt F .f32) (I : S48x192.Idx → Elt F .i32) (r0 : BitVec 32)
    (t j : Nat) : sProp 𝕄 :=
  iprop(∃ f, ⌜Agrees f (block X I r0) t j⌝ ∗ owns c os fullShare f)

section Chunk

variable (d : Dev nD) (i : grid0.Coords)
  (xs : Memref sig .scVector .vmem S48x192 .f32) (is : Memref sig .scVector .vmem S48x192 .i32) (os : Memref sig .scVector .vmem S96x384 .f32)
  (X : S48x192.Idx → Elt F .f32) (I : S48x192.Idx → Elt F .i32) (r0 : BitVec 32)

/-- What a group, a row and the loop over the rows hold. -/
abbrev Chunk (t j : Nat) : sProp 𝕄 :=
  iprop(owns (tile d i) xs fullShare X ∗ owns (tile d i) is fullShare I ∗ Partial (tile d i) os X I r0 t j)

theorem wp_group (t : Fin k0_t1_loop.trips) (j : Fin 12) {α : Type} {k : PUnit → TileProg F i α} {Q : α → sProp 𝕄} :
    Chunk d i xs is os X I r0 t.val j.val ⊢
      iprop((Chunk d i xs is os X I r0 t.val (j.val + 1) -∗ wp (M := 𝕄) frame (wpE defs 𝒱 (tile d i) bd) Set.univ (k ⟨⟩) Q)
        -∗ wp (M := 𝕄) frame (wpE defs 𝒱 (tile d i) bd) Set.univ
          (group i xs is os (rowWord t) (Scalar.muli (Scalar.addi r0 (rowWord t)) 768#32) (BitVec.ofNat 32 (32 * j.val)) (rowOff t j) (rowOff_inb t j) >>= k) Q) := by
  have ht : t.val < 48 := lt_of_lt_of_le t.isLt trips_le
  have hj := j.isLt
  have h1 := check1 ht (c := 32 * j.val) (by omega)
  have h2 := check2 ht (c := 32 * j.val) (by omega)
  have ha0 : rowOff t j 0 = t.val := by rw [rowOff_eq]; rfl
  have ha1 : rowOff t j 1 = 16 * j.val := by rw [rowOff_eq]; rfl
  rw [rowWord_eq]
  unfold Chunk Partial group
  simp only [Prog.lift, Prog.bind_op, Prog.bind_ret, bind_assoc]
  iintro ⟨Hx, Hi, ⟨%f, %hf, Ho⟩⟩ Hk
  iapply (wp_assume 𝒱 (tile d i) bd Set.univ h1)
  iapply (wp_assume 𝒱 (tile d i) bd Set.univ h2)
  iapply (wp_loadOwned 𝒱 bd (tile d i) (m := is)) $$ Hi
  iintro Hi
  iapply (wp_loadOwned 𝒱 bd (tile d i) (m := xs)) $$ Hx
  iintro Hx
  simp only [vals00, vals01, vals10, vals11]
  iapply (wp_storeOwned 𝒱 bd (tile d i) (m := os)) $$ Ho
  iintro Ho
  iapply (wp_storeOwned 𝒱 bd (tile d i) (m := os)) $$ Ho
  iintro Ho
  iapply (wp_storeOwned 𝒱 bd (tile d i) (m := os)) $$ Ho
  iintro Ho
  iapply (wp_storeOwned 𝒱 bd (tile d i) (m := os)) $$ Ho
  iintro Ho
  iapply Hk
  isplitl [Hx]; · iexact Hx
  isplitl [Hi]; · iexact Hi
  iexists _
  isplitr
  rotate_left
  · iexact Ho
  · ipureintro
    refine agrees_group X I r0 f ht hj hf _ _ (fun k => ?_) (fun k => ?_) h1 h2
    all_goals
      refine congrArg _ (funext fun a => Fin.ext ?_)
      fin_cases a
      · show rowOff t j 0 + 1 * 0 = t.val; omega
      · show rowOff t j 1 + 1 * k.val = 16 * j.val + k.val; omega

theorem wp_groups (t : Fin k0_t1_loop.trips) {α : Type} {k : PUnit → TileProg F i α} {Q : α → sProp 𝕄} (js : List (Fin 12)) :
    ∀ j : Nat, js.map Fin.val = List.range' j js.length →
      Chunk d i xs is os X I r0 t.val j ⊢
        iprop((Chunk d i xs is os X I r0 t.val (j + js.length) -∗ wp (M := 𝕄) frame (wpE defs 𝒱 (tile d i) bd) Set.univ (k ⟨⟩) Q)
          -∗ wp (M := 𝕄) frame (wpE defs 𝒱 (tile d i) bd) Set.univ (groups i xs is os r0 t js >>= k) Q) := by
  induction js with
  | nil =>
    intro j _
    rw [groups, show (Prog.ret PUnit.unit >>= k) = k ⟨⟩ from rfl]
    iintro H Hk
    iapply Hk
    iexact H
  | cons j' js ih =>
    intro j h
    have h' : j'.val = j ∧ js.map Fin.val = List.range' (j + 1) js.length := by
      simpa [List.range'_succ] using h
    obtain ⟨rfl, ht⟩ := h'
    rw [groups, bind_assoc, show j'.val + (j' :: js).length = j'.val + 1 + js.length by rw [List.length_cons]; omega]
    iintro H Hk
    iapply (wp_group 𝒱 bd d i xs is os X I r0 t j') $$ H
    iintro H
    iapply (ih _ ht) $$ H
    iexact Hk

/-- The loop over a chunk's rows leaves the chunk's block in the output buffer. -/
theorem wp_rowLoop {α : Type} {k : PUnit → TileProg F i α} {Q : α → sProp 𝕄} :
    iprop(owns (tile d i) xs fullShare X ∗ owns (tile d i) is fullShare I ∗ ∃ f, owns (tile d i) os fullShare f) ⊢
      iprop((iprop(owns (tile d i) xs fullShare X ∗ owns (tile d i) is fullShare I ∗ owns (tile d i) os fullShare (block X I r0))
          -∗ wp (M := 𝕄) frame (wpE defs 𝒱 (tile d i) bd) Set.univ (k ⟨⟩) Q)
        -∗ wp (M := 𝕄) frame (wpE defs 𝒱 (tile d i) bd) Set.univ (rowLoop i xs is os r0 >>= k) Q) := by
  iintro ⟨Hx, Hi, ⟨%f, Ho⟩⟩ Hk
  iapply (Scf.wp_for_bind frame (wpE defs 𝒱 (tile d i) bd) Set.univ k0_t1_loop.lb k0_t1_loop.ub k0_t1_loop.st k0_t1_ok PUnit.unit
    (fun t _ => rowTrip i xs is os r0 t) (fun t _ => Chunk d i xs is os X I r0 t 0) ?hbody) $$ [Hx Hi Ho]
  case hbody =>
    intro t _
    rw [← bind_pure (rowTrip i xs is os r0 t)]
    iintro H
    iapply (wp_groups 𝒱 bd d i xs is os X I r0 t [0, 1, 2, 3, 4, 5, 6, 7, 8, 9, 10, 11] 0 rfl) $$ H
    unfold Chunk Partial
    iintro ⟨Hx, Hi, ⟨%f, %hf, Ho⟩⟩
    rw [Prog.pure_eq_ret, wp_ret]
    imodintro
    isplitl [Hx]; · iexact Hx
    isplitl [Hi]; · iexact Hi
    iexists f
    isplitr; · ipureintro; exact agrees_row hf
    iexact Ho
  · unfold Chunk Partial
    isplitl [Hx]; · iexact Hx
    isplitl [Hi]; · iexact Hi
    iexists f
    isplitr; · ipureintro; exact agrees_zero _ _
    iexact Ho
  unfold Chunk Partial
  iintro %_ ⟨Hx, Hi, ⟨%f, %hf, Ho⟩⟩
  iapply Hk
  isplitl [Hx]; · iexact Hx
  isplitl [Hi]; · iexact Hi
  have e : f = block X I r0 := agrees_all (by rwa [show Scf.trips k0_t1_loop.lb k0_t1_loop.ub k0_t1_loop.st = 48 by decide] at hf)
  rw [e]
  iexact Ho

end Chunk

end Cert.Proof.Unpool

end
-- ==== Proof.Copies.lean ====
/-
  The copies of a chunk. The two copies in share one semaphore and are a batch of two: the second wait hands over both
  blocks. The copy out has a semaphore to itself.
-/
module

public import proofs.«01_k».proof.Proof.Row
public import Idealize.ShloMosaic.Lib.Batch

@[expose] public section

noncomputable section

namespace Cert.Proof.Unpool

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} (𝒱 : Variants) (bd : Option 𝒱.V)

local notation "𝕄" => MT nD τ sig Ix (Elt F) Name U Lvl

variable (EC : UEmb Counters (MT nD τ sig Ix (Elt F) Name U Lvl)) [EC.LandsIn (upEmb : UEmb _ (MT nD τ sig Ix (Elt F) Name U Lvl))]

/-- A thread that owes `O`, all of whose waits beyond `W` were at the index `ι`. -/
def Owing (c : Thread nD τ) (ι : Ix) (O : CellTallies nD τ sig Ix) (W : Waits sig Ix) : sProp 𝕄 :=
  iprop(Transfers.MayWaits c ι O ∗ ∃ W', ⌜∀ p ∈ W', p ∈ W ∨ p.2 = ι⌝ ∗ owes c O W')

section Copies

variable (d : Dev nD) (i : grid0.Coords) (ι : Ix)
  (xa : Memref sig .scVector .hbm S384x192x192 .f32) (ia : Memref sig .scVector .hbm S384x192x192 .i32)
  (oa : Memref sig .scVector .hbm S384x384x384 .f32)
  (xs : Memref sig .scVector .vmem S48x192 .f32) (hxs : xs.IsWhole) (is : Memref sig .scVector .vmem S48x192 .i32) (his : is.IsWhole)
  (os : Memref sig .scVector .vmem S96x384 .f32) (hos : os.IsWhole) (sem : DmaSems sig S_)
  (q : PosShare TreeShare) (fx : Buf (Elt F) (xa.view.loc (tile d i))) (fi : Buf (Elt F) (ia.view.loc (tile d i)))

/-- A share of both inputs. -/
abbrev Inputs : sProp 𝕄 :=
  iprop((xa.view.loc (tile d i) ↦[xa.view.set]{q} fx) ∗ (ia.view.loc (tile d i) ↦[ia.view.set]{q} fi))

/-- The two copies in, under way: at the second wait they have brought `X` and `I`, and the inputs' share is whole again. -/
def Loading (X : S48x192.Idx → Elt F .f32) (I : S48x192.Idx → Elt F .i32) : sProp 𝕄 :=
  iprop(∃ Dx Rx Di Ri : sProp 𝕄,
    ⌜(iprop(Dx ∗ Rx) : sProp 𝕄) ⊢ iprop(owns (tile d i) xs fullShare X ∗ (xa.view.loc (tile d i) ↦[xa.view.set]{q} fx))⌝
    ∗ ⌜(iprop(Di ∗ Ri) : sProp 𝕄) ⊢ iprop(owns (tile d i) is fullShare I ∗ (ia.view.loc (tile d i) ↦[ia.view.set]{q} fi))⌝
    ∗ Rx ∗ Ri ∗ Transfers.Batched EC (tile d i) (.dma sem.sem) ι xs.view.dmaCredit 2 [Dx, Di] 0)

/-- What a copy of a block has delivered: the block in the destination, and the source's elements, which join the rest. -/
theorem block_delivered {e : EltTy} (a : Memref sig .scVector .hbm S384x192x192 e) (s : Memref sig .scVector .vmem S48x192 e)
    (f : Buf (Elt F) (a.view.loc (tile d i))) (off : Fin 3 → Nat) (inb : ∀ a, off a + S1x48x192.size a ≤ S384x192x192.size a)
    (fd : Buf (Elt F) (s.view.loc (tile d i))) :
    (iprop(((s.view.loc (tile d i) ↦[s.view.set]{fullShare} (s.view.write (Elt F) fd (ReadAs.same.apply ((inBlock a off inb).view.read (Elt F) f)) Finset.univ))
        ∗ ((inBlock a off inb).view.loc (tile d i) ↦[(inBlock a off inb).view.set]{q} f))
        ∗ (a.view.loc (tile d i) ↦[a.view.set \ (inBlock a off inb).view.set]{q} f)) : sProp 𝕄)
      ⊢ iprop(owns (tile d i) s fullShare ((inBlock a off inb).view.read (Elt F) f) ∗ (a.view.loc (tile d i) ↦[a.view.set]{q} f)) := by
  have hsub : (inBlock a off inb).view.set ⊆ a.view.set := by
    show ((a.view.slice _).reshape _ _).set ⊆ _
    rw [View.set_reshape]; exact View.set_slice_subset _ _
  iintro ⟨⟨Hs, Ha⟩, Hr⟩
  isplitl [Hs]
  · unfold owns
    iexists _
    isplitr
    rotate_left
    · iexact Hs
    · ipureintro; rw [View.read_write_univ]
  · iapply (pointsTo_split_subset hsub).2
    isplitl [Ha]; · iexact Ha
    iexact Hr

theorem block_lent {e : EltTy} (a : Memref sig .scVector .hbm S384x192x192 e)
    (f : Buf (Elt F) (a.view.loc (tile d i))) (off : Fin 3 → Nat) (inb : ∀ a, off a + S1x48x192.size a ≤ S384x192x192.size a) :
    (a.view.loc (tile d i) ↦[a.view.set]{q} f : sProp 𝕄)
      ⊢ iprop(((inBlock a off inb).view.loc (tile d i) ↦[(inBlock a off inb).view.set]{q} f)
        ∗ (a.view.loc (tile d i) ↦[a.view.set \ (inBlock a off inb).view.set]{q} f)) := by
  have hsub : (inBlock a off inb).view.set ⊆ a.view.set := by
    show ((a.view.slice _).reshape _ _).set ⊆ _
    rw [View.set_reshape]; exact View.set_slice_subset _ _
  exact (pointsTo_split_subset hsub).1

variable {α : Type} {k : PUnit → TileProg F i α} {O : CellTallies nD τ sig Ix} {W : Waits sig Ix}

theorem wp_startIn (hN : is.view.dmaCredit = xs.view.dmaCredit) (off : Fin 3 → Nat) (inb : ∀ a, off a + S1x48x192.size a ≤ S384x192x192.size a) {Q : α → sProp 𝕄} :
    iprop(Inputs d i xa ia q fx fi ∗ (∃ X, owns (tile d i) xs fullShare X) ∗ (∃ I, owns (tile d i) is fullShare I) ∗ semVal (tile d i, .dma sem.sem) 0) ⊢
      iprop((Loading EC d i ι xa ia xs is sem q fx fi ((inBlock xa off inb).view.read (Elt F) fx) ((inBlock ia off inb).view.read (Elt F) fi)
          -∗ wp (M := 𝕄) frame (wpE defs 𝒱 (tile d i) bd) Set.univ (k ⟨⟩) Q)
        -∗ wp (M := 𝕄) frame (wpE defs 𝒱 (tile d i) bd) Set.univ (startIn i xa ia xs hxs is his sem off inb >>= k) Q) := by
  unfold startIn Inputs owns
  simp only [Prog.lift, Prog.bind_op, Prog.bind_ret, bind_assoc]
  iintro ⟨⟨Hxa, Hia⟩, ⟨%X, %gx, -, Hx⟩, ⟨%I, %gi, -, Hi⟩, Hv⟩ Hk
  imod (Transfers.batched_alloc EC (tile d i) ι xs.view.dmaCredit 2) $$ Hv with HB
  ihave Hxa' := (block_lent d i q xa fx off inb) $$ Hxa
  icases Hxa' with ⟨Hxa, Rx⟩
  ihave Hia' := (block_lent d i q ia fi off inb) $$ Hia
  icases Hia' with ⟨Hia, Ri⟩
  iapply (Transfers.wp_dmaBatched EC 𝒱 (tile d i) bd (dst := xs) (sm := .dma sem.sem) (m := 2) (Ds := []) (u := 0) ι xs.view.dmaCredit rfl subset_rfl (Nat.zero_lt_two) (Nat.zero_le _)) $$ [Hxa Hx HB]
  · isplitl [Hxa]; · iexact Hxa
    isplitl [Hx]; · iexact Hx
    iexact HB
  iintro HB
  iapply (Transfers.wp_dmaBatched EC 𝒱 (tile d i) bd (dst := is) (sm := .dma sem.sem) (m := 2) (Ds := [_]) (u := 0) ι xs.view.dmaCredit hN subset_rfl Nat.one_lt_two (Nat.zero_le _)) $$ [Hia Hi HB]
  · isplitl [Hia]; · iexact Hia
    isplitl [Hi]; · iexact Hi
    iexact HB
  iintro HB
  iapply Hk
  unfold Loading
  iexists _, _, _, _
  isplitr
  rotate_left
  · isplitr
    rotate_left
    · isplitl [Rx]; · iexact Rx
      isplitl [Ri]; · iexact Ri
      iexact HB
    · ipureintro
      exact block_delivered d i q ia is fi off inb gi
  · ipureintro
    exact block_delivered d i q xa xs fx off inb gx

theorem wp_waitIn (hN : is.view.dmaCredit = xs.view.dmaCredit) (off : Fin 3 → Nat) (inb : ∀ a, off a + S1x48x192.size a ≤ S384x192x192.size a)
    {X : S48x192.Idx → Elt F .f32} {I : S48x192.Idx → Elt F .i32} {Q : α → sProp 𝕄} :
    iprop(Loading EC d i ι xa ia xs is sem q fx fi X I ∗ Owing (tile d i) ι O W) ⊢
      iprop((iprop(Inputs d i xa ia q fx fi ∗ owns (tile d i) xs fullShare X ∗ owns (tile d i) is fullShare I ∗ semVal (tile d i, .dma sem.sem) 0
            ∗ Owing (tile d i) ι O W)
          -∗ wp (M := 𝕄) frame (wpE defs 𝒱 (tile d i) bd) Set.univ (k ⟨⟩) Q)
        -∗ wp (M := 𝕄) frame (wpE defs 𝒱 (tile d i) bd) Set.univ (waitIn i xa ia xs hxs is his sem off inb >>= k) Q) := by
  have hpos : 0 < xs.view.dmaCredit := View.dmaCredit_pos _ (by decide)
  unfold waitIn Loading Owing
  simp only [Prog.lift, Prog.bind_op, Prog.bind_ret, bind_assoc]
  iintro ⟨⟨%Dx, %Rx, %Di, %Ri, %hx, %hi, Rx, Ri, HB⟩, ⟨#HM, %W', %hW', HO⟩⟩ Hk
  iapply (Transfers.wp_waitBatchedO EC 𝒱 (tile d i) bd ι (Ds := [Dx, Di]) (m := 2) (u := 0) (N := xs.view.dmaCredit) rfl rfl (by omega)) $$ [HB HO]
  · isplitl [HB]; · iexact HB
    isplitl [HO]; · iexact HO
    iapply (Transfers.MayWaits.elim (.dma sem.sem)) $$ HM
  iintro ⟨HB, HO⟩
  iapply (Transfers.wp_waitBatchedAllO EC 𝒱 (tile d i) bd ι (dstw := is) (Ds := [Dx, Di]) (m := 2) (u := 0 + xs.view.dmaCredit) (N := xs.view.dmaCredit) (J := xs.view.dmaCredit) hN hpos rfl (by omega)) $$ [HB HO]
  · isplitl [HB]; · iexact HB
    isplitl [HO]; · iexact HO
    iapply (Transfers.MayWaits.elim (.dma sem.sem)) $$ HM
  rw [show (bigSep Finset.univ (Transfers.deliv (m := 2) [Dx, Di]) : sProp 𝕄) = iprop(Dx ∗ Di) from by
    rw [show (Finset.univ : Finset (Fin 2)) = {0, 1} from rfl, bigSep_insert (by decide), bigSep_singleton]; rfl]
  iintro ⟨⟨Dx, Di⟩, Hv, HO⟩
  ihave Hx := hx $$ [Dx Rx]
  · isplitl [Dx]; · iexact Dx
    iexact Rx
  ihave Hi := hi $$ [Di Ri]
  · isplitl [Di]; · iexact Di
    iexact Ri
  icases Hx with ⟨Hx, Hxa⟩
  icases Hi with ⟨Hi, Hia⟩
  iapply Hk
  isplitl [Hxa Hia]
  · isplitl [Hxa]; · iexact Hxa
    iexact Hia
  isplitl [Hx]; · iexact Hx
  isplitl [Hi]; · iexact Hi
  isplitl [Hv]; · iexact Hv
  isplitr; · iexact HM
  iexists _
  isplitr
  rotate_left
  · iexact HO
  · ipureintro
    intro p hp
    rw [Finset.mem_insert, Finset.mem_insert] at hp
    rcases hp with rfl | rfl | hp
    · exact .inr rfl
    · exact .inr rfl
    · exact hW' p hp

/-- The copy out of a block, under way. -/
abbrev Storing (off : Fin 3 → Nat) (inb : ∀ a, off a + S1x96x384.size a ≤ S384x384x384.size a) (Y : S96x384.Idx → Elt F .f32) : sProp 𝕄 :=
  Transfers.Flight EC (tile d i) (.dma sem.sem) ι (outBlock oa off inb).view.dmaCredit
    iprop(owns (tile d i) (outBlock oa off inb) fullShare Y ∗ owns (tile d i) os fullShare Y)

theorem wp_startOut (off : Fin 3 → Nat) (inb : ∀ a, off a + S1x96x384.size a ≤ S384x384x384.size a) (Y : S96x384.Idx → Elt F .f32) {Q : α → sProp 𝕄} :
    iprop(owns (tile d i) os fullShare Y ∗ (∃ Y', owns (tile d i) (outBlock oa off inb) fullShare Y') ∗ semVal (tile d i, .dma sem.sem) 0) ⊢
      iprop((Storing EC d i ι oa os sem off inb Y -∗ wp (M := 𝕄) frame (wpE defs 𝒱 (tile d i) bd) Set.univ (k ⟨⟩) Q)
        -∗ wp (M := 𝕄) frame (wpE defs 𝒱 (tile d i) bd) Set.univ (startOut i oa os hos sem off inb >>= k) Q) := by
  unfold startOut owns
  simp only [Prog.lift, Prog.bind_op, Prog.bind_ret]
  iintro ⟨⟨%g, %hg, Hs⟩, ⟨%Y', %go, -, Ho⟩, Hv⟩ Hk
  iapply (Transfers.wp_dmaLocal EC 𝒱 (tile d i) bd (dst := outBlock oa off inb) (sm := .dma sem.sem) ι (outBlock oa off inb).view.dmaCredit rfl
    (View.dmaCredit_pos _ (by decide)) subset_rfl) $$ [Hs Ho Hv]
  · isplitl [Hs]; · iexact Hs
    isplitl [Ho]; · iexact Ho
    iexact Hv
  iintro HF
  iapply Hk
  iapply (Transfers.Flight_mono EC (tile d i) ?hmono) $$ HF
  case hmono =>
    unfold owns
    iintro ⟨Ho, Hs⟩
    isplitl [Ho]
    · iexists _
      isplitr
      rotate_left
      · iexact Ho
      · ipureintro; rw [View.read_write_univ]; exact hg
    · iexists g
      isplitr; · ipureintro; exact hg
      iexact Hs

theorem wp_waitOut (off off' : Fin 3 → Nat) (inb : ∀ a, off a + S1x96x384.size a ≤ S384x384x384.size a) (inb' : ∀ a, off' a + S1x96x384.size a ≤ S384x384x384.size a)
    {Y : S96x384.Idx → Elt F .f32} {Q : α → sProp 𝕄} :
    iprop(Storing EC d i ι oa os sem off inb Y ∗ Owing (tile d i) ι O W) ⊢
      iprop((iprop(owns (tile d i) (outBlock oa off inb) fullShare Y ∗ (∃ Y', owns (tile d i) os fullShare Y') ∗ semVal (tile d i, .dma sem.sem) 0
            ∗ Owing (tile d i) ι O W)
          -∗ wp (M := 𝕄) frame (wpE defs 𝒱 (tile d i) bd) Set.univ (k ⟨⟩) Q)
        -∗ wp (M := 𝕄) frame (wpE defs 𝒱 (tile d i) bd) Set.univ (waitOut i oa os hos sem off' inb' >>= k) Q) := by
  unfold waitOut Owing
  simp only [Prog.lift, Prog.bind_op, Prog.bind_ret]
  iintro ⟨HF, ⟨#HM, %W', %hW', HO⟩⟩ Hk
  iapply (Transfers.wp_waitLocalO EC 𝒱 (tile d i) bd (dstw := outBlock oa off' inb') (N := (outBlock oa off inb).view.dmaCredit) ι rfl) $$ [HF HO]
  · isplitl [HF]; · iexact HF
    isplitl [HO]; · iexact HO
    iapply (Transfers.MayWaits.elim (.dma sem.sem)) $$ HM
  iintro ⟨⟨Ho, Hs⟩, Hv, HO⟩
  iapply Hk
  isplitl [Ho]; · iexact Ho
  isplitl [Hs]
  · iexists Y; iexact Hs
  isplitl [Hv]; · iexact Hv
  isplitr; · iexact HM
  iexists _
  isplitr
  rotate_left
  · iexact HO
  · ipureintro
    intro p hp
    rw [Finset.mem_insert] at hp
    rcases hp with rfl | hp
    · exact .inr rfl
    · exact hW' p hp

end Copies

end Cert.Proof.Unpool

end
-- ==== Proof.Offsets.lean ====
/-
  Where a tile's chunks lie: chunk `g` is the `g % 4`-th quarter of the tile's plane `g / 4`.
-/
module

public import proofs.«01_k».proof.Proof.Program

@[expose] public section

noncomputable section

namespace Cert.Proof.Unpool

open Idealize.ShloMosaic
open Cert.KernelIdeal Cert.KernelIdeal.Gen

/-- The plane of chunk `g` of the tile at `i`, -/
def plane (i : grid0.Coords) (g : Nat) : Nat := 24 * (i 1).val + 12 * (i 0).val + g % 48 / 4

/-- its place in the inputs, -/
def inOff (i : grid0.Coords) (g : Nat) : Fin 3 → Nat := ![plane i g, 48 * (g % 4), 0]

/-- and in the output. -/
def outOff (i : grid0.Coords) (g : Nat) : Fin 3 → Nat := ![plane i g, 96 * (g % 4), 0]

theorem plane_lt (i : grid0.Coords) (g : Nat) : plane i g < 384 := by
  have h0 : (i 0).val < 2 := (i 0).isLt
  have h1 : (i 1).val < 16 := (i 1).isLt
  unfold plane; omega

theorem inOff_inb (i : grid0.Coords) (g : Nat) : ∀ a, inOff i g a + S1x48x192.size a ≤ S384x192x192.size a := by
  intro a
  have := plane_lt i g
  fin_cases a
  · show plane i g + 1 ≤ 384; omega
  · show 48 * (g % 4) + 48 ≤ 192; omega
  · show 0 + 192 ≤ 192; omega

theorem outOff_inb (i : grid0.Coords) (g : Nat) : ∀ a, outOff i g a + S1x96x384.size a ≤ S384x384x384.size a := by
  intro a
  have := plane_lt i g
  fin_cases a
  · show plane i g + 1 ≤ 384; omega
  · show 96 * (g % 4) + 96 ≤ 384; omega
  · show 0 + 384 ≤ 384; omega

/-- The first row of chunk `g` in its plane, as a word. -/
abbrev rowBase (g : Nat) : BitVec 32 := BitVec.ofNat 32 (48 * (g % 4))

/-! The printed offsets are these. -/

theorem off1_eq (i : grid0.Coords) : k0_off1 i = inOff i 0 := k0_off1_eq i
theorem off2_eq (i : grid0.Coords) : k0_off2 i = inOff i 1 := k0_off2_eq i
theorem off15_eq (i : grid0.Coords) : k0_off15 i = outOff i 0 := k0_off15_eq i
theorem off29_eq (i : grid0.Coords) : k0_off29 i = outOff i 1 := k0_off29_eq i
theorem off16_eq0 (i : grid0.Coords) : k0_off16 i 0#32 = inOff i 2 := k0_off16_eq i 0
theorem off16_eq1 (i : grid0.Coords) : k0_off16 i 11#32 = inOff i 46 := k0_off16_eq i 1
theorem off59_eq (i : grid0.Coords) : k0_off59 i = inOff i 47 := k0_off59_eq i
theorem off60_eq (i : grid0.Coords) : k0_off60 i = outOff i 46 := k0_off60_eq i
theorem off73_eq (i : grid0.Coords) : k0_off73 i = outOff i 47 := k0_off73_eq i

theorem off30_eq : ∀ (i : grid0.Coords) (t : Fin k0_t3_loop.trips), k0_off30 i t = inOff i (2 * t.val + 3) := by decide +kernel
theorem off31_eq : ∀ (i : grid0.Coords) (t : Fin k0_t3_loop.trips), k0_off31 i t = outOff i (2 * t.val + 2) := by decide +kernel
theorem off32_eq : ∀ (i : grid0.Coords) (t : Fin k0_t3_loop.trips), k0_off32 i t = inOff i (2 * t.val + 2) := by decide +kernel
theorem off45_eq : ∀ (i : grid0.Coords) (t : Fin k0_t3_loop.trips), k0_off45 i t = inOff i (2 * t.val + 4) := by decide +kernel
theorem off46_eq : ∀ (i : grid0.Coords) (t : Fin k0_t3_loop.trips), k0_off46 i t = outOff i (2 * t.val + 3) := by decide +kernel

theorem firstRow_even : ∀ t : Fin k0_t3_loop.trips, firstRow (pairWord t) = rowBase (2 * t.val + 2) := by decide +kernel
theorem firstRow_odd : ∀ t : Fin k0_t3_loop.trips, firstRow (Scalar.addi (pairWord t) 1#32) = rowBase (2 * t.val + 3) := by decide +kernel

theorem pairs_trips : k0_t3_loop.trips = 22 := by decide

end Cert.Proof.Unpool

end
-- ==== Proof.Tile.lean ====
/-
  A tile's whole run: from a share of the inputs, its 48 output blocks at any contents and its scratch, to the same with
  each output block holding its chunk's.
-/
module

public import proofs.«01_k».proof.Proof.Copies
public import proofs.«01_k».proof.Proof.Offsets

@[expose] public section

noncomputable section

namespace Cert.Proof.Unpool

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} (𝒱 : Variants) (bd : Option 𝒱.V)

local notation "𝕄" => MT nD τ sig Ix (Elt F) Name U Lvl

variable (EC : UEmb Counters (MT nD τ sig Ix (Elt F) Name U Lvl)) [EC.LandsIn (upEmb : UEmb _ (MT nD τ sig Ix (Elt F) Name U Lvl))]

/-- One of a tile's two sets of buffers, with its two semaphores. -/
structure Side where
  xs : Memref sig .scVector .vmem S48x192 .f32
  hxs : xs.IsWhole
  is : Memref sig .scVector .vmem S48x192 .i32
  his : is.IsWhole
  os : Memref sig .scVector .vmem S96x384 .f32
  hos : os.IsWhole
  semIn : DmaSems sig S_
  semOut : DmaSems sig S_
  credits : is.view.dmaCredit = xs.view.dmaCredit

section Tile

variable (d : Dev nD) (i : grid0.Coords) (ι : Ix)
  (xa : Memref sig .scVector .hbm S384x192x192 .f32) (ia : Memref sig .scVector .hbm S384x192x192 .i32)
  (oa : Memref sig .scVector .hbm S384x384x384 .f32)
  (fx : Buf (Elt F) (xa.view.loc (tile d i))) (fi : Buf (Elt F) (ia.view.loc (tile d i)))
  (q q' : PosShare TreeShare) (b b' : Side)

/-- Chunk `g`'s values, indices and output block. -/
abbrev chunkX (g : Nat) : S48x192.Idx → Elt F .f32 := (inBlock xa (inOff i g) (inOff_inb i g)).view.read (Elt F) fx
abbrev chunkI (g : Nat) : S48x192.Idx → Elt F .i32 := (inBlock ia (inOff i g) (inOff_inb i g)).view.read (Elt F) fi
abbrev chunkY (g : Nat) : S96x384.Idx → Elt F .f32 := block (chunkX d i xa fx g) (chunkI d i ia fi g) (rowBase g)

/-- Output block `g`, at some contents, -/
abbrev anyOut (g : Nat) : sProp 𝕄 := iprop(∃ Y : S96x384.Idx → Elt F .f32, owns (tile d i) (outBlock oa (outOff i g) (outOff_inb i g)) fullShare Y)

/-- and holding its chunk's. -/
abbrev doneOut (g : Nat) : sProp 𝕄 := owns (tile d i) (outBlock oa (outOff i g) (outOff_inb i g)) fullShare (chunkY d i xa ia fx fi g)

/-- The blocks not yet started, from `n` on, -/
def Todo (n : Nat) : sProp 𝕄 := bigSep (Finset.Ico n 48) (anyOut (F := F) d i oa)

/-- and those finished, below `n`. -/
def Done (n : Nat) : sProp 𝕄 := bigSep (Finset.range n) (doneOut d i xa ia oa fx fi)

theorem todo_take {n : Nat} (h : n < 48) : (Todo (F := F) d i oa n : sProp 𝕄) ⊢ iprop(anyOut (F := F) d i oa n ∗ Todo (F := F) d i oa (n + 1)) := by
  unfold Todo
  rw [← Finset.insert_Ico_add_one_left_eq_Ico h, bigSep_insert (by simp)]
  exact .rfl

theorem done_put (n : Nat) : (iprop(doneOut d i xa ia oa fx fi n ∗ Done d i xa ia oa fx fi n) : sProp 𝕄) ⊢ Done d i xa ia oa fx fi (n + 1) := by
  unfold Done
  rw [Finset.range_add_one, bigSep_insert Finset.notMem_range_self]
  exact .rfl

/-- A side with nothing under way on its way in: its input buffers at any contents and its share of the inputs. -/
def Idle : sProp 𝕄 :=
  iprop(Inputs d i xa ia q fx fi ∗ (∃ X, owns (tile d i) b.xs fullShare X) ∗ (∃ I, owns (tile d i) b.is fullShare I) ∗ semVal (tile d i, .dma b.semIn.sem) 0)

/-- Its output buffer, with no copy out under way. -/
def OutFree : sProp 𝕄 :=
  iprop((∃ Y : S96x384.Idx → Elt F .f32, owns (tile d i) b.os fullShare Y) ∗ semVal (tile d i, .dma b.semOut.sem) 0)

/-- Chunk `g`'s copies in under way on a side. -/
abbrev Fetching (g : Nat) : sProp 𝕄 := Loading EC d i ι xa ia b.xs b.is b.semIn q fx fi (chunkX d i xa fx g) (chunkI d i ia fi g)

/-- Chunk `g`'s copy out under way on a side. -/
abbrev Emitting (g : Nat) : sProp 𝕄 := Storing EC d i ι oa b.os b.semOut (outOff i g) (outOff_inb i g) (chunkY d i xa ia fx fi g)

variable {α : Type} {k : PUnit → TileProg F i α} {O : CellTallies nD τ sig Ix} {W : Waits sig Ix}

theorem wp_fetch (g : Nat) {off : Fin 3 → Nat} {inb : ∀ a, off a + S1x48x192.size a ≤ S384x192x192.size a} (h : off = inOff i g) {Q : α → sProp 𝕄} :
    (Idle d i xa ia fx fi q b : sProp 𝕄) ⊢
      iprop((Fetching EC d i ι xa ia fx fi q b g -∗ wp (M := 𝕄) frame (wpE defs 𝒱 (tile d i) bd) Set.univ (k ⟨⟩) Q)
        -∗ wp (M := 𝕄) frame (wpE defs 𝒱 (tile d i) bd) Set.univ (startIn i xa ia b.xs b.hxs b.is b.his b.semIn off inb >>= k) Q) := by
  subst h
  exact wp_startIn 𝒱 bd EC d i ι xa ia b.xs b.hxs b.is b.his b.semIn q fx fi b.credits _ _

/-- The wait for a chunk's copies in, its rows, and the start of its copy out. -/
theorem wp_work (g : Nat) {off : Fin 3 → Nat} {inb : ∀ a, off a + S1x48x192.size a ≤ S384x192x192.size a}
    {off' : Fin 3 → Nat} {inb' : ∀ a, off' a + S1x96x384.size a ≤ S384x384x384.size a} (h : off' = outOff i g) {r0 : BitVec 32} (hr : r0 = rowBase g) {Q : α → sProp 𝕄} :
    iprop(Fetching EC d i ι xa ia fx fi q b g ∗ OutFree (F := F) d i b ∗ anyOut (F := F) d i oa g ∗ Owing (tile d i) ι O W) ⊢
      iprop((iprop(Idle d i xa ia fx fi q b ∗ Emitting EC d i ι xa ia oa fx fi b g ∗ Owing (tile d i) ι O W)
          -∗ wp (M := 𝕄) frame (wpE defs 𝒱 (tile d i) bd) Set.univ (k ⟨⟩) Q)
        -∗ wp (M := 𝕄) frame (wpE defs 𝒱 (tile d i) bd) Set.univ
          (waitIn i xa ia b.xs b.hxs b.is b.his b.semIn off inb >>= fun _ => rowLoop i b.xs b.is b.os r0 >>= fun _ =>
            startOut i oa b.os b.hos b.semOut off' inb' >>= k) Q) := by
  subst h hr
  unfold OutFree Idle
  iintro ⟨HL, ⟨Hos, Hso⟩, Ho, HO⟩ Hk
  iapply (wp_waitIn 𝒱 bd EC d i ι xa ia b.xs b.hxs b.is b.his b.semIn q fx fi b.credits _ _) $$ [HL HO]
  · isplitl [HL]; · iexact HL
    iexact HO
  iintro ⟨HI, Hx, Hi, Hsi, HO⟩
  iapply (wp_rowLoop 𝒱 bd d i b.xs b.is b.os _ _ _) $$ [Hx Hi Hos]
  · isplitl [Hx]; · iexact Hx
    isplitl [Hi]; · iexact Hi
    iexact Hos
  iintro ⟨Hx, Hi, Hos⟩
  iapply (wp_startOut 𝒱 bd EC d i ι oa b.os b.hos b.semOut _ _ _) $$ [Hos Ho Hso]
  · isplitl [Hos]; · iexact Hos
    isplitl [Ho]; · iexact Ho
    iexact Hso
  iintro HE
  iapply Hk
  isplitr [HE HO]
  · isplitl [HI]; · iexact HI
    isplitl [Hx]; · iexists _; iexact Hx
    isplitl [Hi]; · iexists _; iexact Hi
    iexact Hsi
  isplitl [HE]; · iexact HE
  iexact HO

theorem wp_flush (g : Nat) {off : Fin 3 → Nat} {inb : ∀ a, off a + S1x96x384.size a ≤ S384x384x384.size a} {Q : α → sProp 𝕄} :
    iprop(Emitting EC d i ι xa ia oa fx fi b g ∗ Owing (tile d i) ι O W) ⊢
      iprop((iprop(doneOut d i xa ia oa fx fi g ∗ OutFree (F := F) d i b ∗ Owing (tile d i) ι O W)
          -∗ wp (M := 𝕄) frame (wpE defs 𝒱 (tile d i) bd) Set.univ (k ⟨⟩) Q)
        -∗ wp (M := 𝕄) frame (wpE defs 𝒱 (tile d i) bd) Set.univ (waitOut i oa b.os b.hos b.semOut off inb >>= k) Q) := by
  unfold OutFree
  iintro H Hk
  iapply (wp_waitOut 𝒱 bd EC d i ι oa b.os b.hos b.semOut _ off _ inb) $$ H
  iintro ⟨Ho, Hos, Hs, HO⟩
  iapply Hk
  isplitl [Ho]; · iexact Ho
  isplitr [HO]
  · isplitl [Hos]; · iexact Hos
    iexact Hs
  iexact HO

/-- What the loop over pairs holds before trip `t`. -/
abbrev Between (O : CellTallies nD τ sig Ix) (W : Waits sig Ix) (t : Nat) : sProp 𝕄 :=
  iprop(Fetching EC d i ι xa ia fx fi q b (2 * t + 2) ∗ Idle d i xa ia fx fi q' b'
    ∗ Emitting EC d i ι xa ia oa fx fi b (2 * t) ∗ Emitting EC d i ι xa ia oa fx fi b' (2 * t + 1)
    ∗ Done d i xa ia oa fx fi (2 * t) ∗ Todo (F := F) d i oa (2 * t + 2) ∗ Owing (tile d i) ι O W)

theorem wp_pairTrip (t : Fin k0_t3_loop.trips) {Q : α → sProp 𝕄} :
    Between EC d i ι xa ia oa fx fi q q' b b' O W t.val ⊢
      iprop((Between EC d i ι xa ia oa fx fi q q' b b' O W (t.val + 1) -∗ wp (M := 𝕄) frame (wpE defs 𝒱 (tile d i) bd) Set.univ (k ⟨⟩) Q)
        -∗ wp (M := 𝕄) frame (wpE defs 𝒱 (tile d i) bd) Set.univ
          (pairTrip i xa ia oa b.xs b.hxs b'.xs b'.hxs b.is b.his b'.is b'.his b.os b.hos b'.os b'.hos b.semIn b'.semIn b.semOut b'.semOut t >>= k) Q) := by
  have ht : t.val < 22 := lt_of_lt_of_eq t.isLt pairs_trips
  unfold pairTrip
  simp only [bind_assoc]
  iintro ⟨HF, HI, HE, HE', HD, HT, HO⟩ Hk
  ihave HT := (todo_take d i oa (show 2 * t.val + 2 < 48 by omega)) $$ HT
  icases HT with ⟨Ho, HT⟩
  ihave HT := (todo_take d i oa (show 2 * t.val + 3 < 48 by omega)) $$ HT
  icases HT with ⟨Ho', HT⟩
  iapply (wp_fetch 𝒱 bd EC d i ι xa ia fx fi q' b' (2 * t.val + 3) (off30_eq i t)) $$ HI
  iintro HF'
  iapply (wp_flush 𝒱 bd EC d i ι xa ia oa fx fi b (2 * t.val)) $$ [HE HO]
  · isplitl [HE]; · iexact HE
    iexact HO
  iintro ⟨Hd, Hos, HO⟩
  iapply (wp_work 𝒱 bd EC d i ι xa ia oa fx fi q b (2 * t.val + 2) (off31_eq i t) (firstRow_even t)) $$ [HF Hos Ho HO]
  · isplitl [HF]; · iexact HF
    isplitl [Hos]; · iexact Hos
    isplitl [Ho]; · iexact Ho
    iexact HO
  iintro ⟨HI, HE, HO⟩
  iapply (wp_fetch 𝒱 bd EC d i ι xa ia fx fi q b (2 * t.val + 4) (off45_eq i t)) $$ HI
  iintro HF
  iapply (wp_flush 𝒱 bd EC d i ι xa ia oa fx fi b' (2 * t.val + 1)) $$ [HE' HO]
  · isplitl [HE']; · iexact HE'
    iexact HO
  iintro ⟨Hd', Hos', HO⟩
  iapply (wp_work 𝒱 bd EC d i ι xa ia oa fx fi q' b' (2 * t.val + 3) (off46_eq i t) (firstRow_odd t)) $$ [HF' Hos' Ho' HO]
  · isplitl [HF']; · iexact HF'
    isplitl [Hos']; · iexact Hos'
    isplitl [Ho']; · iexact Ho'
    iexact HO
  iintro ⟨HI', HE', HO⟩
  iapply Hk
  isplitl [HF]; · iexact HF
  isplitl [HI']; · iexact HI'
  isplitl [HE]; · iexact HE
  isplitl [HE']; · iexact HE'
  isplitl [Hd Hd' HD]
  · iapply (done_put d i xa ia oa fx fi (2 * t.val + 1))
    isplitl [Hd']; · iexact Hd'
    iapply (done_put d i xa ia oa fx fi (2 * t.val))
    isplitl [Hd]; · iexact Hd
    iexact HD
  isplitl [HT]; · iexact HT
  iexact HO

/-- What a tile starts from, -/
abbrev AtStart (O : CellTallies nD τ sig Ix) (W : Waits sig Ix) : sProp 𝕄 :=
  iprop(Idle d i xa ia fx fi q b ∗ Idle d i xa ia fx fi q' b' ∗ OutFree (F := F) d i b ∗ OutFree (F := F) d i b' ∗ Todo (F := F) d i oa 0 ∗ Owing (tile d i) ι O W)

/-- and ends at. -/
abbrev AtEnd (O : CellTallies nD τ sig Ix) (W : Waits sig Ix) : sProp 𝕄 :=
  iprop(Idle d i xa ia fx fi q b ∗ Idle d i xa ia fx fi q' b' ∗ OutFree (F := F) d i b ∗ OutFree (F := F) d i b' ∗ Done d i xa ia oa fx fi 48 ∗ Owing (tile d i) ι O W)

theorem wp_before {Q : α → sProp 𝕄} :
    AtStart d i ι xa ia oa fx fi q q' b b' O W ⊢
      iprop((Between EC d i ι xa ia oa fx fi q q' b b' O W 0 -∗ wp (M := 𝕄) frame (wpE defs 𝒱 (tile d i) bd) Set.univ (k ⟨⟩) Q)
        -∗ wp (M := 𝕄) frame (wpE defs 𝒱 (tile d i) bd) Set.univ
          (before i xa ia oa b.xs b.hxs b'.xs b'.hxs b.is b.his b'.is b'.his b.os b.hos b'.os b'.hos b.semIn b'.semIn b.semOut b'.semOut >>= k) Q) := by
  unfold before
  simp only [bind_assoc]
  iintro ⟨HI, HI', Hos, Hos', HT, HO⟩ Hk
  ihave HT := (todo_take d i oa (show 0 < 48 by omega)) $$ HT
  icases HT with ⟨Ho, HT⟩
  ihave HT := (todo_take d i oa (show 1 < 48 by omega)) $$ HT
  icases HT with ⟨Ho', HT⟩
  iapply (wp_fetch 𝒱 bd EC d i ι xa ia fx fi q b 0 (off1_eq i)) $$ HI
  iintro HF
  iapply (wp_fetch 𝒱 bd EC d i ι xa ia fx fi q' b' 1 (off2_eq i)) $$ HI'
  iintro HF'
  iapply (wp_work 𝒱 bd EC d i ι xa ia oa fx fi q b 0 (off15_eq i) rfl) $$ [HF Hos Ho HO]
  · isplitl [HF]; · iexact HF
    isplitl [Hos]; · iexact Hos
    isplitl [Ho]; · iexact Ho
    iexact HO
  iintro ⟨HI, HE, HO⟩
  iapply (wp_fetch 𝒱 bd EC d i ι xa ia fx fi q b 2 (off16_eq0 i)) $$ HI
  iintro HF
  iapply (wp_work 𝒱 bd EC d i ι xa ia oa fx fi q' b' 1 (off29_eq i) rfl) $$ [HF' Hos' Ho' HO]
  · isplitl [HF']; · iexact HF'
    isplitl [Hos']; · iexact Hos'
    isplitl [Ho']; · iexact Ho'
    iexact HO
  iintro ⟨HI', HE', HO⟩
  iapply Hk
  isplitl [HF]; · iexact HF
  isplitl [HI']; · iexact HI'
  isplitl [HE]; · iexact HE
  isplitl [HE']; · iexact HE'
  isplitr
  · unfold Done
    rw [show 2 * 0 = 0 from rfl, Finset.range_zero, bigSep_empty]
    iempintro
  isplitl [HT]; · iexact HT
  iexact HO

theorem wp_after {Q : α → sProp 𝕄} :
    Between EC d i ι xa ia oa fx fi q q' b b' O W 22 ⊢
      iprop((AtEnd d i ι xa ia oa fx fi q q' b b' O W -∗ wp (M := 𝕄) frame (wpE defs 𝒱 (tile d i) bd) Set.univ (k ⟨⟩) Q)
        -∗ wp (M := 𝕄) frame (wpE defs 𝒱 (tile d i) bd) Set.univ
          (after i xa ia oa b.xs b.hxs b'.xs b'.hxs b.is b.his b'.is b'.his b.os b.hos b'.os b'.hos b.semIn b'.semIn b.semOut b'.semOut >>= k) Q) := by
  unfold after
  simp only [bind_assoc]
  iintro ⟨HF, HI', HE, HE', HD, HT, HO⟩ Hk
  ihave HT := (todo_take d i oa (show 46 < 48 by omega)) $$ HT
  icases HT with ⟨Ho, HT⟩
  ihave HT := (todo_take d i oa (show 47 < 48 by omega)) $$ HT
  icases HT with ⟨Ho', -⟩
  iapply (wp_fetch 𝒱 bd EC d i ι xa ia fx fi q' b' 47 (off59_eq i)) $$ HI'
  iintro HF'
  iapply (wp_flush 𝒱 bd EC d i ι xa ia oa fx fi b 44) $$ [HE HO]
  · isplitl [HE]; · iexact HE
    iexact HO
  iintro ⟨Hd, Hos, HO⟩
  iapply (wp_work 𝒱 bd EC d i ι xa ia oa fx fi q b 46 (off60_eq i) rfl) $$ [HF Hos Ho HO]
  · isplitl [HF]; · iexact HF
    isplitl [Hos]; · iexact Hos
    isplitl [Ho]; · iexact Ho
    iexact HO
  iintro ⟨HI, HE, HO⟩
  iapply (wp_flush 𝒱 bd EC d i ι xa ia oa fx fi b' 45) $$ [HE' HO]
  · isplitl [HE']; · iexact HE'
    iexact HO
  iintro ⟨Hd', Hos', HO⟩
  iapply (wp_work 𝒱 bd EC d i ι xa ia oa fx fi q' b' 47 (off73_eq i) rfl) $$ [HF' Hos' Ho' HO]
  · isplitl [HF']; · iexact HF'
    isplitl [Hos']; · iexact Hos'
    isplitl [Ho']; · iexact Ho'
    iexact HO
  iintro ⟨HI', HE', HO⟩
  iapply (wp_flush 𝒱 bd EC d i ι xa ia oa fx fi b 46) $$ [HE HO]
  · isplitl [HE]; · iexact HE
    iexact HO
  iintro ⟨He, Hos, HO⟩
  iapply (wp_flush 𝒱 bd EC d i ι xa ia oa fx fi b' 47) $$ [HE' HO]
  · isplitl [HE']; · iexact HE'
    iexact HO
  iintro ⟨He', Hos', HO⟩
  iapply Hk
  isplitl [HI]; · iexact HI
  isplitl [HI']; · iexact HI'
  isplitl [Hos]; · iexact Hos
  isplitl [Hos']; · iexact Hos'
  isplitr [HO]
  · iapply (done_put d i xa ia oa fx fi 47)
    isplitl [He']; · iexact He'
    iapply (done_put d i xa ia oa fx fi 46)
    isplitl [He]; · iexact He
    iapply (done_put d i xa ia oa fx fi 45)
    isplitl [Hd']; · iexact Hd'
    iapply (done_put d i xa ia oa fx fi 44)
    isplitl [Hd]; · iexact Hd
    iexact HD
  iexact HO

include EC in
/-- A tile's run. -/
theorem wp_tile :
    AtStart d i ι xa ia oa fx fi q q' b b' O W ⊢
      wp (M := 𝕄) frame (wpE defs 𝒱 (tile d i) bd) Set.univ (do
        before i xa ia oa b.xs b.hxs b'.xs b'.hxs b.is b.his b'.is b'.his b.os b.hos b'.os b'.hos b.semIn b'.semIn b.semOut b'.semOut
        pairs i xa ia oa b.xs b.hxs b'.xs b'.hxs b.is b.his b'.is b'.his b.os b.hos b'.os b'.hos b.semIn b'.semIn b.semOut b'.semOut
        after i xa ia oa b.xs b.hxs b'.xs b'.hxs b.is b.his b'.is b'.his b.os b.hos b'.os b'.hos b.semIn b'.semIn b.semOut b'.semOut)
      (fun _ => AtEnd d i ι xa ia oa fx fi q q' b b' O W) := by
  iintro H
  iapply (wp_before 𝒱 bd EC d i ι xa ia oa fx fi q q' b b') $$ H
  iintro H
  iapply (Scf.wp_for_bind frame (wpE defs 𝒱 (tile d i) bd) Set.univ k0_t3_loop.lb k0_t3_loop.ub k0_t3_loop.st k0_t3_ok PUnit.unit
    (fun t _ => pairTrip i xa ia oa b.xs b.hxs b'.xs b'.hxs b.is b.his b'.is b'.his b.os b.hos b'.os b'.hos b.semIn b'.semIn b.semOut b'.semOut t)
    (fun t _ => Between EC d i ι xa ia oa fx fi q q' b b' O W t) ?hbody) $$ H
  case hbody =>
    intro t _
    rw [← bind_pure (pairTrip i xa ia oa _ _ _ _ _ _ _ _ _ _ _ _ _ _ _ _ t)]
    iintro H
    iapply (wp_pairTrip 𝒱 bd EC d i ι xa ia oa fx fi q q' b b' t) $$ H
    iintro H
    rw [Prog.pure_eq_ret, wp_ret]
    imodintro
    iexact H
  iintro %_ H
  rw [← bind_pure (after i xa ia oa _ _ _ _ _ _ _ _ _ _ _ _ _ _ _ _)]
  iapply (wp_after 𝒱 bd EC d i ι xa ia oa fx fi q q' b b') $$ [H]
  · rw [show (22 : Nat) = Scf.trips k0_t3_loop.lb k0_t3_loop.ub k0_t3_loop.st from pairs_trips.symm]
    iexact H
  iintro H
  rw [Prog.pure_eq_ret, wp_ret]
  imodintro
  iexact H

end Tile

end Cert.Proof.Unpool

end
-- ==== Proof.Whole.lean ====
/-
  The whole arrays: the 2 × 16 × 48 output blocks partition the output array, and what the tiles leave in them is one
  array, a function of the two inputs; each input is dealt out by shares, two to a tile.
-/
module

public import proofs.«01_k».proof.Proof.Tile
public import Idealize.ShloMosaic.Lib.SparseCore.Launch
public import Idealize.ShloMosaic.Lib.ValueLayout

@[expose] public section

noncomputable section

namespace Cert.Proof.Unpool

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The two inputs and the output, as a tile names them. -/
abbrev xW : Memref sig .scVector .hbm S384x192x192 .f32 := Memref.whole main_v0_scv
abbrev iW : Memref sig .scVector .hbm S384x192x192 .i32 := Memref.whole main_v1_scv
abbrev oW : Memref sig .scVector .hbm S384x384x384 .f32 := Memref.whole main_v2_scv

/-- Tile `s` of core `c`. -/
def tileAt (c : Fin 2) (s : Fin 16) : grid0.Coords :=
  fun | 0 => c | 1 => s | ⟨_ + 2, h⟩ => absurd h (Nat.not_lt.2 (Nat.le_add_left _ _))

theorem plane_tileAt (c : Fin 2) (s : Fin 16) {g : Nat} (hg : g < 48) : plane (tileAt c s) g = 24 * s.val + 12 * c.val + g / 4 := by
  show 24 * s.val + 12 * c.val + g % 48 / 4 = _
  omega

/-! ## Where a block's cells lie -/

theorem row_lt (g : Nat) {n k : Nat} (h : k < n) : n * (g % 4) + k < 4 * n := by
  have := Nat.mod_lt g (show 4 > 0 by decide)
  have : g % 4 = 0 ∨ g % 4 = 1 ∨ g % 4 = 2 ∨ g % 4 = 3 := by omega
  rcases this with h' | h' | h' | h' <;> rw [h'] <;> omega

/-- The place in the output of cell `z` of block `g`, -/
def outPlace (i : grid0.Coords) (g : Nat) (z : S96x384.Idx) : S384x384x384.Idx :=
  ix3 (⟨plane i g, plane_lt i g⟩ : Fin 384) (⟨96 * (g % 4) + (z 0).val, row_lt g (z 0).isLt⟩ : Fin 384) (z 1)

/-- and in an input of cell `z` of chunk `g`. -/
def inPlace (i : grid0.Coords) (g : Nat) (z : S48x192.Idx) : S384x192x192.Idx :=
  ix3 (⟨plane i g, plane_lt i g⟩ : Fin 384) (⟨48 * (g % 4) + (z 0).val, row_lt g (z 0).isLt⟩ : Fin 192) (z 1)

theorem outBlock_emb (i : grid0.Coords) (g : Nat) (z : S96x384.Idx) :
    (outBlock oW (outOff i g) (outOff_inb i g)).view.emb z = outPlace i g z := by
  have e : Shape.reshapeEquiv squeezes_S1x96x384_S96x384.numel_eq z = ix3 (⟨0, Nat.one_pos⟩ : Fin 1) (z 0) (z 1) :=
    (congrArg (Shape.reshapeEquiv squeezes_S1x96x384_S96x384.numel_eq) (eq_ix2 z)).trans (reshapeEquiv_ix2_1ab _ (z 0) (z 1))
  refine (congrArg (Rect.unit (s := S384x384x384) (outOff i g) S1x96x384.size (outOff_inb i g)).emb e).trans ?_
  funext a
  refine Fin.ext ((Rect.emb_apply _ _ _).trans ?_)
  match a with
  | ⟨0, _⟩ => show plane i g + 1 * 0 = plane i g; omega
  | ⟨1, _⟩ => show 96 * (g % 4) + 1 * (z 0).val = 96 * (g % 4) + (z 0).val; omega
  | ⟨2, _⟩ => show 0 + 1 * (z 1).val = (z 1).val; omega

theorem inPlace_emb (i : grid0.Coords) (g : Nat) (z : S48x192.Idx) :
    (Rect.unit (s := S384x192x192) (inOff i g) S1x48x192.size (inOff_inb i g)).emb (Shape.reshapeEquiv squeezes_S1x48x192_S48x192.numel_eq z) = inPlace i g z := by
  have e : Shape.reshapeEquiv squeezes_S1x48x192_S48x192.numel_eq z = ix3 (⟨0, Nat.one_pos⟩ : Fin 1) (z 0) (z 1) :=
    (congrArg (Shape.reshapeEquiv squeezes_S1x48x192_S48x192.numel_eq) (eq_ix2 z)).trans (reshapeEquiv_ix2_1ab _ (z 0) (z 1))
  refine (congrArg (Rect.unit (s := S384x192x192) (inOff i g) S1x48x192.size (inOff_inb i g)).emb e).trans ?_
  funext a
  refine Fin.ext ((Rect.emb_apply _ _ _).trans ?_)
  match a with
  | ⟨0, _⟩ => show plane i g + 1 * 0 = plane i g; omega
  | ⟨1, _⟩ => show 48 * (g % 4) + 1 * (z 0).val = 48 * (g % 4) + (z 0).val; omega
  | ⟨2, _⟩ => show 0 + 1 * (z 1).val = (z 1).val; omega

/-! ## The output array -/

/-- Window of a cell of the output. -/
abbrev windowOf (y : S384x384x384.Idx) : S384x192x192.Idx :=
  ix3 (y 0) ⟨(y 1).val / 2, by have h := (y 1).isLt; change (y 1).val < 384 at h; omega⟩
    ⟨(y 2).val / 2, by have h := (y 2).isLt; change (y 2).val < 384 at h; omega⟩

/-- The output, from the values and the indices: each cell takes its window's value if the window's index names it. -/
def target (X : S384x192x192.Idx → Elt F .f32) (I : S384x192x192.Idx → Elt F .i32) : S384x384x384.Idx → Elt F .f32 := fun y =>
  cell (X (windowOf y)) (zeroOf F) (I (windowOf y)) (baseWord 0#32 ((y 1).val / 2)) ((y 1).val % 2) ((y 2).val % 2)

theorem baseWord_chunk (g z : Nat) : baseWord (rowBase g) (z / 2) = baseWord 0#32 ((96 * (g % 4) + z) / 2) := by
  have e : (96 * (g % 4) + z) / 2 = 48 * (g % 4) + z / 2 := by omega
  unfold baseWord rowBase
  rw [e, ← BitVec.ofNat_add, BitVec.zero_add]

theorem window_place (i : grid0.Coords) (g : Nat) (z : S96x384.Idx) : inPlace i g (window z) = windowOf (outPlace i g z) := by
  funext a
  refine Fin.ext ?_
  match a with
  | ⟨0, _⟩ => rfl
  | ⟨1, _⟩ => show 48 * (g % 4) + (z 0).val / 2 = (96 * (g % 4) + (z 0).val) / 2; omega
  | ⟨2, _⟩ => rfl

variable {Ix : Type} [DecidableEq Ix] {Name : Type} [DecidableEq Name] [Infinite Name] {U : Type} [URA U] {Lvl : Type} [Preorder Lvl]

local notation "𝕄" => MT nD τ sig Ix (Elt F) Name U Lvl

/-- A buffer is its parts, if they are disjoint and cover it. -/
theorem pointsTo_parts {T : Type} (ℓ : Loc nD τ sig) (f : Buf (Elt F) ℓ) (S : Finset T) (K : T → Finset (Idx ℓ))
    (hd : ∀ t ∈ S, ∀ t' ∈ S, t ≠ t' → Disjoint (K t) (K t')) (hc : ∀ y, ∃ t ∈ S, y ∈ K t) :
    (ℓ ↦{fullShare} f : sProp 𝕄) = bigSep S fun t => ℓ ↦[K t]{fullShare} f := by
  rw [← pointsTo_biUnion S K hd, show S.biUnion K = Finset.univ from Finset.eq_univ_iff_forall.mpr fun y => Finset.mem_biUnion.mpr (hc y)]

section Device

variable (d : Dev nD)

/-- The arrays' places in memory. -/
abbrev xLoc : Loc nD τ sig := (SparseCore.T d).loc main_v0
abbrev iLoc : Loc nD τ sig := (SparseCore.T d).loc main_v1
abbrev oLoc : Loc nD τ sig := (SparseCore.T d).loc main_v2

variable (fx : Buf (Elt F) (xLoc d)) (fi : Buf (Elt F) (iLoc d))

theorem chunkY_apply (i : grid0.Coords) (g : Nat) (z : S96x384.Idx) :
    chunkY d i xW iW fx fi g z = target (F := F) fx fi (outPlace i g z) := by
  have hX : chunkX d i xW fx g (window z) = fx (windowOf (outPlace i g z)) :=
    congrArg fx ((inPlace_emb i g (window z)).trans (window_place i g z))
  have hI : chunkI d i iW fi g (window z) = fi (windowOf (outPlace i g z)) :=
    congrArg fi ((inPlace_emb i g (window z)).trans (window_place i g z))
  show cell (chunkX d i xW fx g (window z)) (zeroOf F) (chunkI d i iW fi g (window z)) (baseWord (rowBase g) ((z 0).val / 2)) ((z 0).val % 2) ((z 1).val % 2)
    = cell (fx (windowOf (outPlace i g z))) (zeroOf F) (fi (windowOf (outPlace i g z))) (baseWord 0#32 ((96 * (g % 4) + (z 0).val) / 2))
        ((96 * (g % 4) + (z 0).val) % 2) ((z 1).val % 2)
  rw [hX, hI, baseWord_chunk, show (96 * (g % 4) + (z 0).val) % 2 = (z 0).val % 2 by omega]

/-! ## The blocks partition the output -/

/-- The cells of block `g` of tile `(c, s)`. -/
def outSet (p : (Fin 2 × Fin 16) × Nat) : Finset S384x384x384.Idx :=
  (outBlock oW (outOff (tileAt p.1.1 p.1.2) p.2) (outOff_inb (tileAt p.1.1 p.1.2) p.2)).view.set

/-- All blocks. -/
def allBlocks : Finset ((Fin 2 × Fin 16) × Nat) := (Finset.univ ×ˢ Finset.univ) ×ˢ Finset.range 48

theorem mem_outSet (c : Fin 2) (s : Fin 16) {g : Nat} (hg : g < 48) (y : S384x384x384.Idx) :
    y ∈ outSet ((c, s), g) ↔ c.val = (y 0).val / 12 % 2 ∧ s.val = (y 0).val / 24 ∧ g = 4 * ((y 0).val % 12) + (y 1).val / 96 := by
  have h0 : (y 0).val < 384 := (y 0).isLt
  have h1 : (y 1).val < 384 := (y 1).isLt
  have hc := c.isLt
  have hs := s.isLt
  have hp := plane_tileAt c s hg
  unfold outSet View.set
  rw [Finset.mem_map]
  constructor
  · rintro ⟨z, -, e⟩
    rw [outBlock_emb] at e
    subst e
    have hz : (z 0).val < 96 := (z 0).isLt
    show c.val = plane (tileAt c s) g / 12 % 2 ∧ s.val = plane (tileAt c s) g / 24
      ∧ g = 4 * (plane (tileAt c s) g % 12) + (96 * (g % 4) + (z 0).val) / 96
    rw [hp]
    omega
  · rintro ⟨ec, es, eg⟩
    refine ⟨ix2 ⟨(y 1).val % 96, Nat.mod_lt _ (by decide)⟩ (y 2), Finset.mem_univ _, (outBlock_emb _ _ _).trans ?_⟩
    funext a
    refine Fin.ext ?_
    match a with
    | ⟨0, _⟩ => show plane (tileAt c s) g = (y 0).val; omega
    | ⟨1, _⟩ => show 96 * (g % 4) + (y 1).val % 96 = (y 1).val; omega
    | ⟨2, _⟩ => rfl

theorem mem_allBlocks {p : (Fin 2 × Fin 16) × Nat} : p ∈ allBlocks ↔ p.2 < 48 := by
  unfold allBlocks
  rw [Finset.mem_product, Finset.mem_range]
  exact and_iff_right (Finset.mem_product.mpr ⟨Finset.mem_univ _, Finset.mem_univ _⟩)

theorem outSet_disjoint : ∀ p ∈ allBlocks, ∀ p' ∈ allBlocks, p ≠ p' → Disjoint (outSet p) (outSet p') := by
  rintro ⟨⟨c, s⟩, g⟩ hp ⟨⟨c', s'⟩, g'⟩ hp' hne
  have hg := mem_allBlocks.mp hp
  have hg' := mem_allBlocks.mp hp'
  refine Finset.disjoint_left.mpr fun y hy hy' => hne ?_
  obtain ⟨ec, es, eg⟩ := (mem_outSet c s hg y).mp hy
  obtain ⟨ec', es', eg'⟩ := (mem_outSet c' s' hg' y).mp hy'
  exact Prod.ext (Prod.ext (Fin.ext (ec.trans ec'.symm)) (Fin.ext (es.trans es'.symm))) (eg.trans eg'.symm)

theorem outSet_cover (y : S384x384x384.Idx) : ∃ p ∈ allBlocks, y ∈ outSet p := by
  have h0 : (y 0).val < 384 := (y 0).isLt
  have h1 : (y 1).val < 384 := (y 1).isLt
  have hg : 4 * ((y 0).val % 12) + (y 1).val / 96 < 48 := by omega
  exact ⟨((⟨(y 0).val / 12 % 2, Nat.mod_lt _ (by decide)⟩, ⟨(y 0).val / 24, by omega⟩), 4 * ((y 0).val % 12) + (y 1).val / 96),
    mem_allBlocks.mpr hg,
    (mem_outSet _ _ hg y).mpr ⟨rfl, rfl, rfl⟩⟩

theorem out_blocks (f : Buf (Elt F) (oLoc d)) :
    (oLoc d ↦{fullShare} f : sProp 𝕄)
      = bigSep Finset.univ fun c => bigSep Finset.univ fun s => bigSep (Finset.range 48) fun g => oLoc d ↦[outSet ((c, s), g)]{fullShare} f := by
  refine (pointsTo_parts (oLoc d) f allBlocks outSet outSet_disjoint outSet_cover).trans ?_
  unfold allBlocks
  rw [SparseCore.bigSep_product, SparseCore.bigSep_product]

theorem out_any (c : Fin 2) (s : Fin 16) (g : Nat) (f : Buf (Elt F) (oLoc d)) :
    (oLoc d ↦[outSet ((c, s), g)]{fullShare} f : sProp 𝕄) ⊢ anyOut (F := F) d (tileAt c s) oW g := by
  iintro H
  iexists _
  iapply (owns_intro (tile d (tileAt c s)) (outBlock oW (outOff (tileAt c s) g) (outOff_inb (tileAt c s) g)) fullShare f)
  iexact H

theorem out_done (c : Fin 2) (s : Fin 16) (g : Nat) :
    (doneOut d (tileAt c s) xW iW oW fx fi g : sProp 𝕄) ⊢ oLoc d ↦[outSet ((c, s), g)]{fullShare} (target (F := F) fx fi : Buf (Elt F) (oLoc d)) := by
  unfold doneOut owns
  iintro ⟨%f, %hf, H⟩
  have e : ∀ y ∈ outSet ((c, s), g), (f : Buf (Elt F) (oLoc d)) y = target (F := F) fx fi y := by
    intro y hy
    obtain ⟨z, -, rfl⟩ := Finset.mem_map.mp hy
    refine (congrFun hf z).trans ((chunkY_apply d fx fi (tileAt c s) g z).trans ?_)
    rw [outBlock_emb]
  iapply (Entails.of_eq (pointsTo_congr (ℓ := oLoc d) (q := fullShare) e))
  iexact H

/-- The output, at any contents, is every tile's blocks at some, -/
theorem out_split (f : Buf (Elt F) (oLoc d)) :
    (oLoc d ↦{fullShare} f : sProp 𝕄) ⊢ bigSep Finset.univ fun c => bigSep Finset.univ fun s => Todo (F := F) d (tileAt c s) oW 0 := by
  rw [out_blocks]
  refine bigSep_mono fun c _ => bigSep_mono fun s _ => ?_
  unfold Todo
  rw [← Finset.range_eq_Ico]
  exact bigSep_mono fun g _ => out_any d c s g f

/-- and every tile's blocks, done, are the output at the one array. -/
theorem out_join :
    (bigSep Finset.univ fun c => bigSep Finset.univ fun s => Done d (tileAt c s) xW iW oW fx fi 48 : sProp 𝕄)
      ⊢ oLoc d ↦{fullShare} (target (F := F) fx fi : Buf (Elt F) (oLoc d)) := by
  rw [out_blocks]
  exact bigSep_mono fun c _ => bigSep_mono fun s _ => bigSep_mono fun g _ => out_done d fx fi c s g

/-! ## The inputs' shares -/

/-- Side `k`'s share of an input, for tile `(c, s)`. -/
def shareOf (c : Fin 2) (s : Fin 16) (k : Fin 2) : PosShare TreeShare :=
  Transfers.dealOf (Transfers.dealOf (Transfers.dealOf fullShare Finset.univ c) Finset.univ s) Finset.univ k

theorem dealt (ℓ : Loc nD τ sig) (f : Buf (Elt F) ℓ) :
    (ℓ ↦{fullShare} f : sProp 𝕄)
      = bigSep Finset.univ fun c => bigSep Finset.univ fun s => iprop((ℓ ↦{shareOf c s 0} f) ∗ (ℓ ↦{shareOf c s 1} f)) := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  refine bigSep_congr fun s _ => ?_
  rw [Transfers.pointsTo_deal (Finset.univ : Finset (Fin 2)) Finset.univ_nonempty,
    show (Finset.univ : Finset (Fin 2)) = {0, 1} by decide, SparseCore.bigSep_insert' (by decide), bigSep_singleton]
  rfl

theorem swap4 (A B C E : sProp 𝕄) : iprop((A ∗ B) ∗ C ∗ E) = iprop((A ∗ C) ∗ B ∗ E) := by
  have h (A B C E : sProp 𝕄) : iprop((A ∗ B) ∗ C ∗ E) ⊢ iprop((A ∗ C) ∗ B ∗ E) := by
    iintro ⟨⟨HA, HB⟩, HC, HE⟩
    isplitl [HA HC]
    · isplitl [HA]; · iexact HA
      iexact HC
    · isplitl [HB]; · iexact HB
      iexact HE
  exact BI.equiv_iff.mp ⟨h A B C E, h A C B E⟩

/-- A tile's part of the inputs: a share of both for each side. -/
abbrev Ins (c : Fin 2) (s : Fin 16) : sProp 𝕄 :=
  iprop(Inputs d (tileAt c s) xW iW (shareOf c s 0) fx fi ∗ Inputs d (tileAt c s) xW iW (shareOf c s 1) fx fi)

theorem inputs_eq (i : grid0.Coords) (q : PosShare TreeShare) :
    (Inputs d i xW iW q fx fi : sProp 𝕄) = iprop((xLoc d ↦{q} fx) ∗ (iLoc d ↦{q} fi)) := by
  show iprop((xLoc d ↦[(View.whole main_v0_scv).set]{q} fx) ∗ (iLoc d ↦[(View.whole main_v1_scv).set]{q} fi)) = _
  rw [View.set_whole, View.set_whole]

theorem ins_eq :
    (iprop((xLoc d ↦{fullShare} fx) ∗ (iLoc d ↦{fullShare} fi)) : sProp 𝕄)
      = bigSep Finset.univ fun c => bigSep Finset.univ fun s => Ins d fx fi c s := by
  rw [dealt (xLoc d) fx, dealt (iLoc d) fi, ← bigSep_sep']
  refine bigSep_congr fun c _ => ?_
  rw [← bigSep_sep']
  refine bigSep_congr fun s _ => ?_
  unfold Ins
  rw [inputs_eq, inputs_eq]
  exact swap4 _ _ _ _

end Device

end Cert.Proof.Unpool

end
-- ==== Proof.Launch.lean ====
/-
  The launch's obligations: what the call sends each tile and gets back, a tile's run from its own buffers and
  semaphores, and a SparseCore's part as its sixteen tiles'.
-/
module

public import proofs.«01_k».proof.Proof.Whole
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pipeline.Kit

@[expose] public section

noncomputable section

namespace Cert.Proof.Unpool

open Idealize.ShloMosaic Idealize.ShloMosaic.ValueIdx
open Idealize.ShloMosaic.SparseCore (S V)
open Idealize.ShloMosaic.SparseCore.Cfg (HIx Pay ownBufs ownSems0 ownCells ownRefs mem_ownCells)
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the counters of the copies under way. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## A tile's own buffers and semaphores -/

def sideA : Side where
  xs := Memref.whole cc0_scratch0
  hxs := Memref.isWhole_whole _
  is := Memref.whole cc0_scratch2
  his := Memref.isWhole_whole _
  os := Memref.whole cc0_scratch4
  hos := Memref.isWhole_whole _
  semIn := cc0_scratch6
  semOut := cc0_scratch8
  credits := rfl

def sideB : Side where
  xs := Memref.whole cc0_scratch1
  hxs := Memref.isWhole_whole _
  is := Memref.whole cc0_scratch3
  his := Memref.isWhole_whole _
  os := Memref.whole cc0_scratch5
  hos := Memref.isWhole_whole _
  semIn := cc0_scratch7
  semOut := cc0_scratch9
  credits := rfl

/-- A tile's six buffers, and its four semaphores. -/
def tileRefs : Finset (Ref sig .scVector) := {cc0_scratch0, cc0_scratch2, cc0_scratch4, cc0_scratch1, cc0_scratch3, cc0_scratch5}
def tileSems : Finset (SemLoc sig) := {.dma cc0_scratch6.sem, .dma cc0_scratch8.sem, .dma cc0_scratch7.sem, .dma cc0_scratch9.sem}

/-- The members that `f` names, and the rest. -/
theorem bigSep_named {I J : Type} [DecidableEq I] [DecidableEq J] {s : Finset I} {t : Finset J} {f : J → I} (hf : Function.Injective f)
    (hs : ∀ j ∈ t, f j ∈ s) (Φ : I → sProp 𝕄) : bigSep s Φ = iprop((bigSep t fun j => Φ (f j)) ∗ bigSep (s \ t.image f) Φ) := by
  rw [SparseCore.bigSep_sdiff_split' (Finset.image_subset_iff.mpr hs), bigSep_image_of_injOn hf.injOn]

section Tile

variable (d : Dev nD) (i : grid0.Coords)

/-- A side's three buffers at some contents, -/
abbrev Bufs (b : Side) : sProp 𝕄 :=
  iprop((∃ X, owns (tile d i) b.xs fullShare X) ∗ (∃ I, owns (tile d i) b.is fullShare I) ∗ (∃ Y, owns (tile d i) b.os fullShare Y))

/-- its two semaphores at zero, -/
abbrev Sems (b : Side) : sProp 𝕄 := iprop(semVal (tile d i, .dma b.semIn.sem) 0 ∗ semVal (tile d i, .dma b.semOut.sem) 0)

/-- and what else a tile owns. -/
abbrev otherRefs : Finset (DevRef τ sig) := ownRefs (tile d i).2 \ tileRefs.image (tile d i).2.devRef
abbrev otherCells : Finset (GSem nD τ sig) := ownCells (tile d i) \ tileSems.image fun s => (tile d i, s)
abbrev OtherBufs : sProp 𝕄 := bigSep (otherRefs d i) fun b => iprop(∃ f, ((d, b) : Loc nD τ sig) ↦{fullShare} f)
abbrev OtherSems : sProp 𝕄 := bigSep (otherCells d i) fun g => semVal g 0

theorem someBuf (r : Ref sig .scVector) :
    (iprop(∃ f, ((tile d i).1, (tile d i).2.devRef r) ↦{fullShare} f) : sProp 𝕄) = iprop(∃ f, owns (tile d i) (Memref.whole r) fullShare f) := by
  simp only [owns_whole]

theorem ownBufs_tile :
    (ownBufs (tile d i) : sProp 𝕄) = iprop(((∃ X, owns (tile d i) sideA.xs fullShare X) ∗ (∃ I, owns (tile d i) sideA.is fullShare I)
      ∗ (∃ Y, owns (tile d i) sideA.os fullShare Y) ∗ (∃ X, owns (tile d i) sideB.xs fullShare X) ∗ (∃ I, owns (tile d i) sideB.is fullShare I)
      ∗ (∃ Y, owns (tile d i) sideB.os fullShare Y)) ∗ OtherBufs d i) := by
  unfold SparseCore.Cfg.ownBufs
  rw [bigSep_named (t := tileRefs) (f := (tile d i).2.devRef) (Proc.devRef_injective _) ?hin]
  case hin =>
    intro r hr
    refine SparseCore.Cfg.mem_ownRefs_of_owner ?_
    unfold tileRefs at hr
    simp only [Finset.mem_insert, Finset.mem_singleton] at hr
    rcases hr with rfl | rfl | rfl | rfl | rfl | rfl <;> rfl
  unfold tileRefs
  rw [SparseCore.bigSep_insert' (by decide), SparseCore.bigSep_insert' (by decide), SparseCore.bigSep_insert' (by decide),
    SparseCore.bigSep_insert' (by decide), SparseCore.bigSep_insert' (by decide), bigSep_singleton]
  rw [someBuf, someBuf, someBuf, someBuf, someBuf, someBuf]
  rfl

theorem ownSems_tile :
    (ownSems0 (tile d i) : sProp 𝕄) = iprop((semVal (tile d i, .dma sideA.semIn.sem) 0 ∗ semVal (tile d i, .dma sideA.semOut.sem) 0
      ∗ semVal (tile d i, .dma sideB.semIn.sem) 0 ∗ semVal (tile d i, .dma sideB.semOut.sem) 0) ∗ OtherSems d i) := by
  unfold SparseCore.Cfg.ownSems0
  rw [bigSep_named (t := tileSems) (f := fun s => (tile d i, s)) (fun _ _ e => (Prod.mk.inj e).2) ?hin]
  case hin =>
    intro s hs
    refine mem_ownCells.mpr ⟨rfl, ?_⟩
    have h : ∀ s ∈ tileSems, s.isScoped .scVector = true := by decide
    exact h s hs
  unfold tileSems
  rw [SparseCore.bigSep_insert' (by decide), SparseCore.bigSep_insert' (by decide), SparseCore.bigSep_insert' (by decide), bigSep_singleton]
  rfl

/-! ## A tile's run -/

theorem start_of (hF : (K (F := F)).Facts) (c : Fin 2) (s : Fin 16) (fx : Buf (Elt F) (xLoc d)) (fi : Buf (Elt F) (iLoc d)) (O : CellTallies nD τ sig (HIx 1)) (W : Waits sig (HIx 1)) (hO : ∀ g, O g none = 0) :
    (iprop(levAts (K (F := F)).L (K (F := F)).lev ∗ emp ∗ (Ins d fx fi c s ∗ Todo (F := F) d (tileAt c s) oW 0)
        ∗ scopedBufs (tile d (tileAt c s)) ∗ scopedSems0 (tile d (tileAt c s)) ∗ owes (tile d (tileAt c s)) O W) : sProp 𝕄)
      ⊢ iprop(AtStart d (tileAt c s) none xW iW oW fx fi (shareOf c s 0) (shareOf c s 1) sideA sideB O W
        ∗ OtherBufs d (tileAt c s) ∗ OtherSems d (tileAt c s)) := by
  unfold AtStart Idle OutFree Owing
  rw [(K (F := F)).scopedBufs_V hF d _ _, SparseCore.Cfg.scopedSems0_V (Val := Elt F) d _ _, ownBufs_tile, ownSems_tile]
  iintro ⟨#Hlv, -, ⟨⟨HIa, HIb⟩, HT⟩, ⟨⟨Xa, Ia, Ya, Xb, Ib, Yb⟩, HB⟩, ⟨⟨Sa, Ta, Sb, Tb⟩, HS⟩, HO⟩
  isplitr [HB HS]
  · isplitl [HIa Xa Ia Sa]
    · isplitl [HIa]; · iexact HIa
      isplitl [Xa]; · iexact Xa
      isplitl [Ia]; · iexact Ia
      iexact Sa
    isplitl [HIb Xb Ib Sb]
    · isplitl [HIb]; · iexact HIb
      isplitl [Xb]; · iexact Xb
      isplitl [Ib]; · iexact Ib
      iexact Sb
    isplitl [Ya Ta]
    · isplitl [Ya]; · iexact Ya
      iexact Ta
    isplitl [Yb Tb]
    · isplitl [Yb]; · iexact Yb
      iexact Tb
    isplitl [HT]; · iexact HT
    isplitr
    · iapply ((K (F := F)).mayWaits_none hO)
      iexact Hlv
    iexists W
    isplitr
    · ipureintro; exact fun p hp => Or.inl hp
    iexact HO
  · isplitl [HB]; · iexact HB
    iexact HS

theorem end_of (hF : (K (F := F)).Facts) (c : Fin 2) (s : Fin 16) (fx : Buf (Elt F) (xLoc d)) (fi : Buf (Elt F) (iLoc d)) (O : CellTallies nD τ sig (HIx 1)) (W : Waits sig (HIx 1)) :
    (iprop(AtEnd d (tileAt c s) none xW iW oW fx fi (shareOf c s 0) (shareOf c s 1) sideA sideB O W
        ∗ OtherBufs d (tileAt c s) ∗ OtherSems d (tileAt c s)) : sProp 𝕄)
      ⊢ iprop((Ins d fx fi c s ∗ Done d (tileAt c s) xW iW oW fx fi 48)
        ∗ scopedBufs (tile d (tileAt c s)) ∗ scopedSems0 (tile d (tileAt c s)) ∗ ∃ W', ⌜∀ p ∈ W', p ∈ W ∨ p.2 = none⌝ ∗ owes (tile d (tileAt c s)) O W') := by
  unfold AtEnd Idle OutFree Owing
  rw [(K (F := F)).scopedBufs_V hF d _ _, SparseCore.Cfg.scopedSems0_V (Val := Elt F) d _ _, ownBufs_tile, ownSems_tile]
  iintro ⟨⟨⟨HIa, Xa, Ia, Sa⟩, ⟨HIb, Xb, Ib, Sb⟩, ⟨Ya, Ta⟩, ⟨Yb, Tb⟩, HD, ⟨-, HO⟩⟩, HB, HS⟩
  isplitl [HIa HIb HD]
  · isplitl [HIa HIb]
    · isplitl [HIa]; · iexact HIa
      iexact HIb
    iexact HD
  isplitl [Xa Ia Ya Xb Ib Yb HB]
  · isplitr [HB]
    · isplitl [Xa]; · iexact Xa
      isplitl [Ia]; · iexact Ia
      isplitl [Ya]; · iexact Ya
      isplitl [Xb]; · iexact Xb
      isplitl [Ib]; · iexact Ib
      iexact Yb
    iexact HB
  isplitl [Sa Ta Sb Tb HS]
  · isplitr [HS]
    · isplitl [Sa]; · iexact Sa
      isplitl [Ta]; · iexact Ta
      isplitl [Sb]; · iexact Sb
      iexact Tb
    iexact HS
  iexact HO

theorem tile_body (hF : (K (F := F)).Facts) (c : Fin 2) (s : Fin 16) (fx : Buf (Elt F) (xLoc d)) (fi : Buf (Elt F) (iLoc d)) (O : CellTallies nD τ sig (HIx 1)) (W : Waits sig (HIx 1)) (hO : ∀ g, O g none = 0) :
    (iprop(levAts (K (F := F)).L (K (F := F)).lev ∗ emp ∗ (Ins d fx fi c s ∗ Todo (F := F) d (tileAt c s) oW 0)
        ∗ scopedBufs (tile d (tileAt c s)) ∗ scopedSems0 (tile d (tileAt c s)) ∗ owes (tile d (tileAt c s)) O W) : sProp 𝕄)
      ⊢ wp frame (wpE (defs₀ (F := F)) 𝒱₀ (tile d (tileAt c s)) none) Set.univ
          (cc0__unpool (tileAt c s) xW (Memref.isWhole_whole _) iW (Memref.isWhole_whole _) oW (Memref.isWhole_whole _)
            sideA.xs sideA.hxs sideB.xs sideB.hxs sideA.is sideA.his sideB.is sideB.his sideA.os sideA.hos sideB.os sideB.hos
            sideA.semIn sideB.semIn sideA.semOut sideB.semOut)
          fun _ => iprop((Ins d fx fi c s ∗ Done d (tileAt c s) xW iW oW fx fi 48)
            ∗ scopedBufs (tile d (tileAt c s)) ∗ scopedSems0 (tile d (tileAt c s)) ∗ ∃ W', ⌜∀ p ∈ W', p ∈ W ∨ p.2 = none⌝ ∗ owes (tile d (tileAt c s)) O W') := by
  rw [body_eq]
  exact (start_of d hF c s fx fi O W hO).trans ((sep_mono_left (wp_tile 𝒱₀ none countersEmb d (tileAt c s) none xW iW oW fx fi (shareOf c s 0) (shareOf c s 1) sideA sideB)).trans
    ((wp_frame_r _ _ _).trans (wp_mono _ _ _ fun _ => end_of d hF c s fx fi O W)))

end Tile

/-! ## What the call carries -/

variable (m : (ℓ : Loc nD τ sig) → Buf (Elt F) ℓ)

/-- The inputs as the call finds them: the arguments, reshaped. -/
def callX (d : Dev nD) : Buf (Elt F) (xLoc d) := shapeCast S384x192x192 (m ((SparseCore.T d).loc main_arg0)) shapeCasts_S4x96x192x192_S384x192x192
def callI (d : Dev nD) : Buf (Elt F) (iLoc d) := shapeCast S384x192x192 (m ((SparseCore.T d).loc main_arg1)) shapeCasts_S4x96x192x192_S384x192x192

/-- A tile's part of the call, before and after. -/
def Sent (d : Dev nD) (c : Fin 2) (s : Fin 16) : sProp 𝕄 := iprop(Ins d (callX m d) (callI m d) c s ∗ Todo (F := F) d (tileAt c s) oW 0)
def Back (d : Dev nD) (c : Fin 2) (s : Fin 16) : sProp 𝕄 :=
  iprop(Ins d (callX m d) (callI m d) c s ∗ Done d (tileAt c s) xW iW oW (callX m d) (callI m d) 48)

def P : (K (F := F)).Pay (nD := nD) (Val := Elt F) (Name := ℕ) (U := UU) where
  st := fun q d c => match q with | 0 => bigSep (Finset.univ : Finset (Fin 16)) fun s => Sent m d c s
  dn := fun q d c => match q with | 0 => bigSep (Finset.univ : Finset (Fin 16)) fun s => Back m d c s
  go := fun q d c s => match q with | 0 => Sent m d c s
  td := fun q d c s => match q with | 0 => Back m d c s
  x := fun _ _ => iprop(emp)

instance sent_storable (d : Dev nD) (c : Fin 2) (s : Fin 16) : BI.Storable (upEmb : UEmb _ 𝕄) (Sent m d c s) := by
  unfold Sent Todo anyOut owns; infer_instance
instance back_storable (d : Dev nD) (c : Fin 2) (s : Fin 16) : BI.Storable (upEmb : UEmb _ 𝕄) (Back m d c s) := by
  unfold Back Done doneOut owns; infer_instance

instance P_storable : (P (F := F) m).IsStorable where
  st q d c := match q with | 0 => (inferInstance : BI.Storable (upEmb : UEmb _ 𝕄) (bigSep (Finset.univ : Finset (Fin 16)) fun s => Sent m d c s))
  dn q d c := match q with | 0 => (inferInstance : BI.Storable (upEmb : UEmb _ 𝕄) (bigSep (Finset.univ : Finset (Fin 16)) fun s => Back m d c s))
  go q d c s := match q with | 0 => sent_storable m d c s
  td q d c s := match q with | 0 => back_storable m d c s

/-! ## The obligations -/

theorem defs₀_vector (c : Fin τ.nSC) (s : Fin τ.nSub) :
    defs₀ (F := F) (.scVector c s) 0 ()
      = SparseCore.onTile hcore0 hsub0 (fun c s => cc0__unpool (tileAt c s) xW (Memref.isWhole_whole _) iW (Memref.isWhole_whole _) oW (Memref.isWhole_whole _)
            sideA.xs sideA.hxs sideB.xs sideB.hxs sideA.is sideA.his sideB.is sideB.his sideA.os sideA.hos sideB.os sideB.hos
            sideA.semIn sideB.semIn sideA.semOut sideB.semOut) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d hF ⟨_, hc.1⟩ ⟨_, hc.2⟩ (callX m d) (callI m d) O W hO).trans (wp_mono frame _ _ fun _ => obl_post)

theorem vecSplit : (K (F := F)).VecSplit' (P m) 0 := by
  intro d c
  show (bigSep (Finset.univ : Finset (Fin 16)) fun s => Sent m d c s : sProp 𝕄) ⊢ |={Set.univ}=> iprop(
    (bigSep (Finset.univ : Finset (Fin 16)) fun s => Sent m d c s)
      ∗ ((bigSep (Finset.univ : Finset (Fin 16)) fun s => Back m d c s) -∗ bigSep (Finset.univ : Finset (Fin 16)) fun s => Back m d c s))
  iintro H
  imodintro
  isplitl [H]; · iexact H
  iintro H
  iexact H

end Cert.Proof.Unpool

end
-- ==== Proof.Main.lean ====
/-
  The whole program: two reshapes, the call, a reshape. Every run ends with the arguments as they were, every counter
  at zero, and in the result the one array of the two arguments that the tiles write.
-/
module

public import proofs.«01_k».proof.Proof.Launch

@[expose] public section

noncomputable section

namespace Cert.Proof.Unpool

open Idealize.ShloMosaic Idealize.ShloMosaic.ValueIdx
open Idealize.ShloMosaic.SparseCore (S V)
open Idealize.ShloMosaic.SparseCore.Cfg (HIx Pay)
open Idealize.ShloMosaic.Rounds
open Idealize.ShloMosaic.StableHlo (held wp_hlo_within reshape_result reshape_result_ne)
open Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays -/

abbrev x' : DevRef τ sig := Proc.devRef .tc (main_arg0 : Ref sig .tc)
abbrev i' : DevRef τ sig := Proc.devRef .tc (main_arg1 : Ref sig .tc)
abbrev xr' : DevRef τ sig := Proc.devRef .tc (main_v0 : Ref sig .tc)
abbrev ir' : DevRef τ sig := Proc.devRef .tc (main_v1 : Ref sig .tc)
abbrev or' : DevRef τ sig := Proc.devRef .tc (main_v2 : Ref sig .tc)
abbrev o' : DevRef τ sig := Proc.devRef .tc (main_v3 : Ref sig .tc)
abbrev S6 : Finset (DevRef τ sig) := {x', i', xr', ir', or', o'}

abbrev opX : HloOp τ sig (Elt F) := StableHlo.reshape main_arg0 main_v0 (rfl : (.f32 : EltTy) = .f32) shapeCasts_S4x96x192x192_S384x192x192
abbrev opI : HloOp τ sig (Elt F) := StableHlo.reshape main_arg1 main_v1 (rfl : (.i32 : EltTy) = .i32) shapeCasts_S4x96x192x192_S384x192x192
abbrev opO : HloOp τ sig (Elt F) := StableHlo.reshape main_v2 main_v3 (rfl : (.f32 : EltTy) = .f32) shapeCasts_S384x384x384_S4x96x384x384

theorem hX : (opX (F := F)).bufs ⊆ S6 := show ({x', xr'} : Finset (DevRef τ sig)) ⊆ S6 by decide
theorem hI : (opI (F := F)).bufs ⊆ S6 := show ({i', ir'} : Finset (DevRef τ sig)) ⊆ S6 by decide
theorem hO : (opO (F := F)).bufs ⊆ S6 := show ({or', o'} : Finset (DevRef τ sig)) ⊆ S6 by decide

theorem held_S6 (d : Dev nD) (W : Valuation τ sig (Elt F)) :
    (held (SparseCore.T d) S6 W : sProp 𝕄) = iprop(((SparseCore.T d).loc main_arg0 ↦{fullShare} W x') ∗ ((SparseCore.T d).loc main_arg1 ↦{fullShare} W i') ∗ (xLoc d ↦{fullShare} W xr')
      ∗ (iLoc d ↦{fullShare} W ir') ∗ (oLoc d ↦{fullShare} W or') ∗ ((SparseCore.T d).loc main_v3 ↦{fullShare} W o')) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The arrays at launch, after the arguments' reshapes, after the call, and at the end. -/
def V0 (d : Dev nD) : Valuation τ sig (Elt F) := fun b => m (d, b)
def V1 (d : Dev nD) : Valuation τ sig (Elt F) := (opI (F := F)).result ((opX (F := F)).result (V0 m d))
def V2 (d : Dev nD) : Valuation τ sig (Elt F) := Function.update (V1 m d) or' (target (callX m d) (callI m d))
def V3 (d : Dev nD) : Valuation τ sig (Elt F) := (opO (F := F)).result (V2 m d)

/-- The result: the one array, reshaped. -/
def outcome (d : Dev nD) : Buf (Elt F) ((SparseCore.T d : Thread nD τ).loc main_v3) :=
  shapeCast S4x96x384x384 (target (F := F) (callX m d) (callI m d)) shapeCasts_S384x384x384_S4x96x384x384

theorem unscoped_held (d : Dev nD) : (unscopedBufs d (fun b => m ((SparseCore.T d).loc b)) : sProp 𝕄) = held (SparseCore.T d) S6 (V0 m d) := by
  rw [held_S6]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-- Each reshape writes its result alone. -/
theorem opX_ne (V : Valuation τ sig (Elt F)) {b : DevRef τ sig} (h : b ≠ xr') : (opX (F := F)).result V b = V b :=
  HloOp.result_of_not_mem _ _ (show b ∉ ({xr'} : Finset (DevRef τ sig)) from Finset.notMem_singleton.mpr h)
theorem opI_ne (V : Valuation τ sig (Elt F)) {b : DevRef τ sig} (h : b ≠ ir') : (opI (F := F)).result V b = V b :=
  HloOp.result_of_not_mem _ _ (show b ∉ ({ir'} : Finset (DevRef τ sig)) from Finset.notMem_singleton.mpr h)
theorem opO_ne (V : Valuation τ sig (Elt F)) {b : DevRef τ sig} (h : b ≠ o') : (opO (F := F)).result V b = V b :=
  HloOp.result_of_not_mem _ _ (show b ∉ ({o'} : Finset (DevRef τ sig)) from Finset.notMem_singleton.mpr h)
theorem opX_eq (V : Valuation τ sig (Elt F)) : (opX (F := F)).result V xr' = shapeCast S384x192x192 (V x') shapeCasts_S4x96x192x192_S384x192x192 :=
  reshape_result main_arg0 main_v0 rfl _ _ _ V
theorem opI_eq (V : Valuation τ sig (Elt F)) : (opI (F := F)).result V ir' = shapeCast S384x192x192 (V i') shapeCasts_S4x96x192x192_S384x192x192 :=
  reshape_result main_arg1 main_v1 rfl _ _ _ V
theorem opO_eq (V : Valuation τ sig (Elt F)) : (opO (F := F)).result V o' = shapeCast S4x96x384x384 (V or') shapeCasts_S384x384x384_S4x96x384x384 :=
  reshape_result main_v2 main_v3 rfl _ _ _ V

theorem V1_xr (d : Dev nD) : V1 m d xr' = callX m d := by
  unfold V1; rw [opI_ne _ (by decide), opX_eq]; rfl
theorem V1_ir (d : Dev nD) : V1 m d ir' = callI m d := by
  unfold V1; rw [opI_eq, opX_ne _ (by decide)]; rfl
theorem V1_x (d : Dev nD) : V1 m d x' = m ((SparseCore.T d).loc main_arg0) := by
  unfold V1; rw [opI_ne _ (by decide), opX_ne _ (by decide)]; rfl
theorem V1_i (d : Dev nD) : V1 m d i' = m ((SparseCore.T d).loc main_arg1) := by
  unfold V1; rw [opI_ne _ (by decide), opX_ne _ (by decide)]; rfl
theorem V2_or (d : Dev nD) : V2 m d or' = target (callX m d) (callI m d) := Function.update_self _ _ _
theorem V2_of_ne (d : Dev nD) {b : DevRef τ sig} (h : b ≠ or') : V2 m d b = V1 m d b := Function.update_of_ne h _ _
theorem V3_x (d : Dev nD) : V3 m d x' = m ((SparseCore.T d).loc main_arg0) := by
  unfold V3; rw [opO_ne _ (by decide), V2_of_ne m d (by decide), V1_x]
theorem V3_i (d : Dev nD) : V3 m d i' = m ((SparseCore.T d).loc main_arg1) := by
  unfold V3; rw [opO_ne _ (by decide), V2_of_ne m d (by decide), V1_i]
theorem V3_o (d : Dev nD) : V3 m d o' = outcome m d := by
  unfold V3; rw [opO_eq, V2_or]; rfl

/-! ## The call -/

theorem tiles_sep (A B : Fin 2 → Fin 16 → sProp 𝕄) :
    (bigSep Finset.univ fun c => bigSep Finset.univ fun s => iprop(A c s ∗ B c s))
      = iprop((bigSep Finset.univ fun c => bigSep Finset.univ fun s => A c s) ∗ bigSep Finset.univ fun c => bigSep Finset.univ fun s => B c s) :=
  (bigSep_congr fun _ _ => bigSep_sep' _ _ _).trans (bigSep_sep' _ _ _)

theorem sent_of (d : Dev nD) (f : Buf (Elt F) (oLoc d)) :
    (iprop((xLoc d ↦{fullShare} callX m d) ∗ (iLoc d ↦{fullShare} callI m d) ∗ (oLoc d ↦{fullShare} f)) : sProp 𝕄)
      ⊢ bigSep Finset.univ fun c : Fin ((K (F := F)).nCore 0) => (P m).st 0 d c := by
  show _ ⊢ bigSep (Finset.univ : Finset (Fin 2)) fun c => bigSep (Finset.univ : Finset (Fin 16)) fun s => Sent m d c s
  unfold Sent
  rw [tiles_sep, ← ins_eq d (callX m d) (callI m d)]
  iintro ⟨Hx, Hi, Ho⟩
  isplitl [Hx Hi]
  · isplitl [Hx]; · iexact Hx
    iexact Hi
  · iapply (out_split d f)
    iexact Ho

theorem back_of (d : Dev nD) :
    (bigSep Finset.univ fun c : Fin ((K (F := F)).nCore 0) => (P m).dn 0 d c : sProp 𝕄)
      ⊢ iprop((xLoc d ↦{fullShare} callX m d) ∗ (iLoc d ↦{fullShare} callI m d)
        ∗ (oLoc d ↦{fullShare} (target (F := F) (callX m d) (callI m d) : Buf (Elt F) (oLoc d)))) := by
  show (bigSep (Finset.univ : Finset (Fin 2)) fun c => bigSep (Finset.univ : Finset (Fin 16)) fun s => Back m d c s) ⊢ _
  unfold Back
  rw [tiles_sep, ← ins_eq d (callX m d) (callI m d)]
  iintro ⟨⟨Hx, Hi⟩, Ho⟩
  isplitl [Hx]; · iexact Hx
  isplitl [Hi]; · iexact Hi
  iapply (out_join d (callX m d) (callI m d))
  iexact Ho

/-- What is left at the end: the arguments as they were, and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v3 ↦{fullShare} outcome m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) hX (V := V0 m d)) $$ [Hb Hheld]
  · isplitl [Hb] <;> iassumption
  iintro ⟨Hb, Hheld⟩
  rw [wp_ret]; imodintro
  iapply (wp_hlo_within 𝒱 (SparseCore.T d) none Set.univ (op := opI) (S := S6) hI (V := (opX (F := F)).result (V0 m d))) $$ [Hb Hheld]
  · isplitl [Hb] <;> iassumption
  iintro ⟨Hb, Hheld⟩
  rw [wp_ret]; imodintro
  ihave Hh := (Entails.of_eq (held_S6 (F := F) d (V1 m d))) $$ [Hheld]
  · iexact Hheld
  icases Hh with ⟨Hx, Hi, Hxr, Hir, Hor, Ho⟩
  iapply ((K (F := F)).wp_run (D (F := F)) 𝒱 (EH := EH) (P := P m) κ d 0) $$ [Hst Hx Hi Hxr Hir Hor Ho Hb Hts]
  isplitr; · iexact Hctx
  isplitl [Hst]; · iexact Hst
  isplitl [Hxr Hir Hor]
  · rw [V1_xr, V1_ir]
    iapply (sent_of m d _)
    isplitl [Hxr]; · iexact Hxr
    isplitl [Hir]; · iexact Hir
    iexact Hor
  iintro ⟨Hst, Hdn⟩
  ihave Hdn' := (back_of m d) $$ Hdn
  icases Hdn' with ⟨Hxr, Hir, Hor⟩
  iapply (wp_hlo_within 𝒱 (SparseCore.T d) none Set.univ (op := opO) (S := S6) hO (V := V2 m d)) $$ [Hb Hx Hi Hxr Hir Hor Ho]
  · isplitl [Hb]; · iexact Hb
    rw [held_S6, V2_or, V2_of_ne m d (b := x') (by decide), V2_of_ne m d (b := i') (by decide), V2_of_ne m d (b := xr') (by decide),
      V2_of_ne m d (b := ir') (by decide), V2_of_ne m d (b := o') (by decide), V1_xr, V1_ir]
    isplitl [Hx]; · iexact Hx
    isplitl [Hi]; · iexact Hi
    isplitl [Hxr]; · iexact Hxr
    isplitl [Hir]; · iexact Hir
    isplitl [Hor]; · iexact Hor
    iexact Ho
  iintro ⟨Hb, Hheld⟩
  rw [wp_ret]; imodintro
  ihave Hh := (Entails.of_eq (held_S6 (F := F) d (V3 m d))) $$ [Hheld]
  · iexact Hheld
  rw [V3_x, V3_i, V3_o]
  icases Hh with ⟨Hx, Hi, -, -, -, Ho⟩
  imodintro
  isplitl [Hst]; · iexact Hst
  isplitr [Hb Hts]
  · isplitl [Hx]; · iexact Hx
    isplitl [Hi]; · iexact Hi
    iexact Ho
  isplitl [Hb] <;> iassumption

/-! ## The run -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P m).x q thr) = (iprop(emp) : sProp 𝕄) :=
    (bigSep_congr fun _ _ => bigSep_emp_const _).trans (bigSep_emp_const _)
  have e' : (bigSep Finset.univ fun _ : Dev nD => iprop(emp)) = (iprop(emp) : sProp 𝕄) := bigSep_emp_const _
  rw [e, e']
  unfold u₀
  iintro Hu
  ihave H := (ownU_pair _ _) $$ Hu
  icases H with ⟨HH, -⟩
  imodintro
  isplitl [HH]; · iexact HH
  isplitr <;> iempintro

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v3) = outcome m d

theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := (SparseCore.T d).loc main_arg0) (I := Finset.univ) (q := fullShare) (f := m ((SparseCore.T d).loc main_arg0)))) $$ [HSI Hx]
  · isplitl [HSI] <;> iassumption
  icases H with ⟨%h1, HSI, -⟩
  ihave H := (persistent_entails_right (SI_pointsTo_agree (st := s') (ℓ := (SparseCore.T d).loc main_arg1) (I := Finset.univ) (q := fullShare) (f := m ((SparseCore.T d).loc main_arg1)))) $$ [HSI Hi]
  · isplitl [HSI] <;> iassumption
  icases H with ⟨%h2, HSI, -⟩
  ihave H := (SI_pointsTo_agree (st := s') (ℓ := (SparseCore.T d).loc main_v3) (I := Finset.univ) (q := fullShare) (f := outcome m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_v3) = outcome m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Unpool

end
-- ==== Proof.Printed.lean ====
/-
  The kernel as printed has the same text as the one read at extended reals, so its frame is the same theorem at bits.
-/
module

public import proofs.«01_k».proof.Defs
public import proofs.«01_k».proof.Proof.Main
public import proofs.«01_k».proof.Proof.Gen.Kernel

@[expose] public section

noncomputable section

namespace Cert.Proof.Unpool

open Idealize.ShloMosaic Idealize.SL.Sem

theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (run_main (F := Bits) m ρ)

end Cert.Proof.Unpool

end
-- ==== Proof.Windows.lean ====
/-
  An index that names a cell of its own window: what the kernel's two tests of such an index say, and what a plane's
  placement by indices leaves in a cell when every index is of that kind.
-/
module

public import proofs.«01_k».proof.Proof.Whole
public import Idealize.ShloMosaic.Lib.ScatterToDense.Spec

@[expose] public section

noncomputable section

namespace Cert.Proof.Unpool

open Idealize.ShloMosaic Idealize.ShloMosaic.ValueIdx
open Idealize.ShloMosaic.ScatterToDense (GS)
open Idealize.ShloMosaic.LaneScatter (lastHit_of_last lastHit_of_none)
open Cert.KernelIdeal

/-- `w` is the index of a cell of window `(i, j)`, in a plane of 384 columns. -/
def Names (w : BitVec 32) (i j : Nat) : Prop :=
  ∃ a b : Nat, a < 2 ∧ b < 2 ∧ w.toNat = 384 * (2 * i + a) + (2 * j + b)

/-- The place of `w` in its row of windows. -/
theorem names_sub {w : BitVec 32} {i j a b : Nat} (hi : i < 192) (hj : j < 192) (ha : a < 2) (hb : b < 2)
    (hw : w.toNat = 384 * (2 * i + a) + (2 * j + b)) : w - baseWord 0#32 i = BitVec.ofNat 32 (384 * a + 2 * j + b) := by
  apply BitVec.eq_of_toNat_eq
  rw [BitVec.toNat_sub, hw, BitVec.toNat_mul, BitVec.toNat_add, BitVec.toNat_ofNat, BitVec.toNat_ofNat, BitVec.toNat_ofNat, BitVec.toNat_ofNat]
  omega

/-- The kernel's choice for a cell of the window is to ask whether the index is the cell's own. -/
theorem cell_of_names {α : Type} (x z : α) {w : BitVec 32} {i j : Nat} (hi : i < 192) (hj : j < 192) (h : Names w i j)
    {a b : Nat} (ha : a < 2) (hb : b < 2) :
    cell x z w (baseWord 0#32 i) a b = if 384 * (2 * i + a) + (2 * j + b) = w.toNat then x else z := by
  obtain ⟨a', b', ha', hb', hw⟩ := h
  unfold cell
  rw [names_sub hi hj ha' hb' hw]
  have hv : (BitVec.ofNat 32 (384 * a' + 2 * j + b')).toNat = 384 * a' + 2 * j + b' := by
    rw [BitVec.toNat_ofNat]
    exact Nat.mod_eq_of_lt (by omega)
  have hd : (384#32).sle (BitVec.ofNat 32 (384 * a' + 2 * j + b')) = true ↔ a' = 1 := by
    rw [BitVec.sle_iff_toInt_le, show (384#32).toInt = 384 from rfl, BitVec.toInt_eq_toNat_of_lt (by rw [hv]; omega), hv]
    omega
  have hr : BitVec.ofNat 32 (384 * a' + 2 * j + b') &&& 1#32 = 1#32 ↔ b' = 1 := by
    rw [← BitVec.toNat_inj, BitVec.toNat_and, hv, show (1#32).toNat = 1 from rfl, Nat.and_one_is_mod]
    omega
  refine if_congr ((and_congr (iff_congr hd Iff.rfl) (iff_congr hr Iff.rfl)).trans ?_) rfl rfl
  omega

/-- Window `k` of plane `p`, in row-major order. -/
abbrev kth (p : Fin 384) (k : Nat) : S384x192x192.Idx :=
  ix3 p ⟨k / 192 % 192, Nat.mod_lt _ (by decide)⟩ ⟨k % 192, Nat.mod_lt _ (by decide)⟩

variable {α : Type} (X : S384x192x192.Idx → α) (I : S384x192x192.Idx → BitVec 32)

/-- Every index names a cell of its own window. -/
def AllNames : Prop := ∀ (p : Fin 384) (i j : Fin 192), Names (I (ix3 p i j)) i.val j.val

/-- Placing a plane's values by such indices leaves in a cell its window's value, if the window's index is the cell's,
    and otherwise what was there. -/
theorem placed (hI : AllNames I) (fill : α) (p r c : Fin 384) :
    GS (fun k => I (kth p k)) (fun k => X (kth p k)) fill (384 * r.val + c.val) 36864
      = cell (X (ix3 p (⟨r.val / 2, by omega⟩ : Fin 192) (⟨c.val / 2, by omega⟩ : Fin 192))) fill
          (I (ix3 p (⟨r.val / 2, by omega⟩ : Fin 192) (⟨c.val / 2, by omega⟩ : Fin 192))) (baseWord 0#32 (r.val / 2)) (r.val % 2) (c.val % 2) := by
  have hr := r.isLt
  have hc := c.isLt
  have hk : kth p (192 * (r.val / 2) + c.val / 2) = ix3 p (⟨r.val / 2, by omega⟩ : Fin 192) (⟨c.val / 2, by omega⟩ : Fin 192) := by
    have e1 : (192 * (r.val / 2) + c.val / 2) / 192 % 192 = r.val / 2 := by omega
    have e2 : (192 * (r.val / 2) + c.val / 2) % 192 = c.val / 2 := by omega
    simp only [kth, e1, e2]
  have only : ∀ k, k < 36864 → 384 * r.val + c.val = (I (kth p k)).toNat → k = 192 * (r.val / 2) + c.val / 2 := by
    intro k hk36 e
    obtain ⟨a, b, ha, hb, hw⟩ := hI p ⟨k / 192 % 192, Nat.mod_lt _ (by decide)⟩ ⟨k % 192, Nat.mod_lt _ (by decide)⟩
    have hw' : (I (kth p k)).toNat = 384 * (2 * (k / 192 % 192) + a) + (2 * (k % 192) + b) := hw
    omega
  rw [cell_of_names _ _ (by omega : r.val / 2 < 192) (by omega : c.val / 2 < 192)
    (hI p (⟨r.val / 2, by omega⟩ : Fin 192) (⟨c.val / 2, by omega⟩ : Fin 192)) (Nat.mod_lt _ (by decide)) (Nat.mod_lt _ (by decide)), ← hk,
    show 384 * (2 * (r.val / 2) + r.val % 2) + (2 * (c.val / 2) + c.val % 2) = 384 * r.val + c.val by omega]
  unfold GS
  by_cases e : 384 * r.val + c.val = (I (kth p (192 * (r.val / 2) + c.val / 2))).toNat
  · rw [if_pos e]
    exact lastHit_of_last (hit := fun k => 384 * r.val + c.val = (I (kth p k)).toNat) (fun k => X (kth p k)) fill e (by omega)
      fun k h1 h2 h3 => absurd (only k h2 h3) (by omega)
  · rw [if_neg e]
    exact lastHit_of_none (hit := fun k => 384 * r.val + c.val = (I (kth p k)).toNat) (fun k => X (kth p k)) fill
      fun k h2 h3 => e (by rw [← only k h2 h3]; exact h3)

end Cert.Proof.Unpool

end
-- ==== Proof.Reference.lean ====
/-
  The reference's result, index by index, under the precondition: each cell of the output takes its window's value if
  the window's index names the cell, and zero otherwise — the array the kernel ends with.
-/
module

public import proofs.«01_k».proof.Defs
public import proofs.«01_k».proof.Proof.Main
public import proofs.«01_k».proof.Proof.Windows
public import proofs.«01_k».proof.Proof.Gen.ReferenceIdeal
public import proofs.«01_k».proof.Proof.Gen.ReferenceIdeal.Run
public import proofs.«01_k».proof.Proof.Gen.Pre_in_windows
public import Idealize.ShloMosaic.Lib.ReduceAll
public import Idealize.ShloMosaic.Lib.ScatterToDense.RefScatter
public import Idealize.ShloMosaic.Lib.Pipeline.Value

@[expose] public section

noncomputable section

namespace Cert.Proof.Unpool

open Idealize.ShloMosaic Idealize.ShloMosaic.ValueIdx
open Idealize.ShloMosaic.ScatterToDense (scatter_eq_GS GS)
open Cert.KernelIdeal (S4x96x192x192 S384x192x192 S384x384x384 S4x96x384x384)
open Cert.ReferenceIdeal (S_ S384 S384x1 S384x36864 S384x147456 S384x36864x1 S384x36864x2)

/-! ## The precondition -/

/-- The first index of window `(i, j)`, as the precondition writes it. -/
abbrev firstWord (i j : Nat) : BitVec 32 := 2#32 * BitVec.ofNat 32 i * 384#32 + 2#32 * BitVec.ofNat 32 j

theorem names_first {w : BitVec 32} {i j : Nat} (hi : i < 192) (hj : j < 192) {a b : Nat} (ha : a < 2) (hb : b < 2)
    (e : w = firstWord i j + BitVec.ofNat 32 (384 * a + b)) : Names w i j := by
  refine ⟨a, b, ha, hb, ?_⟩
  subst e
  simp only [BitVec.toNat_add, BitVec.toNat_mul, BitVec.toNat_ofNat]
  omega

/-- The precondition's test of one index. -/
def mark (w : BitVec 32) (i j : Nat) : BitVec 1 :=
  IntOp.ori (IntOp.ori (IntOp.ori (IntOp.cmpi .eq w (firstWord i j)) (IntOp.cmpi .eq w (firstWord i j + 1#32)))
    (IntOp.cmpi .eq w (firstWord i j + 384#32))) (IntOp.cmpi .eq w (firstWord i j + 385#32))

theorem in_windows_eq (x : FVec Ideal S4x96x192x192 .f32) (n : IVec S4x96x192x192 32) :
    Cert.Pre_in_windows.fn (F := Ideal) x n = Host.reduce IntOp.andi (fun q : S4x96x192x192.Idx => mark (n q) (q 2).val (q 3).val)
      (constantI Cert.Pre_in_windows.S_ 1 1#1) Cert.Pre_in_windows.Gen.reducesTo_S4x96x192x192_S_d0_1_2_3 Cert.Pre_in_windows.Gen.h_S_ := rfl

theorem names_of_in_windows (x : FVec Ideal S4x96x192x192 .f32) (n : IVec S4x96x192x192 32)
    (h : Cert.Pre_in_windows.fn (F := Ideal) x n = fun _ => 1#1) (q : S4x96x192x192.Idx) : Names (n q) (q 2).val (q 3).val := by
  have : Subsingleton Cert.Pre_in_windows.S_.Idx := ⟨fun a b => funext fun k => k.elim0⟩
  have hi : (q 2).val < 192 := (q 2).isLt
  have hj : (q 3).val < 192 := (q 3).isLt
  rw [in_windows_eq] at h
  have h0 : mark (n q) (q 2).val (q 3).val = 1#1 := Host.reduce_andi_all _ _ _ _ (fun k => k.elim0) (congrFun h _) q
  unfold mark at h0
  rw [IntOp.ori_eq_one, IntOp.ori_eq_one, IntOp.ori_eq_one, IntOp.cmpi_eq, IntOp.cmpi_eq, IntOp.cmpi_eq, IntOp.cmpi_eq] at h0
  rcases h0 with ((e | e) | e) | e
  · exact names_first hi hj (a := 0) (b := 0) (by decide) (by decide) (e.trans (BitVec.add_zero _).symm)
  · exact names_first hi hj (a := 0) (b := 1) (by decide) (by decide) e
  · exact names_first hi hj (a := 1) (b := 0) (by decide) (by decide) e
  · exact names_first hi hj (a := 1) (b := 1) (by decide) (by decide) e

/-! ## Reshapes -/

section Casts
variable {α : Type}

/-- An argument's planes: plane `p` is channel `p % 96` of batch element `p / 96`. -/
theorem planes_apply (x : S4x96x192x192.Idx → α) (h : S4x96x192x192.ShapeCasts S384x192x192) (p : Fin 384) (i j : Fin 192) :
    shapeCast S384x192x192 x h (ix3 p i j) = x (ix4 (⟨p.val / 96, by omega⟩ : Fin 4) (⟨p.val % 96, Nat.mod_lt _ (by decide)⟩ : Fin 96) i j) :=
  shapeCast_apply x h _ _ (by
    rw [Shape.rowMajor_val_four, Shape.rowMajor_val_three]
    show ((p.val / 96 * 96 + p.val % 96) * 192 + i.val) * 192 + j.val = (p.val * 192 + i.val) * 192 + j.val
    omega)

/-- The reference's flat planes hold the same windows in row-major order. -/
theorem flat_apply (x : S4x96x192x192.Idx → α) (h : S4x96x192x192.ShapeCasts S384x192x192) (h' : S4x96x192x192.ShapeCasts S384x36864)
    (p : Fin 384) (k : Fin 36864) : shapeCast S384x36864 x h' (ix2 p k) = shapeCast S384x192x192 x h (kth p k.val) := by
  have hk := k.isLt
  rw [planes_apply]
  exact shapeCast_apply x h' _ _ (by
    rw [Shape.rowMajor_val_four, Shape.rowMajor_val_two]
    show ((p.val / 96 * 96 + p.val % 96) * 192 + k.val / 192 % 192) * 192 + k.val % 192 = p.val * 36864 + k.val
    omega)

/-- A cell of the result, found in the planes and in the flat planes. -/
theorem result_apply (y : S384x384x384.Idx → α) (f : S384x147456.Idx → α) (h : S384x384x384.ShapeCasts S4x96x384x384)
    (h' : S384x147456.ShapeCasts S4x96x384x384)
    (e : ∀ p r c : Fin 384, f (ix2 p (⟨384 * r.val + c.val, by omega⟩ : Fin 147456)) = y (ix3 p r c)) :
    shapeCast S4x96x384x384 f h' = shapeCast S4x96x384x384 y h := by
  funext z
  have z0 : (z 0).val < 4 := (z 0).isLt
  have z1 : (z 1).val < 96 := (z 1).isLt
  have z2 : (z 2).val < 384 := (z 2).isLt
  have z3 : (z 3).val < 384 := (z 3).isLt
  refine (shapeCast_apply f h' z (ix2 (⟨96 * (z 0).val + (z 1).val, by omega⟩ : Fin 384)
    (⟨384 * (z 2).val + (z 3).val, by omega⟩ : Fin 147456)) ?_).trans
    ((e ⟨96 * (z 0).val + (z 1).val, by omega⟩ ⟨(z 2).val, z2⟩ ⟨(z 3).val, z3⟩).trans
    (shapeCast_apply y h z (ix3 (⟨96 * (z 0).val + (z 1).val, by omega⟩ : Fin 384) (⟨(z 2).val, z2⟩ : Fin 384) (⟨(z 3).val, z3⟩ : Fin 384)) ?_).symm)
  · rw [Shape.rowMajor_val_four, Shape.rowMajor_val_two]
    show (96 * (z 0).val + (z 1).val) * 147456 + (384 * (z 2).val + (z 3).val) = (((z 0).val * 96 + (z 1).val) * 384 + (z 2).val) * 384 + (z 3).val
    omega
  · rw [Shape.rowMajor_val_four, Shape.rowMajor_val_three]
    show ((96 * (z 0).val + (z 1).val) * 384 + (z 2).val) * 384 + (z 3).val = (((z 0).val * 96 + (z 1).val) * 384 + (z 2).val) * 384 + (z 3).val
    omega

end Casts

/-! ## The reference's index pairs -/

section Pairs
open Cert.ReferenceIdeal.Gen

/-- The planes' numbers, wrapped. -/
abbrev planeWords : IVec S384x1 32 :=
  select (cmpi .slt (broadcastInDim S384x1 ![0] bcast_S384_S384x1_0 (iotaInDim S384 32 0)) (broadcastInDim S384x1 ![] bcast_S_S384x1 (constantI S_ 32 0#32)))
    (addi (broadcastInDim S384x1 ![0] bcast_S384_S384x1_0 (iotaInDim S384 32 0)) (broadcastInDim S384x1 ![] bcast_S_S384x1 (constantI S_ 32 384#32)))
    (broadcastInDim S384x1 ![0] bcast_S384_S384x1_0 (iotaInDim S384 32 0))

/-- The indices, wrapped. -/
abbrev indexWords (n : IVec S384x36864 32) : IVec S384x36864 32 :=
  select (cmpi .slt n (broadcastInDim S384x36864 ![] bcast_S_S384x36864 (constantI S_ 32 0#32)))
    (addi n (broadcastInDim S384x36864 ![] bcast_S_S384x36864 (constantI S_ 32 147456#32))) n

abbrev indexPairs (n : IVec S384x36864 32) : IVec S384x36864x2 32 :=
  concatenate S384x36864x2 2
    [⟨S384x36864x1, broadcastInDim S384x36864x1 ![0, 1] bcast_S384x36864_S384x36864x1_0_1 (broadcastInDim S384x36864 ![0, 1] bcast_S384x1_S384x36864_0_1 planeWords)⟩,
     ⟨S384x36864x1, broadcastInDim S384x36864x1 ![0, 1] bcast_S384x36864_S384x36864x1_0_1 (indexWords n)⟩] concatenates_S384x36864x1_S384x36864x1_S384x36864x2_d2

theorem planeWords_apply (p : Fin 384) : planeWords (ix2 p (0 : Fin 1)) = BitVec.ofNat 32 p.val :=
  Routing.wrap_of_lt (BitVec.ofNat 32 p.val) (BitVec.ofNat 32 p.val + 384#32) (by rw [BitVec.toNat_ofNat]; omega)

theorem indexPairs_plane (n : IVec S384x36864 32) (p : Fin 384) (k : Fin 36864) : indexPairs n (ix3 p k (0 : Fin 2)) = BitVec.ofNat 32 p.val :=
  (concatenate_pair_apply_left (t := S384x36864x2) (s₁ := S384x36864x1) (s₂ := S384x36864x1) 2 _ _ _ (ix3 p k (0 : Fin 2)) rfl (ix3 p k (0 : Fin 1)) fun b => match b with
    | ⟨0, _⟩ => rfl | ⟨1, _⟩ => rfl | ⟨2, _⟩ => rfl).trans (planeWords_apply p)

/-- A table with a last unit axis added reads the table. -/
theorem widen_apply (y : IVec S384x36864 32) (p : Fin 384) (k : Fin 36864) :
    broadcastInDim S384x36864x1 ![0, 1] bcast_S384x36864_S384x36864x1_0_1 y (ix3 p k (0 : Fin 1)) = y (ix2 p k) :=
  congrArg y (funext fun a => match a with | ⟨0, _⟩ => rfl | ⟨1, _⟩ => rfl)

theorem indexPairs_index (n : IVec S384x36864 32) (p : Fin 384) (k : Fin 36864) (h : (n (ix2 p k)).toNat < 2 ^ 31) :
    indexPairs n (ix3 p k (1 : Fin 2)) = n (ix2 p k) :=
  (concatenate_pair_apply_right (t := S384x36864x2) (s₁ := S384x36864x1) (s₂ := S384x36864x1) 2 _ _ _ (ix3 p k (1 : Fin 2)) rfl rfl (ix3 p k (0 : Fin 1)) (fun b => match b with
    | ⟨0, _⟩ => fun _ => rfl | ⟨1, _⟩ => fun _ => rfl | ⟨2, _⟩ => fun hb => absurd rfl hb) rfl).trans
    ((widen_apply (indexWords n) p k).trans (Routing.wrap_of_lt (n (ix2 p k)) (n (ix2 p k) + 147456#32) h))

/-! ## The result -/

variable {F : FTy → Type} [FloatOps F]

/-- The reference's result is the array the kernel ends with. -/
theorem reference_eq (x : FVec F S4x96x192x192 .f32) (n : IVec S4x96x192x192 32) (hn : ∀ q : S4x96x192x192.Idx, Names (n q) (q 2).val (q 3).val) :
    shapeCast S4x96x384x384 (Host.scatter Cert.ReferenceIdeal.scatter_S384x147456_S384x36864x2_S384x36864_n_01_01_2 (fun _ b => b)
        (broadcastInDim S384x147456 ![] bcast_S_S384x147456 (constant (F := F) S_ .f32 0x00000000#32))
        (indexPairs (shapeCast S384x36864 n shapeCasts_S4x96x192x192_S384x36864)) (shapeCast S384x36864 x shapeCasts_S4x96x192x192_S384x36864))
        shapeCasts_S384x147456_S4x96x384x384
      = shapeCast S4x96x384x384 (target (F := F) (shapeCast S384x192x192 x Cert.KernelIdeal.Gen.shapeCasts_S4x96x192x192_S384x192x192)
          (shapeCast S384x192x192 n Cert.KernelIdeal.Gen.shapeCasts_S4x96x192x192_S384x192x192)) Cert.KernelIdeal.Gen.shapeCasts_S384x384x384_S4x96x384x384 := by
  refine result_apply _ _ _ _ fun p r c => ?_
  have hI : AllNames (shapeCast S384x192x192 n Cert.KernelIdeal.Gen.shapeCasts_S4x96x192x192_S384x192x192) := fun p i j => by
    rw [planes_apply]
    exact hn _
  have hlt : ∀ (p : Fin 384) (k : Fin 36864), (shapeCast S384x36864 n shapeCasts_S4x96x192x192_S384x36864 (ix2 p k)).toNat < 2 ^ 31 := fun p k => by
    rw [flat_apply n Cert.KernelIdeal.Gen.shapeCasts_S4x96x192x192_S384x192x192]
    obtain ⟨a, b, ha, hb, hw⟩ := hI p ⟨k.val / 192 % 192, Nat.mod_lt _ (by decide)⟩ ⟨k.val % 192, Nat.mod_lt _ (by decide)⟩
    have h1 : k.val / 192 % 192 < 192 := Nat.mod_lt _ (by decide)
    have h2 : k.val % 192 < 192 := Nat.mod_lt _ (by decide)
    refine lt_of_eq_of_lt hw ?_
    show 384 * (2 * (k.val / 192 % 192) + a) + (2 * (k.val % 192) + b) < 2 ^ 31
    omega
  refine (scatter_eq_GS (T := 384) (C := 147456) (K := 36864) Cert.ReferenceIdeal.scatter_S384x147456_S384x36864x2_S384x36864_n_01_01_2 rfl rfl rfl (by decide) (by decide)
    _ _ _
    (fun p k => shapeCast S384x192x192 n Cert.KernelIdeal.Gen.shapeCasts_S4x96x192x192_S384x192x192 (kth p k))
    (fun p k => shapeCast S384x192x192 x Cert.KernelIdeal.Gen.shapeCasts_S4x96x192x192_S384x192x192 (kth p k))
    (indexPairs_plane _) (fun p k => (indexPairs_index _ p k (hlt p k)).trans (flat_apply n _ _ p k)) (fun p k => flat_apply x _ _ p k) p _).trans ?_
  exact placed _ _ hI (zeroOf F) p r c

end Pairs
end Cert.Proof.Unpool

end
-- ==== Proof.lean ====
/-
  The claims: every program runs to its end with its arguments unchanged and every counter at zero, and under the
  precondition the kernel's result is the reference's.
-/
module

public import proofs.«01_k».proof.Defs
public import proofs.«01_k».proof.Proof.Printed
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_windows

@[expose] public section

noncomputable section

namespace Cert.Proof

open Idealize.ShloMosaic Idealize.SL.Sem Cert.Proof.Unpool

/-- The kernel at extended reals: its arguments end as they were, and every counter at zero. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ)

/-- The reference: its arguments end as they were; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the two results are one array. -/
theorem same_result : Cert.algebraic_KernelIdeal_ReferenceIdeal_pre_in_windows (hKernelIdeal := Cert.KernelIdeal.Gen.facts)
    (hReferenceIdeal := Cert.ReferenceIdeal.Gen.facts) (hPre_in_windows := Cert.Pre_in_windows.Gen.facts) := fun m ρ m' ρ' hPre hArgs =>
  ⟨fun c => outcome m c,
    (θ_run Cert.KernelIdeal.defs _ _).mono (fun _ h c => ⟨(h.1 c).2.2, (h.1 c).1, (h.1 c).2.1⟩) (run_main (F := Ideal) m ρ),
    (θ_run Cert.ReferenceIdeal.defs _ _).mono (fun _ h c => ⟨(h c).1.trans (by
        rw [(hArgs c).1, (hArgs c).2]
        exact reference_eq (F := Ideal) _ _ (names_of_in_windows _ _ (hPre c))), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_in_windows.Gen.facts,
    frame_kernel, frame_ideal, fun m ρ _ => frame_ideal m ρ trivial, frame_reference, fun m ρ _ => frame_reference m ρ trivial,
    trivial, same_result⟩

end Cert.Proof

end
